-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x64x64 : S_.BroadcastsInDim S2x128x64x64 (![] : Fin 0 → Fin S2x128x64x64.rank)

variable [Facts]

def fn {F : FTy → Type} [FloatOps F] (main_arg0 : FVec F S2x128x512 .bf16) (main_arg1 : FVec F S512x256 .bf16) (main_arg2 : FVec F S2x128x64x64 .bf16) (main_arg3 : FVec F S2x128x64x64 .bf16) (main_arg4 : FVec F S256x512 .bf16) : IVec S2x128x512 1 × IVec S512x256 1 × IVec S2x128x64x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x64x64 .bf16 := Host.absf main_arg2
  let main_cst_1 : FVec F S_ .bf16 := constant S_ .bf16 0x7F80#16
  let main_v7 : FVec F S2x128x64x64 .bf16 := broadcastInDim S2x128x64x64 ![] bcast_S_S2x128x64x64 main_cst_1
  let main_v8 : IVec S2x128x64x64 1 := cmpf .olt main_v6 main_v7
  (main_v2, main_v5, main_v8)
-- ==== Pre_finite_scores_ReferenceIdeal.lean ====
abbrev S2x2048x512 : Shape := ⟨3, ![2, 2048, 512]⟩
abbrev S512x4096 : Shape := ⟨2, ![512, 4096]⟩
abbrev S2x128x64x64 : Shape := ⟨4, ![2, 128, 64, 64]⟩
abbrev S4096x512 : Shape := ⟨2, ![4096, 512]⟩
abbrev S_ : Shape := ⟨0, ![]⟩

class Facts : Prop where
  bcast_S_S2x2048x512 : S_.BroadcastsInDim S2x2048x512 (![] : Fin 0 → Fin S2x2048x512.rank)
  bcast_S_S512x4096 : S_.BroadcastsInDim S512x4096 (![] : Fin 0 → Fin S512x4096.rank)
  bcast_S_S2x128x64x64 : S_.BroadcastsInDim S2x128x64x64 (![] : Fin 0 → Fin S2x128x64x64.rank)

variable [Facts]

def fn {F : FTy → Type} [FloatOps F] (main_arg0 : FVec F S2x2048x512 .bf16) (main_arg1 : FVec F S512x4096 .bf16) (main_arg2 : FVec F S2x128x64x64 .bf16) (main_arg3 : FVec F S2x128x64x64 .bf16) (main_arg4 : FVec F S4096x512 .bf16) : IVec S2x2048x512 1 × IVec S512x4096 1 × IVec S2x128x64x64 1 :=
  let main_v0 : FVec F S2x2048x512 .bf16 := Host.absf main_arg0
  let main_cst : FVec F S_ .bf16 := constant S_ .bf16 0x7F80#16
  let main_v1 : FVec F S2x2048x512 .bf16 := broadcastInDim S2x2048x512 ![] bcast_S_S2x2048x512 main_cst
  let main_v2 : IVec S2x2048x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  let main_v6 : FVec F S2x128x64x64 .bf16 := Host.absf main_arg2
  let main_cst_1 : FVec F S_ .bf16 := constant S_ .bf16 0x7F80#16
  let main_v7 : FVec F S2x128x64x64 .bf16 := broadcastInDim S2x128x64x64 ![] bcast_S_S2x128x64x64 main_cst_1
  let main_v8 : IVec S2x128x64x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S64x64x2x128 : Shape := ⟨4, ![64, 64, 2, 128]⟩
abbrev S64x64x256 : Shape := ⟨3, ![64, 64, 256]⟩
abbrev S64x2x128x64 : Shape := ⟨4, ![64, 2, 128, 64]⟩
abbrev S64x256x64 : Shape := ⟨3, ![64, 256, 64]⟩
abbrev S16x2x512x256 : Shape := ⟨4, ![16, 2, 512, 256]⟩
abbrev S256x256 : Shape := ⟨2, ![256, 256]⟩
abbrev S8x2 : Shape := ⟨2, ![8, 2]⟩
abbrev S7x2 : Shape := ⟨2, ![7, 2]⟩
abbrev S_ : Shape := ⟨0, ![]⟩
abbrev S1x1x512x256 : Shape := ⟨4, ![1, 1, 512, 256]⟩
abbrev S128x512 : Shape := ⟨2, ![128, 512]⟩
abbrev S128x128 : Shape := ⟨2, ![128, 128]⟩
abbrev S1x1 : Shape := ⟨2, ![1, 1]⟩
abbrev S256x64 : Shape := ⟨2, ![256, 64]⟩
abbrev S1x64x256 : Shape := ⟨3, ![1, 64, 256]⟩
abbrev S64x256 : Shape := ⟨2, ![64, 256]⟩
abbrev S128 : Shape := ⟨1, ![128]⟩
abbrev S128x1 : Shape := ⟨2, ![128, 1]⟩
abbrev S1x256x64 : Shape := ⟨3, ![1, 256, 64]⟩

abbrev nBuf : Space → Nat
  | .hbm => 11
  | .vmem => 11
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x64x64, .bf16⟩
  | .hbm, ⟨3, _⟩ => ⟨S2x128x64x64, .bf16⟩
  | .hbm, ⟨4, _⟩ => ⟨S256x512, .bf16⟩
  | .hbm, ⟨5, _⟩ => ⟨S512x256, .bf16⟩
  | .hbm, ⟨6, _⟩ => ⟨S64x64x2x128, .bf16⟩
  | .hbm, ⟨7, _⟩ => ⟨S64x64x256, .bf16⟩
  | .hbm, ⟨8, _⟩ => ⟨S64x2x128x64, .bf16⟩
  | .hbm, ⟨9, _⟩ => ⟨S64x256x64, .bf16⟩
  | .hbm, ⟨10, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S64x64x256, .bf16⟩
  | .local _ .vmem, ⟨4, _⟩ => ⟨S64x256x64, .bf16⟩
  | .local _ .vmem, ⟨5, _⟩ => ⟨S2x128x512, .f32⟩
  | .local _ .vmem, ⟨6, _⟩ => ⟨S16x2x512x256, .bf16⟩
  | .local _ .vmem, ⟨7, _⟩ => ⟨S256x512, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_53 : BitVec 32 := 1#32
  let v103 : BitVec 32 := Scalar.muli v65 c1_i32_53
  let v104 : BitVec 32 := Scalar.addi c0_i32_54 v103
  v104.toNat
def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_56 : BitVec 32 := 1#32
  let v105 : BitVec 32 := Scalar.muli v101 c1_i32_56
  let v106 : BitVec 32 := Scalar.addi c0_i32_57 v105
  v106.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v109 : Index := Scalar.indexCast v2
  let c0_60 : Index := 0#32
  let c0_61 : Index := 0#32
  let c0_62 : Index := 0#32
  ![v109.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v115 : Index := Scalar.indexCast v2
  let c1 : Index := 1#32
  let c0_65 : Index := 0#32
  let c0_66 : Index := 0#32
  ![v115.toNat, 1, 0, 0]
def k0_off3 (d0 : Dev nD) (c0_i32_94 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v199 : BitVec 32 := Scalar.subi v29 c0_i32_94
  let c32_i32_95 : BitVec 32 := 32#32
  let v200 : BitVec 32 := Scalar.addi v199 c32_i32_95
  let c16_i32_96 : BitVec 32 := 16#32
  let v201 : BitVec 32 := Scalar.remsi v200 c16_i32_96
  let c0_i32_98 : BitVec 32 := 0#32
  let v203 : BitVec 1 := Scalar.cmpi .sgt v201 c0_i32_98
  let v204 : BitVec 32 := Scalar.extui v203
  let c0_i32_99 : BitVec 32 := 0#32
  let v205 : BitVec 1 := Scalar.cmpi .slt v201 c0_i32_99
  let v206 : BitVec 32 := Scalar.extui v205
  let v207 : BitVec 32 := Scalar.subi v204 v206
  let c4_i32_97 : BitVec 32 := 4#32
  let c0_i32_100 : BitVec 32 := 0#32
  let v208 : BitVec 1 := Scalar.cmpi .sgt c4_i32_97 c0_i32_100
  let v209 : BitVec 32 := Scalar.extui v208
  let c0_i32_101 : BitVec 32 := 0#32
  let v210 : BitVec 1 := Scalar.cmpi .slt c4_i32_97 c0_i32_101
  let v211 : BitVec 32 := Scalar.extui v210
  let v212 : BitVec 32 := Scalar.subi v209 v211
  let v213 : BitVec 1 := Scalar.cmpi .ne v207 v212
  let v214 : BitVec 32 := Scalar.remsi v201 c4_i32_97
  let c0_i32_102 : BitVec 32 := 0#32
  let v215 : BitVec 1 := Scalar.cmpi .ne v214 c0_i32_102
  let v216 : BitVec 1 := Scalar.andi v213 v215
  let v202 : BitVec 32 := Scalar.divsi v201 c4_i32_97
  let c1_i32_103 : BitVec 32 := 1#32
  let v217 : BitVec 32 := Scalar.subi v202 c1_i32_103
  let v218 : BitVec 32 := Scalar.select v216 v217 v202
  let c0_i32_105 : BitVec 32 := 0#32
  let v220 : BitVec 1 := Scalar.cmpi .eq v218 c0_i32_105
  let c4_i32_106 : BitVec 32 := 4#32
  let c4_i32_104 : BitVec 32 := 4#32
  let v219 : BitVec 32 := Scalar.remsi v201 c4_i32_104
  let v221 : BitVec 32 := Scalar.muli c4_i32_106 v219
  let c1_i32_107 : BitVec 32 := 1#32
  let v222 : BitVec 1 := Scalar.cmpi .eq v218 c1_i32_107
  let c4_i32_109 : BitVec 32 := 4#32
  let c3_i32_108 : BitVec 32 := 3#32
  let v223 : BitVec 32 := Scalar.subi c3_i32_108 v219
  let v224 : BitVec 32 := Scalar.muli c4_i32_109 v223
  let c3_i32_110 : BitVec 32 := 3#32
  let v225 : BitVec 32 := Scalar.addi v224 c3_i32_110
  let c2_i32_111 : BitVec 32 := 2#32
  let v226 : BitVec 1 := Scalar.cmpi .eq v218 c2_i32_111
  let c4_i32_112 : BitVec 32 := 4#32
  let v227 : BitVec 32 := Scalar.muli c4_i32_112 v219
  let c2_i32_113 : BitVec 32 := 2#32
  let v228 : BitVec 32 := Scalar.addi v227 c2_i32_113
  let c4_i32_115 : BitVec 32 := 4#32
  let c3_i32_114 : BitVec 32 := 3#32
  let v229 : BitVec 32 := Scalar.subi c3_i32_114 v219
  let v230 : BitVec 32 := Scalar.muli c4_i32_115 v229
  let c1_i32_116 : BitVec 32 := 1#32
  let v231 : BitVec 32 := Scalar.addi v230 c1_i32_116
  let v232 : BitVec 32 := Scalar.select v226 v228 v231
  let v233 : BitVec 32 := Scalar.select v222 v225 v232
  let v234 : BitVec 32 := Scalar.select v220 v221 v233
  let c0_i32_141 : BitVec 32 := 0#32
  let c0_i32_148 : BitVec 32 := 0#32
  let c0_i32_149 : BitVec 32 := 0#32
  ![v234.toNat, 0, 0, 0]
def k0_dev3 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_146 : BitVec 32 := 1#32
  let v271 : BitVec 32 := Scalar.muli v101 c1_i32_146
  let v272 : BitVec 32 := Scalar.addi c0_i32_147 v271
  v272.toNat
def k0_off4 (d0 : Dev nD) (c0_i32_117 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v235 : BitVec 32 := Scalar.addi v29 c0_i32_117
  let c32_i32_118 : BitVec 32 := 32#32
  let v236 : BitVec 32 := Scalar.addi v235 c32_i32_118
  let c16_i32_119 : BitVec 32 := 16#32
  let v237 : BitVec 32 := Scalar.remsi v236 c16_i32_119
  let c0_i32_121 : BitVec 32 := 0#32
  let v239 : BitVec 1 := Scalar.cmpi .sgt v237 c0_i32_121
  let v240 : BitVec 32 := Scalar.extui v239
  let c0_i32_122 : BitVec 32 := 0#32
  let v241 : BitVec 1 := Scalar.cmpi .slt v237 c0_i32_122
  let v242 : BitVec 32 := Scalar.extui v241
  let v243 : BitVec 32 := Scalar.subi v240 v242
  let c4_i32_120 : BitVec 32 := 4#32
  let c0_i32_123 : BitVec 32 := 0#32
  let v244 : BitVec 1 := Scalar.cmpi .sgt c4_i32_120 c0_i32_123
  let v245 : BitVec 32 := Scalar.extui v244
  let c0_i32_124 : BitVec 32 := 0#32
  let v246 : BitVec 1 := Scalar.cmpi .slt c4_i32_120 c0_i32_124
  let v247 : BitVec 32 := Scalar.extui v246
  let v248 : BitVec 32 := Scalar.subi v245 v247
  let v249 : BitVec 1 := Scalar.cmpi .ne v243 v248
  let v250 : BitVec 32 := Scalar.remsi v237 c4_i32_120
  let c0_i32_125 : BitVec 32 := 0#32
  let v251 : BitVec 1 := Scalar.cmpi .ne v250 c0_i32_125
  let v252 : BitVec 1 := Scalar.andi v249 v251
  let v238 : BitVec 32 := Scalar.divsi v237 c4_i32_120
  let c1_i32_126 : BitVec 32 := 1#32
  let v253 : BitVec 32 := Scalar.subi v238 c1_i32_126
  let v254 : BitVec 32 := Scalar.select v252 v253 v238
  let c0_i32_128 : BitVec 32 := 0#32
  let v256 : BitVec 1 := Scalar.cmpi .eq v254 c0_i32_128
  let c4_i32_129 : BitVec 32 := 4#32
  let c4_i32_127 : BitVec 32 := 4#32
  let v255 : BitVec 32 := Scalar.remsi v237 c4_i32_127
  let v257 : BitVec 32 := Scalar.muli c4_i32_129 v255
  let c1_i32_130 : BitVec 32 := 1#32
  let v258 : BitVec 1 := Scalar.cmpi .eq v254 c1_i32_130
  let c4_i32_132 : BitVec 32 := 4#32
  let c3_i32_131 : BitVec 32 := 3#32
  let v259 : BitVec 32 := Scalar.subi c3_i32_131 v255
  let v260 : BitVec 32 := Scalar.muli c4_i32_132 v259
  let c3_i32_133 : BitVec 32 := 3#32
  let v261 : BitVec 32 := Scalar.addi v260 c3_i32_133
  let c2_i32_134 : BitVec 32 := 2#32
  let v262 : BitVec 1 := Scalar.cmpi .eq v254 c2_i32_134
  let c4_i32_135 : BitVec 32 := 4#32
  let v263 : BitVec 32 := Scalar.muli c4_i32_135 v255
  let c2_i32_136 : BitVec 32 := 2#32
  let v264 : BitVec 32 := Scalar.addi v263 c2_i32_136
  let c4_i32_138 : BitVec 32 := 4#32
  let c3_i32_137 : BitVec 32 := 3#32
  let v265 : BitVec 32 := Scalar.subi c3_i32_137 v255
  let v266 : BitVec 32 := Scalar.muli c4_i32_138 v265
  let c1_i32_139 : BitVec 32 := 1#32
  let v267 : BitVec 32 := Scalar.addi v266 c1_i32_139
  let v268 : BitVec 32 := Scalar.select v262 v264 v267
  let v269 : BitVec 32 := Scalar.select v258 v261 v268
  let v270 : BitVec 32 := Scalar.select v256 v257 v269
  let c0_i32_153 : BitVec 32 := 0#32
  let c0_i32_160 : BitVec 32 := 0#32
  let c0_i32_161 : BitVec 32 := 0#32
  ![v270.toNat, 0, 0, 0]
def k0_dev4 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_158 : BitVec 32 := 1#32
  let v281 : BitVec 32 := Scalar.muli v65 c1_i32_158
  let v282 : BitVec 32 := Scalar.addi c0_i32_159 v281
  v282.toNat
def k0_off5 (d0 : Dev nD) (c0_i32_94 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v199 : BitVec 32 := Scalar.subi v29 c0_i32_94
  let c32_i32_95 : BitVec 32 := 32#32
  let v200 : BitVec 32 := Scalar.addi v199 c32_i32_95
  let c16_i32_96 : BitVec 32 := 16#32
  let v201 : BitVec 32 := Scalar.remsi v200 c16_i32_96
  let c0_i32_98 : BitVec 32 := 0#32
  let v203 : BitVec 1 := Scalar.cmpi .sgt v201 c0_i32_98
  let v204 : BitVec 32 := Scalar.extui v203
  let c0_i32_99 : BitVec 32 := 0#32
  let v205 : BitVec 1 := Scalar.cmpi .slt v201 c0_i32_99
  let v206 : BitVec 32 := Scalar.extui v205
  let v207 : BitVec 32 := Scalar.subi v204 v206
  let c4_i32_97 : BitVec 32 := 4#32
  let c0_i32_100 : BitVec 32 := 0#32
  let v208 : BitVec 1 := Scalar.cmpi .sgt c4_i32_97 c0_i32_100
  let v209 : BitVec 32 := Scalar.extui v208
  let c0_i32_101 : BitVec 32 := 0#32
  let v210 : BitVec 1 := Scalar.cmpi .slt c4_i32_97 c0_i32_101
  let v211 : BitVec 32 := Scalar.extui v210
  let v212 : BitVec 32 := Scalar.subi v209 v211
  let v213 : BitVec 1 := Scalar.cmpi .ne v207 v212
  let v214 : BitVec 32 := Scalar.remsi v201 c4_i32_97
  let c0_i32_102 : BitVec 32 := 0#32
  let v215 : BitVec 1 := Scalar.cmpi .ne v214 c0_i32_102
  let v216 : BitVec 1 := Scalar.andi v213 v215
  let v202 : BitVec 32 := Scalar.divsi v201 c4_i32_97
  let c1_i32_103 : BitVec 32 := 1#32
  let v217 : BitVec 32 := Scalar.subi v202 c1_i32_103
  let v218 : BitVec 32 := Scalar.select v216 v217 v202
  let c0_i32_105 : BitVec 32 := 0#32
  let v220 : BitVec 1 := Scalar.cmpi .eq v218 c0_i32_105
  let c4_i32_106 : BitVec 32 := 4#32
  let c4_i32_104 : BitVec 32 := 4#32
  let v219 : BitVec 32 := Scalar.remsi v201 c4_i32_104
  let v221 : BitVec 32 := Scalar.muli c4_i32_106 v219
  let c1_i32_107 : BitVec 32 := 1#32
  let v222 : BitVec 1 := Scalar.cmpi .eq v218 c1_i32_107
  let c4_i32_109 : BitVec 32 := 4#32
  let c3_i32_108 : BitVec 32 := 3#32
  let v223 : BitVec 32 := Scalar.subi c3_i32_108 v219
  let v224 : BitVec 32 := Scalar.muli c4_i32_109 v223
  let c3_i32_110 : BitVec 32 := 3#32
  let v225 : BitVec 32 := Scalar.addi v224 c3_i32_110
  let c2_i32_111 : BitVec 32 := 2#32
  let v226 : BitVec 1 := Scalar.cmpi .eq v218 c2_i32_111
  let c4_i32_112 : BitVec 32 := 4#32
  let v227 : BitVec 32 := Scalar.muli c4_i32_112 v219
  let c2_i32_113 : BitVec 32 := 2#32
  let v228 : BitVec 32 := Scalar.addi v227 c2_i32_113
  let c4_i32_115 : BitVec 32 := 4#32
  let c3_i32_114 : BitVec 32 := 3#32
  let v229 : BitVec 32 := Scalar.subi c3_i32_114 v219
  let v230 : BitVec 32 := Scalar.muli c4_i32_115 v229
  let c1_i32_116 : BitVec 32 := 1#32
  let v231 : BitVec 32 := Scalar.addi v230 c1_i32_116
  let v232 : BitVec 32 := Scalar.select v226 v228 v231
  let v233 : BitVec 32 := Scalar.select v222 v225 v232
  let v234 : BitVec 32 := Scalar.select v220 v221 v233
  let c1_i32_165 : BitVec 32 := 1#32
  let c0_i32_172 : BitVec 32 := 0#32
  let c0_i32_173 : BitVec 32 := 0#32
  ![v234.toNat, 1, 0, 0]
def k0_dev5 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_170 : BitVec 32 := 1#32
  let v291 : BitVec 32 := Scalar.muli v101 c1_i32_170
  let v292 : BitVec 32 := Scalar.addi c0_i32_171 v291
  v292.toNat
def k0_off6 (d0 : Dev nD) (c0_i32_117 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v235 : BitVec 32 := Scalar.addi v29 c0_i32_117
  let c32_i32_118 : BitVec 32 := 32#32
  let v236 : BitVec 32 := Scalar.addi v235 c32_i32_118
  let c16_i32_119 : BitVec 32 := 16#32
  let v237 : BitVec 32 := Scalar.remsi v236 c16_i32_119
  let c0_i32_121 : BitVec 32 := 0#32
  let v239 : BitVec 1 := Scalar.cmpi .sgt v237 c0_i32_121
  let v240 : BitVec 32 := Scalar.extui v239
  let c0_i32_122 : BitVec 32 := 0#32
  let v241 : BitVec 1 := Scalar.cmpi .slt v237 c0_i32_122
  let v242 : BitVec 32 := Scalar.extui v241
  let v243 : BitVec 32 := Scalar.subi v240 v242
  let c4_i32_120 : BitVec 32 := 4#32
  let c0_i32_123 : BitVec 32 := 0#32
  let v244 : BitVec 1 := Scalar.cmpi .sgt c4_i32_120 c0_i32_123
  let v245 : BitVec 32 := Scalar.extui v244
  let c0_i32_124 : BitVec 32 := 0#32
  let v246 : BitVec 1 := Scalar.cmpi .slt c4_i32_120 c0_i32_124
  let v247 : BitVec 32 := Scalar.extui v246
  let v248 : BitVec 32 := Scalar.subi v245 v247
  let v249 : BitVec 1 := Scalar.cmpi .ne v243 v248
  let v250 : BitVec 32 := Scalar.remsi v237 c4_i32_120
  let c0_i32_125 : BitVec 32 := 0#32
  let v251 : BitVec 1 := Scalar.cmpi .ne v250 c0_i32_125
  let v252 : BitVec 1 := Scalar.andi v249 v251
  let v238 : BitVec 32 := Scalar.divsi v237 c4_i32_120
  let c1_i32_126 : BitVec 32 := 1#32
  let v253 : BitVec 32 := Scalar.subi v238 c1_i32_126
  let v254 : BitVec 32 := Scalar.select v252 v253 v238
  let c0_i32_128 : BitVec 32 := 0#32
  let v256 : BitVec 1 := Scalar.cmpi .eq v254 c0_i32_128
  let c4_i32_129 : BitVec 32 := 4#32
  let c4_i32_127 : BitVec 32 := 4#32
  let v255 : BitVec 32 := Scalar.remsi v237 c4_i32_127
  let v257 : BitVec 32 := Scalar.muli c4_i32_129 v255
  let c1_i32_130 : BitVec 32 := 1#32
  let v258 : BitVec 1 := Scalar.cmpi .eq v254 c1_i32_130
  let c4_i32_132 : BitVec 32 := 4#32
  let c3_i32_131 : BitVec 32 := 3#32
  let v259 : BitVec 32 := Scalar.subi c3_i32_131 v255
  let v260 : BitVec 32 := Scalar.muli c4_i32_132 v259
  let c3_i32_133 : BitVec 32 := 3#32
  let v261 : BitVec 32 := Scalar.addi v260 c3_i32_133
  let c2_i32_134 : BitVec 32 := 2#32
  let v262 : BitVec 1 := Scalar.cmpi .eq v254 c2_i32_134
  let c4_i32_135 : BitVec 32 := 4#32
  let v263 : BitVec 32 := Scalar.muli c4_i32_135 v255
  let c2_i32_136 : BitVec 32 := 2#32
  let v264 : BitVec 32 := Scalar.addi v263 c2_i32_136
  let c4_i32_138 : BitVec 32 := 4#32
  let c3_i32_137 : BitVec 32 := 3#32
  let v265 : BitVec 32 := Scalar.subi c3_i32_137 v255
  let v266 : BitVec 32 := Scalar.muli c4_i32_138 v265
  let c1_i32_139 : BitVec 32 := 1#32
  let v267 : BitVec 32 := Scalar.addi v266 c1_i32_139
  let v268 : BitVec 32 := Scalar.select v262 v264 v267
  let v269 : BitVec 32 := Scalar.select v258 v261 v268
  let v270 : BitVec 32 := Scalar.select v256 v257 v269
  let c1_i32_177 : BitVec 32 := 1#32
  let c0_i32_184 : BitVec 32 := 0#32
  let c0_i32_185 : BitVec 32 := 0#32
  ![v270.toNat, 1, 0, 0]
def k0_dev6 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_182 : BitVec 32 := 1#32
  let v301 : BitVec 32 := Scalar.muli v65 c1_i32_182
  let v302 : BitVec 32 := Scalar.addi c0_i32_183 v301
  v302.toNat
def k0_off7 (d0 : Dev nD) (c0_i32_195 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_194 : BitVec 32 := 4#32
  let v319 : BitVec 32 := Scalar.muli v2 c4_i32_194
  let v320 : BitVec 32 := Scalar.addi v319 c0_i32_195
  let v322 : Index := Scalar.indexCast v320
  let c0_198 : Index := 0#32
  let c0_199 : Index := 0#32
  ![v322.toNat, 0, 0]
def k0_off8 (d0 : Dev nD) (c0_i32_195 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_194 : BitVec 32 := 4#32
  let v319 : BitVec 32 := Scalar.muli v2 c4_i32_194
  let v320 : BitVec 32 := Scalar.addi v319 c0_i32_195
  let v353 : Index := Scalar.indexCast v320
  let c0_210 : Index := 0#32
  let c0_211 : Index := 0#32
  ![v353.toNat, 0, 0]
def k0_dev7 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_387 : BitVec 32 := 1#32
  let v597 : BitVec 32 := Scalar.muli v101 c1_i32_387
  let v598 : BitVec 32 := Scalar.addi c0_i32_388 v597
  v598.toNat
def k0_dev8 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_399 : BitVec 32 := 1#32
  let v607 : BitVec 32 := Scalar.muli v65 c1_i32_399
  let v608 : BitVec 32 := Scalar.addi c0_i32_400 v607
  v608.toNat
def k0_dev9 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_434 : BitVec 32 := 1#32
  let v631 : BitVec 32 := Scalar.muli v101 c1_i32_434
  let v632 : BitVec 32 := Scalar.addi c0_i32_435 v631
  v632.toNat
def k0_off9 (d0 : Dev nD) (c1_i32_440 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v641 : BitVec 32 := Scalar.subi v29 c1_i32_440
  let c32_i32_441 : BitVec 32 := 32#32
  let v642 : BitVec 32 := Scalar.addi v641 c32_i32_441
  let c16_i32_442 : BitVec 32 := 16#32
  let v643 : BitVec 32 := Scalar.remsi v642 c16_i32_442
  let c0_i32_444 : BitVec 32 := 0#32
  let v645 : BitVec 1 := Scalar.cmpi .sgt v643 c0_i32_444
  let v646 : BitVec 32 := Scalar.extui v645
  let c0_i32_445 : BitVec 32 := 0#32
  let v647 : BitVec 1 := Scalar.cmpi .slt v643 c0_i32_445
  let v648 : BitVec 32 := Scalar.extui v647
  let v649 : BitVec 32 := Scalar.subi v646 v648
  let c4_i32_443 : BitVec 32 := 4#32
  let c0_i32_446 : BitVec 32 := 0#32
  let v650 : BitVec 1 := Scalar.cmpi .sgt c4_i32_443 c0_i32_446
  let v651 : BitVec 32 := Scalar.extui v650
  let c0_i32_447 : BitVec 32 := 0#32
  let v652 : BitVec 1 := Scalar.cmpi .slt c4_i32_443 c0_i32_447
  let v653 : BitVec 32 := Scalar.extui v652
  let v654 : BitVec 32 := Scalar.subi v651 v653
  let v655 : BitVec 1 := Scalar.cmpi .ne v649 v654
  let v656 : BitVec 32 := Scalar.remsi v643 c4_i32_443
  let c0_i32_448 : BitVec 32 := 0#32
  let v657 : BitVec 1 := Scalar.cmpi .ne v656 c0_i32_448
  let v658 : BitVec 1 := Scalar.andi v655 v657
  let v644 : BitVec 32 := Scalar.divsi v643 c4_i32_443
  let c1_i32_449 : BitVec 32 := 1#32
  let v659 : BitVec 32 := Scalar.subi v644 c1_i32_449
  let v660 : BitVec 32 := Scalar.select v658 v659 v644
  let c0_i32_451 : BitVec 32 := 0#32
  let v662 : BitVec 1 := Scalar.cmpi .eq v660 c0_i32_451
  let c4_i32_452 : BitVec 32 := 4#32
  let c4_i32_450 : BitVec 32 := 4#32
  let v661 : BitVec 32 := Scalar.remsi v643 c4_i32_450
  let v663 : BitVec 32 := Scalar.muli c4_i32_452 v661
  let c1_i32_453 : BitVec 32 := 1#32
  let v664 : BitVec 1 := Scalar.cmpi .eq v660 c1_i32_453
  let c4_i32_455 : BitVec 32 := 4#32
  let c3_i32_454 : BitVec 32 := 3#32
  let v665 : BitVec 32 := Scalar.subi c3_i32_454 v661
  let v666 : BitVec 32 := Scalar.muli c4_i32_455 v665
  let c3_i32_456 : BitVec 32 := 3#32
  let v667 : BitVec 32 := Scalar.addi v666 c3_i32_456
  let c2_i32_457 : BitVec 32 := 2#32
  let v668 : BitVec 1 := Scalar.cmpi .eq v660 c2_i32_457
  let c4_i32_458 : BitVec 32 := 4#32
  let v669 : BitVec 32 := Scalar.muli c4_i32_458 v661
  let c2_i32_459 : BitVec 32 := 2#32
  let v670 : BitVec 32 := Scalar.addi v669 c2_i32_459
  let c4_i32_461 : BitVec 32 := 4#32
  let c3_i32_460 : BitVec 32 := 3#32
  let v671 : BitVec 32 := Scalar.subi c3_i32_460 v661
  let v672 : BitVec 32 := Scalar.muli c4_i32_461 v671
  let c1_i32_462 : BitVec 32 := 1#32
  let v673 : BitVec 32 := Scalar.addi v672 c1_i32_462
  let v674 : BitVec 32 := Scalar.select v668 v670 v673
  let v675 : BitVec 32 := Scalar.select v664 v667 v674
  let v676 : BitVec 32 := Scalar.select v662 v663 v675
  let v677 : Index := Scalar.indexCast v676
  let c0_463 : Index := 0#32
  let c0_464 : Index := 0#32
  let c0_465 : Index := 0#32
  ![v677.toNat, 0, 0, 0]
def k0_off10 (d0 : Dev nD) (c1_i32_440 : BitVec 32) (c0_i32_470 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v641 : BitVec 32 := Scalar.subi v29 c1_i32_440
  let c32_i32_441 : BitVec 32 := 32#32
  let v642 : BitVec 32 := Scalar.addi v641 c32_i32_441
  let c16_i32_442 : BitVec 32 := 16#32
  let v643 : BitVec 32 := Scalar.remsi v642 c16_i32_442
  let c0_i32_444 : BitVec 32 := 0#32
  let v645 : BitVec 1 := Scalar.cmpi .sgt v643 c0_i32_444
  let v646 : BitVec 32 := Scalar.extui v645
  let c0_i32_445 : BitVec 32 := 0#32
  let v647 : BitVec 1 := Scalar.cmpi .slt v643 c0_i32_445
  let v648 : BitVec 32 := Scalar.extui v647
  let v649 : BitVec 32 := Scalar.subi v646 v648
  let c4_i32_443 : BitVec 32 := 4#32
  let c0_i32_446 : BitVec 32 := 0#32
  let v650 : BitVec 1 := Scalar.cmpi .sgt c4_i32_443 c0_i32_446
  let v651 : BitVec 32 := Scalar.extui v650
  let c0_i32_447 : BitVec 32 := 0#32
  let v652 : BitVec 1 := Scalar.cmpi .slt c4_i32_443 c0_i32_447
  let v653 : BitVec 32 := Scalar.extui v652
  let v654 : BitVec 32 := Scalar.subi v651 v653
  let v655 : BitVec 1 := Scalar.cmpi .ne v649 v654
  let v656 : BitVec 32 := Scalar.remsi v643 c4_i32_443
  let c0_i32_448 : BitVec 32 := 0#32
  let v657 : BitVec 1 := Scalar.cmpi .ne v656 c0_i32_448
  let v658 : BitVec 1 := Scalar.andi v655 v657
  let v644 : BitVec 32 := Scalar.divsi v643 c4_i32_443
  let c1_i32_449 : BitVec 32 := 1#32
  let v659 : BitVec 32 := Scalar.subi v644 c1_i32_449
  let v660 : BitVec 32 := Scalar.select v658 v659 v644
  let c0_i32_451 : BitVec 32 := 0#32
  let v662 : BitVec 1 := Scalar.cmpi .eq v660 c0_i32_451
  let c4_i32_452 : BitVec 32 := 4#32
  let c4_i32_450 : BitVec 32 := 4#32
  let v661 : BitVec 32 := Scalar.remsi v643 c4_i32_450
  let v663 : BitVec 32 := Scalar.muli c4_i32_452 v661
  let c1_i32_453 : BitVec 32 := 1#32
  let v664 : BitVec 1 := Scalar.cmpi .eq v660 c1_i32_453
  let c4_i32_455 : BitVec 32 := 4#32
  let c3_i32_454 : BitVec 32 := 3#32
  let v665 : BitVec 32 := Scalar.subi c3_i32_454 v661
  let v666 : BitVec 32 := Scalar.muli c4_i32_455 v665
  let c3_i32_456 : BitVec 32 := 3#32
  let v667 : BitVec 32 := Scalar.addi v666 c3_i32_456
  let c2_i32_457 : BitVec 32 := 2#32
  let v668 : BitVec 1 := Scalar.cmpi .eq v660 c2_i32_457
  let c4_i32_458 : BitVec 32 := 4#32
  let v669 : BitVec 32 := Scalar.muli c4_i32_458 v661
  let c2_i32_459 : BitVec 32 := 2#32
  let v670 : BitVec 32 := Scalar.addi v669 c2_i32_459
  let c4_i32_461 : BitVec 32 := 4#32
  let c3_i32_460 : BitVec 32 := 3#32
  let v671 : BitVec 32 := Scalar.subi c3_i32_460 v661
  let v672 : BitVec 32 := Scalar.muli c4_i32_461 v671
  let c1_i32_462 : BitVec 32 := 1#32
  let v673 : BitVec 32 := Scalar.addi v672 c1_i32_462
  let v674 : BitVec 32 := Scalar.select v668 v670 v673
  let v675 : BitVec 32 := Scalar.select v664 v667 v674
  let v676 : BitVec 32 := Scalar.select v662 v663 v675
  let c4_i32_469 : BitVec 32 := 4#32
  let v685 : BitVec 32 := Scalar.muli v676 c4_i32_469
  let v686 : BitVec 32 := Scalar.addi v685 c0_i32_470
  let v688 : Index := Scalar.indexCast v686
  let c0_473 : Index := 0#32
  let c0_474 : Index := 0#32
  ![v688.toNat, 0, 0]
def k0_off11 (d0 : Dev nD) (c1_i32_440 : BitVec 32) (c0_i32_470 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v641 : BitVec 32 := Scalar.subi v29 c1_i32_440
  let c32_i32_441 : BitVec 32 := 32#32
  let v642 : BitVec 32 := Scalar.addi v641 c32_i32_441
  let c16_i32_442 : BitVec 32 := 16#32
  let v643 : BitVec 32 := Scalar.remsi v642 c16_i32_442
  let c0_i32_444 : BitVec 32 := 0#32
  let v645 : BitVec 1 := Scalar.cmpi .sgt v643 c0_i32_444
  let v646 : BitVec 32 := Scalar.extui v645
  let c0_i32_445 : BitVec 32 := 0#32
  let v647 : BitVec 1 := Scalar.cmpi .slt v643 c0_i32_445
  let v648 : BitVec 32 := Scalar.extui v647
  let v649 : BitVec 32 := Scalar.subi v646 v648
  let c4_i32_443 : BitVec 32 := 4#32
  let c0_i32_446 : BitVec 32 := 0#32
  let v650 : BitVec 1 := Scalar.cmpi .sgt c4_i32_443 c0_i32_446
  let v651 : BitVec 32 := Scalar.extui v650
  let c0_i32_447 : BitVec 32 := 0#32
  let v652 : BitVec 1 := Scalar.cmpi .slt c4_i32_443 c0_i32_447
  let v653 : BitVec 32 := Scalar.extui v652
  let v654 : BitVec 32 := Scalar.subi v651 v653
  let v655 : BitVec 1 := Scalar.cmpi .ne v649 v654
  let v656 : BitVec 32 := Scalar.remsi v643 c4_i32_443
  let c0_i32_448 : BitVec 32 := 0#32
  let v657 : BitVec 1 := Scalar.cmpi .ne v656 c0_i32_448
  let v658 : BitVec 1 := Scalar.andi v655 v657
  let v644 : BitVec 32 := Scalar.divsi v643 c4_i32_443
  let c1_i32_449 : BitVec 32 := 1#32
  let v659 : BitVec 32 := Scalar.subi v644 c1_i32_449
  let v660 : BitVec 32 := Scalar.select v658 v659 v644
  let c0_i32_451 : BitVec 32 := 0#32
  let v662 : BitVec 1 := Scalar.cmpi .eq v660 c0_i32_451
  let c4_i32_452 : BitVec 32 := 4#32
  let c4_i32_450 : BitVec 32 := 4#32
  let v661 : BitVec 32 := Scalar.remsi v643 c4_i32_450
  let v663 : BitVec 32 := Scalar.muli c4_i32_452 v661
  let c1_i32_453 : BitVec 32 := 1#32
  let v664 : BitVec 1 := Scalar.cmpi .eq v660 c1_i32_453
  let c4_i32_455 : BitVec 32 := 4#32
  let c3_i32_454 : BitVec 32 := 3#32
  let v665 : BitVec 32 := Scalar.subi c3_i32_454 v661
  let v666 : BitVec 32 := Scalar.muli c4_i32_455 v665
  let c3_i32_456 : BitVec 32 := 3#32
  let v667 : BitVec 32 := Scalar.addi v666 c3_i32_456
  let c2_i32_457 : BitVec 32 := 2#32
  let v668 : BitVec 1 := Scalar.cmpi .eq v660 c2_i32_457
  let c4_i32_458 : BitVec 32 := 4#32
  let v669 : BitVec 32 := Scalar.muli c4_i32_458 v661
  let c2_i32_459 : BitVec 32 := 2#32
  let v670 : BitVec 32 := Scalar.addi v669 c2_i32_459
  let c4_i32_461 : BitVec 32 := 4#32
  let c3_i32_460 : BitVec 32 := 3#32
  let v671 : BitVec 32 := Scalar.subi c3_i32_460 v661
  let v672 : BitVec 32 := Scalar.muli c4_i32_461 v671
  let c1_i32_462 : BitVec 32 := 1#32
  let v673 : BitVec 32 := Scalar.addi v672 c1_i32_462
  let v674 : BitVec 32 := Scalar.select v668 v670 v673
  let v675 : BitVec 32 := Scalar.select v664 v667 v674
  let v676 : BitVec 32 := Scalar.select v662 v663 v675
  let c4_i32_469 : BitVec 32 := 4#32
  let v685 : BitVec 32 := Scalar.muli v676 c4_i32_469
  let v686 : BitVec 32 := Scalar.addi v685 c0_i32_470
  let v719 : Index := Scalar.indexCast v686
  let c0_486 : Index := 0#32
  let c0_487 : Index := 0#32
  ![v719.toNat, 0, 0]
def k0_off12 (d0 : Dev nD) (c1_i32_440 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v641 : BitVec 32 := Scalar.subi v29 c1_i32_440
  let c32_i32_441 : BitVec 32 := 32#32
  let v642 : BitVec 32 := Scalar.addi v641 c32_i32_441
  let c16_i32_442 : BitVec 32 := 16#32
  let v643 : BitVec 32 := Scalar.remsi v642 c16_i32_442
  let c0_i32_444 : BitVec 32 := 0#32
  let v645 : BitVec 1 := Scalar.cmpi .sgt v643 c0_i32_444
  let v646 : BitVec 32 := Scalar.extui v645
  let c0_i32_445 : BitVec 32 := 0#32
  let v647 : BitVec 1 := Scalar.cmpi .slt v643 c0_i32_445
  let v648 : BitVec 32 := Scalar.extui v647
  let v649 : BitVec 32 := Scalar.subi v646 v648
  let c4_i32_443 : BitVec 32 := 4#32
  let c0_i32_446 : BitVec 32 := 0#32
  let v650 : BitVec 1 := Scalar.cmpi .sgt c4_i32_443 c0_i32_446
  let v651 : BitVec 32 := Scalar.extui v650
  let c0_i32_447 : BitVec 32 := 0#32
  let v652 : BitVec 1 := Scalar.cmpi .slt c4_i32_443 c0_i32_447
  let v653 : BitVec 32 := Scalar.extui v652
  let v654 : BitVec 32 := Scalar.subi v651 v653
  let v655 : BitVec 1 := Scalar.cmpi .ne v649 v654
  let v656 : BitVec 32 := Scalar.remsi v643 c4_i32_443
  let c0_i32_448 : BitVec 32 := 0#32
  let v657 : BitVec 1 := Scalar.cmpi .ne v656 c0_i32_448
  let v658 : BitVec 1 := Scalar.andi v655 v657
  let v644 : BitVec 32 := Scalar.divsi v643 c4_i32_443
  let c1_i32_449 : BitVec 32 := 1#32
  let v659 : BitVec 32 := Scalar.subi v644 c1_i32_449
  let v660 : BitVec 32 := Scalar.select v658 v659 v644
  let c0_i32_451 : BitVec 32 := 0#32
  let v662 : BitVec 1 := Scalar.cmpi .eq v660 c0_i32_451
  let c4_i32_452 : BitVec 32 := 4#32
  let c4_i32_450 : BitVec 32 := 4#32
  let v661 : BitVec 32 := Scalar.remsi v643 c4_i32_450
  let v663 : BitVec 32 := Scalar.muli c4_i32_452 v661
  let c1_i32_453 : BitVec 32 := 1#32
  let v664 : BitVec 1 := Scalar.cmpi .eq v660 c1_i32_453
  let c4_i32_455 : BitVec 32 := 4#32
  let c3_i32_454 : BitVec 32 := 3#32
  let v665 : BitVec 32 := Scalar.subi c3_i32_454 v661
  let v666 : BitVec 32 := Scalar.muli c4_i32_455 v665
  let c3_i32_456 : BitVec 32 := 3#32
  let v667 : BitVec 32 := Scalar.addi v666 c3_i32_456
  let c2_i32_457 : BitVec 32 := 2#32
  let v668 : BitVec 1 := Scalar.cmpi .eq v660 c2_i32_457
  let c4_i32_458 : BitVec 32 := 4#32
  let v669 : BitVec 32 := Scalar.muli c4_i32_458 v661
  let c2_i32_459 : BitVec 32 := 2#32
  let v670 : BitVec 32 := Scalar.addi v669 c2_i32_459
  let c4_i32_461 : BitVec 32 := 4#32
  let c3_i32_460 : BitVec 32 := 3#32
  let v671 : BitVec 32 := Scalar.subi c3_i32_460 v661
  let v672 : BitVec 32 := Scalar.muli c4_i32_461 v671
  let c1_i32_462 : BitVec 32 := 1#32
  let v673 : BitVec 32 := Scalar.addi v672 c1_i32_462
  let v674 : BitVec 32 := Scalar.select v668 v670 v673
  let v675 : BitVec 32 := Scalar.select v664 v667 v674
  let v676 : BitVec 32 := Scalar.select v662 v663 v675
  let v855 : Index := Scalar.indexCast v676
  let c1_561 : Index := 1#32
  let c0_562 : Index := 0#32
  let c0_563 : Index := 0#32
  ![v855.toNat, 1, 0, 0]
def k0_dev10 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_596 : BitVec 32 := 1#32
  let v877 : BitVec 32 := Scalar.muli v65 c1_i32_596
  let v878 : BitVec 32 := Scalar.addi c0_i32_597 v877
  v878.toNat
def k0_off13 (d0 : Dev nD) (c1_i32_602 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v887 : BitVec 32 := Scalar.addi v29 c1_i32_602
  let c32_i32_603 : BitVec 32 := 32#32
  let v888 : BitVec 32 := Scalar.addi v887 c32_i32_603
  let c16_i32_604 : BitVec 32 := 16#32
  let v889 : BitVec 32 := Scalar.remsi v888 c16_i32_604
  let c0_i32_606 : BitVec 32 := 0#32
  let v891 : BitVec 1 := Scalar.cmpi .sgt v889 c0_i32_606
  let v892 : BitVec 32 := Scalar.extui v891
  let c0_i32_607 : BitVec 32 := 0#32
  let v893 : BitVec 1 := Scalar.cmpi .slt v889 c0_i32_607
  let v894 : BitVec 32 := Scalar.extui v893
  let v895 : BitVec 32 := Scalar.subi v892 v894
  let c4_i32_605 : BitVec 32 := 4#32
  let c0_i32_608 : BitVec 32 := 0#32
  let v896 : BitVec 1 := Scalar.cmpi .sgt c4_i32_605 c0_i32_608
  let v897 : BitVec 32 := Scalar.extui v896
  let c0_i32_609 : BitVec 32 := 0#32
  let v898 : BitVec 1 := Scalar.cmpi .slt c4_i32_605 c0_i32_609
  let v899 : BitVec 32 := Scalar.extui v898
  let v900 : BitVec 32 := Scalar.subi v897 v899
  let v901 : BitVec 1 := Scalar.cmpi .ne v895 v900
  let v902 : BitVec 32 := Scalar.remsi v889 c4_i32_605
  let c0_i32_610 : BitVec 32 := 0#32
  let v903 : BitVec 1 := Scalar.cmpi .ne v902 c0_i32_610
  let v904 : BitVec 1 := Scalar.andi v901 v903
  let v890 : BitVec 32 := Scalar.divsi v889 c4_i32_605
  let c1_i32_611 : BitVec 32 := 1#32
  let v905 : BitVec 32 := Scalar.subi v890 c1_i32_611
  let v906 : BitVec 32 := Scalar.select v904 v905 v890
  let c0_i32_613 : BitVec 32 := 0#32
  let v908 : BitVec 1 := Scalar.cmpi .eq v906 c0_i32_613
  let c4_i32_614 : BitVec 32 := 4#32
  let c4_i32_612 : BitVec 32 := 4#32
  let v907 : BitVec 32 := Scalar.remsi v889 c4_i32_612
  let v909 : BitVec 32 := Scalar.muli c4_i32_614 v907
  let c1_i32_615 : BitVec 32 := 1#32
  let v910 : BitVec 1 := Scalar.cmpi .eq v906 c1_i32_615
  let c4_i32_617 : BitVec 32 := 4#32
  let c3_i32_616 : BitVec 32 := 3#32
  let v911 : BitVec 32 := Scalar.subi c3_i32_616 v907
  let v912 : BitVec 32 := Scalar.muli c4_i32_617 v911
  let c3_i32_618 : BitVec 32 := 3#32
  let v913 : BitVec 32 := Scalar.addi v912 c3_i32_618
  let c2_i32_619 : BitVec 32 := 2#32
  let v914 : BitVec 1 := Scalar.cmpi .eq v906 c2_i32_619
  let c4_i32_620 : BitVec 32 := 4#32
  let v915 : BitVec 32 := Scalar.muli c4_i32_620 v907
  let c2_i32_621 : BitVec 32 := 2#32
  let v916 : BitVec 32 := Scalar.addi v915 c2_i32_621
  let c4_i32_623 : BitVec 32 := 4#32
  let c3_i32_622 : BitVec 32 := 3#32
  let v917 : BitVec 32 := Scalar.subi c3_i32_622 v907
  let v918 : BitVec 32 := Scalar.muli c4_i32_623 v917
  let c1_i32_624 : BitVec 32 := 1#32
  let v919 : BitVec 32 := Scalar.addi v918 c1_i32_624
  let v920 : BitVec 32 := Scalar.select v914 v916 v919
  let v921 : BitVec 32 := Scalar.select v910 v913 v920
  let v922 : BitVec 32 := Scalar.select v908 v909 v921
  let v923 : Index := Scalar.indexCast v922
  let c0_625 : Index := 0#32
  let c0_626 : Index := 0#32
  let c0_627 : Index := 0#32
  ![v923.toNat, 0, 0, 0]
def k0_off14 (d0 : Dev nD) (c1_i32_602 : BitVec 32) (c0_i32_632 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v887 : BitVec 32 := Scalar.addi v29 c1_i32_602
  let c32_i32_603 : BitVec 32 := 32#32
  let v888 : BitVec 32 := Scalar.addi v887 c32_i32_603
  let c16_i32_604 : BitVec 32 := 16#32
  let v889 : BitVec 32 := Scalar.remsi v888 c16_i32_604
  let c0_i32_606 : BitVec 32 := 0#32
  let v891 : BitVec 1 := Scalar.cmpi .sgt v889 c0_i32_606
  let v892 : BitVec 32 := Scalar.extui v891
  let c0_i32_607 : BitVec 32 := 0#32
  let v893 : BitVec 1 := Scalar.cmpi .slt v889 c0_i32_607
  let v894 : BitVec 32 := Scalar.extui v893
  let v895 : BitVec 32 := Scalar.subi v892 v894
  let c4_i32_605 : BitVec 32 := 4#32
  let c0_i32_608 : BitVec 32 := 0#32
  let v896 : BitVec 1 := Scalar.cmpi .sgt c4_i32_605 c0_i32_608
  let v897 : BitVec 32 := Scalar.extui v896
  let c0_i32_609 : BitVec 32 := 0#32
  let v898 : BitVec 1 := Scalar.cmpi .slt c4_i32_605 c0_i32_609
  let v899 : BitVec 32 := Scalar.extui v898
  let v900 : BitVec 32 := Scalar.subi v897 v899
  let v901 : BitVec 1 := Scalar.cmpi .ne v895 v900
  let v902 : BitVec 32 := Scalar.remsi v889 c4_i32_605
  let c0_i32_610 : BitVec 32 := 0#32
  let v903 : BitVec 1 := Scalar.cmpi .ne v902 c0_i32_610
  let v904 : BitVec 1 := Scalar.andi v901 v903
  let v890 : BitVec 32 := Scalar.divsi v889 c4_i32_605
  let c1_i32_611 : BitVec 32 := 1#32
  let v905 : BitVec 32 := Scalar.subi v890 c1_i32_611
  let v906 : BitVec 32 := Scalar.select v904 v905 v890
  let c0_i32_613 : BitVec 32 := 0#32
  let v908 : BitVec 1 := Scalar.cmpi .eq v906 c0_i32_613
  let c4_i32_614 : BitVec 32 := 4#32
  let c4_i32_612 : BitVec 32 := 4#32
  let v907 : BitVec 32 := Scalar.remsi v889 c4_i32_612
  let v909 : BitVec 32 := Scalar.muli c4_i32_614 v907
  let c1_i32_615 : BitVec 32 := 1#32
  let v910 : BitVec 1 := Scalar.cmpi .eq v906 c1_i32_615
  let c4_i32_617 : BitVec 32 := 4#32
  let c3_i32_616 : BitVec 32 := 3#32
  let v911 : BitVec 32 := Scalar.subi c3_i32_616 v907
  let v912 : BitVec 32 := Scalar.muli c4_i32_617 v911
  let c3_i32_618 : BitVec 32 := 3#32
  let v913 : BitVec 32 := Scalar.addi v912 c3_i32_618
  let c2_i32_619 : BitVec 32 := 2#32
  let v914 : BitVec 1 := Scalar.cmpi .eq v906 c2_i32_619
  let c4_i32_620 : BitVec 32 := 4#32
  let v915 : BitVec 32 := Scalar.muli c4_i32_620 v907
  let c2_i32_621 : BitVec 32 := 2#32
  let v916 : BitVec 32 := Scalar.addi v915 c2_i32_621
  let c4_i32_623 : BitVec 32 := 4#32
  let c3_i32_622 : BitVec 32 := 3#32
  let v917 : BitVec 32 := Scalar.subi c3_i32_622 v907
  let v918 : BitVec 32 := Scalar.muli c4_i32_623 v917
  let c1_i32_624 : BitVec 32 := 1#32
  let v919 : BitVec 32 := Scalar.addi v918 c1_i32_624
  let v920 : BitVec 32 := Scalar.select v914 v916 v919
  let v921 : BitVec 32 := Scalar.select v910 v913 v920
  let v922 : BitVec 32 := Scalar.select v908 v909 v921
  let c4_i32_631 : BitVec 32 := 4#32
  let v931 : BitVec 32 := Scalar.muli v922 c4_i32_631
  let v932 : BitVec 32 := Scalar.addi v931 c0_i32_632
  let v934 : Index := Scalar.indexCast v932
  let c0_635 : Index := 0#32
  let c0_636 : Index := 0#32
  ![v934.toNat, 0, 0]
def k0_off15 (d0 : Dev nD) (c1_i32_602 : BitVec 32) (c0_i32_632 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v887 : BitVec 32 := Scalar.addi v29 c1_i32_602
  let c32_i32_603 : BitVec 32 := 32#32
  let v888 : BitVec 32 := Scalar.addi v887 c32_i32_603
  let c16_i32_604 : BitVec 32 := 16#32
  let v889 : BitVec 32 := Scalar.remsi v888 c16_i32_604
  let c0_i32_606 : BitVec 32 := 0#32
  let v891 : BitVec 1 := Scalar.cmpi .sgt v889 c0_i32_606
  let v892 : BitVec 32 := Scalar.extui v891
  let c0_i32_607 : BitVec 32 := 0#32
  let v893 : BitVec 1 := Scalar.cmpi .slt v889 c0_i32_607
  let v894 : BitVec 32 := Scalar.extui v893
  let v895 : BitVec 32 := Scalar.subi v892 v894
  let c4_i32_605 : BitVec 32 := 4#32
  let c0_i32_608 : BitVec 32 := 0#32
  let v896 : BitVec 1 := Scalar.cmpi .sgt c4_i32_605 c0_i32_608
  let v897 : BitVec 32 := Scalar.extui v896
  let c0_i32_609 : BitVec 32 := 0#32
  let v898 : BitVec 1 := Scalar.cmpi .slt c4_i32_605 c0_i32_609
  let v899 : BitVec 32 := Scalar.extui v898
  let v900 : BitVec 32 := Scalar.subi v897 v899
  let v901 : BitVec 1 := Scalar.cmpi .ne v895 v900
  let v902 : BitVec 32 := Scalar.remsi v889 c4_i32_605
  let c0_i32_610 : BitVec 32 := 0#32
  let v903 : BitVec 1 := Scalar.cmpi .ne v902 c0_i32_610
  let v904 : BitVec 1 := Scalar.andi v901 v903
  let v890 : BitVec 32 := Scalar.divsi v889 c4_i32_605
  let c1_i32_611 : BitVec 32 := 1#32
  let v905 : BitVec 32 := Scalar.subi v890 c1_i32_611
  let v906 : BitVec 32 := Scalar.select v904 v905 v890
  let c0_i32_613 : BitVec 32 := 0#32
  let v908 : BitVec 1 := Scalar.cmpi .eq v906 c0_i32_613
  let c4_i32_614 : BitVec 32 := 4#32
  let c4_i32_612 : BitVec 32 := 4#32
  let v907 : BitVec 32 := Scalar.remsi v889 c4_i32_612
  let v909 : BitVec 32 := Scalar.muli c4_i32_614 v907
  let c1_i32_615 : BitVec 32 := 1#32
  let v910 : BitVec 1 := Scalar.cmpi .eq v906 c1_i32_615
  let c4_i32_617 : BitVec 32 := 4#32
  let c3_i32_616 : BitVec 32 := 3#32
  let v911 : BitVec 32 := Scalar.subi c3_i32_616 v907
  let v912 : BitVec 32 := Scalar.muli c4_i32_617 v911
  let c3_i32_618 : BitVec 32 := 3#32
  let v913 : BitVec 32 := Scalar.addi v912 c3_i32_618
  let c2_i32_619 : BitVec 32 := 2#32
  let v914 : BitVec 1 := Scalar.cmpi .eq v906 c2_i32_619
  let c4_i32_620 : BitVec 32 := 4#32
  let v915 : BitVec 32 := Scalar.muli c4_i32_620 v907
  let c2_i32_621 : BitVec 32 := 2#32
  let v916 : BitVec 32 := Scalar.addi v915 c2_i32_621
  let c4_i32_623 : BitVec 32 := 4#32
  let c3_i32_622 : BitVec 32 := 3#32
  let v917 : BitVec 32 := Scalar.subi c3_i32_622 v907
  let v918 : BitVec 32 := Scalar.muli c4_i32_623 v917
  let c1_i32_624 : BitVec 32 := 1#32
  let v919 : BitVec 32 := Scalar.addi v918 c1_i32_624
  let v920 : BitVec 32 := Scalar.select v914 v916 v919
  let v921 : BitVec 32 := Scalar.select v910 v913 v920
  let v922 : BitVec 32 := Scalar.select v908 v909 v921
  let c4_i32_631 : BitVec 32 := 4#32
  let v931 : BitVec 32 := Scalar.muli v922 c4_i32_631
  let v932 : BitVec 32 := Scalar.addi v931 c0_i32_632
  let v965 : Index := Scalar.indexCast v932
  let c0_648 : Index := 0#32
  let c0_649 : Index := 0#32
  ![v965.toNat, 0, 0]
def k0_off16 (d0 : Dev nD) (c1_i32_602 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v887 : BitVec 32 := Scalar.addi v29 c1_i32_602
  let c32_i32_603 : BitVec 32 := 32#32
  let v888 : BitVec 32 := Scalar.addi v887 c32_i32_603
  let c16_i32_604 : BitVec 32 := 16#32
  let v889 : BitVec 32 := Scalar.remsi v888 c16_i32_604
  let c0_i32_606 : BitVec 32 := 0#32
  let v891 : BitVec 1 := Scalar.cmpi .sgt v889 c0_i32_606
  let v892 : BitVec 32 := Scalar.extui v891
  let c0_i32_607 : BitVec 32 := 0#32
  let v893 : BitVec 1 := Scalar.cmpi .slt v889 c0_i32_607
  let v894 : BitVec 32 := Scalar.extui v893
  let v895 : BitVec 32 := Scalar.subi v892 v894
  let c4_i32_605 : BitVec 32 := 4#32
  let c0_i32_608 : BitVec 32 := 0#32
  let v896 : BitVec 1 := Scalar.cmpi .sgt c4_i32_605 c0_i32_608
  let v897 : BitVec 32 := Scalar.extui v896
  let c0_i32_609 : BitVec 32 := 0#32
  let v898 : BitVec 1 := Scalar.cmpi .slt c4_i32_605 c0_i32_609
  let v899 : BitVec 32 := Scalar.extui v898
  let v900 : BitVec 32 := Scalar.subi v897 v899
  let v901 : BitVec 1 := Scalar.cmpi .ne v895 v900
  let v902 : BitVec 32 := Scalar.remsi v889 c4_i32_605
  let c0_i32_610 : BitVec 32 := 0#32
  let v903 : BitVec 1 := Scalar.cmpi .ne v902 c0_i32_610
  let v904 : BitVec 1 := Scalar.andi v901 v903
  let v890 : BitVec 32 := Scalar.divsi v889 c4_i32_605
  let c1_i32_611 : BitVec 32 := 1#32
  let v905 : BitVec 32 := Scalar.subi v890 c1_i32_611
  let v906 : BitVec 32 := Scalar.select v904 v905 v890
  let c0_i32_613 : BitVec 32 := 0#32
  let v908 : BitVec 1 := Scalar.cmpi .eq v906 c0_i32_613
  let c4_i32_614 : BitVec 32 := 4#32
  let c4_i32_612 : BitVec 32 := 4#32
  let v907 : BitVec 32 := Scalar.remsi v889 c4_i32_612
  let v909 : BitVec 32 := Scalar.muli c4_i32_614 v907
  let c1_i32_615 : BitVec 32 := 1#32
  let v910 : BitVec 1 := Scalar.cmpi .eq v906 c1_i32_615
  let c4_i32_617 : BitVec 32 := 4#32
  let c3_i32_616 : BitVec 32 := 3#32
  let v911 : BitVec 32 := Scalar.subi c3_i32_616 v907
  let v912 : BitVec 32 := Scalar.muli c4_i32_617 v911
  let c3_i32_618 : BitVec 32 := 3#32
  let v913 : BitVec 32 := Scalar.addi v912 c3_i32_618
  let c2_i32_619 : BitVec 32 := 2#32
  let v914 : BitVec 1 := Scalar.cmpi .eq v906 c2_i32_619
  let c4_i32_620 : BitVec 32 := 4#32
  let v915 : BitVec 32 := Scalar.muli c4_i32_620 v907
  let c2_i32_621 : BitVec 32 := 2#32
  let v916 : BitVec 32 := Scalar.addi v915 c2_i32_621
  let c4_i32_623 : BitVec 32 := 4#32
  let c3_i32_622 : BitVec 32 := 3#32
  let v917 : BitVec 32 := Scalar.subi c3_i32_622 v907
  let v918 : BitVec 32 := Scalar.muli c4_i32_623 v917
  let c1_i32_624 : BitVec 32 := 1#32
  let v919 : BitVec 32 := Scalar.addi v918 c1_i32_624
  let v920 : BitVec 32 := Scalar.select v914 v916 v919
  let v921 : BitVec 32 := Scalar.select v910 v913 v920
  let v922 : BitVec 32 := Scalar.select v908 v909 v921
  let v1101 : Index := Scalar.indexCast v922
  let c1_723 : Index := 1#32
  let c0_724 : Index := 0#32
  let c0_725 : Index := 0#32
  ![v1101.toNat, 1, 0, 0]
def k0_dev11 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_827 : BitVec 32 := 1#32
  let v1209 : BitVec 32 := Scalar.muli v101 c1_i32_827
  let v1210 : BitVec 32 := Scalar.addi c0_i32_828 v1209
  v1210.toNat
def k0_dev12 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_839 : BitVec 32 := 1#32
  let v1219 : BitVec 32 := Scalar.muli v65 c1_i32_839
  let v1220 : BitVec 32 := Scalar.addi c0_i32_840 v1219
  v1220.toNat
def k0_dev13 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_874 : BitVec 32 := 1#32
  let v1243 : BitVec 32 := Scalar.muli v101 c1_i32_874
  let v1244 : BitVec 32 := Scalar.addi c0_i32_875 v1243
  v1244.toNat
def k0_dev14 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_1036 : BitVec 32 := 1#32
  let v1489 : BitVec 32 := Scalar.muli v65 c1_i32_1036
  let v1490 : BitVec 32 := Scalar.addi c0_i32_1037 v1489
  v1490.toNat
def k0_dev15 (d0 : Dev nD) : Nat :=
  let c0_i32_1268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_1267 : BitVec 32 := 1#32
  let v1821 : BitVec 32 := Scalar.muli v101 c1_i32_1267
  let v1822 : BitVec 32 := Scalar.addi c0_i32_1268 v1821
  v1822.toNat
def k0_dev16 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_1279 : BitVec 32 := 1#32
  let v1831 : BitVec 32 := Scalar.muli v65 c1_i32_1279
  let v1832 : BitVec 32 := Scalar.addi c0_i32_1280 v1831
  v1832.toNat
def k0_dev17 (d0 : Dev nD) : Nat :=
  let c0_i32_1315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_1314 : BitVec 32 := 1#32
  let v1855 : BitVec 32 := Scalar.muli v101 c1_i32_1314
  let v1856 : BitVec 32 := Scalar.addi c0_i32_1315 v1855
  v1856.toNat
def k0_dev18 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_1476 : BitVec 32 := 1#32
  let v2101 : BitVec 32 := Scalar.muli v65 c1_i32_1476
  let v2102 : BitVec 32 := Scalar.addi c0_i32_1477 v2101
  v2102.toNat
def k0_dev19 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_1707 : BitVec 32 := 1#32
  let v2433 : BitVec 32 := Scalar.muli v101 c1_i32_1707
  let v2434 : BitVec 32 := Scalar.addi c0_i32_1708 v2433
  v2434.toNat
def k0_dev20 (d0 : Dev nD) : Nat :=
  let c0_i32_1720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_1719 : BitVec 32 := 1#32
  let v2443 : BitVec 32 := Scalar.muli v65 c1_i32_1719
  let v2444 : BitVec 32 := Scalar.addi c0_i32_1720 v2443
  v2444.toNat
def k0_dev21 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_1754 : BitVec 32 := 1#32
  let v2467 : BitVec 32 := Scalar.muli v101 c1_i32_1754
  let v2468 : BitVec 32 := Scalar.addi c0_i32_1755 v2467
  v2468.toNat
def k0_dev22 (d0 : Dev nD) : Nat :=
  let c0_i32_1917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_1916 : BitVec 32 := 1#32
  let v2713 : BitVec 32 := Scalar.muli v65 c1_i32_1916
  let v2714 : BitVec 32 := Scalar.addi c0_i32_1917 v2713
  v2714.toNat
def k0_dev23 (d0 : Dev nD) : Nat :=
  let c0_i32_2147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_2146 : BitVec 32 := 1#32
  let v3045 : BitVec 32 := Scalar.muli v101 c1_i32_2146
  let v3046 : BitVec 32 := Scalar.addi c0_i32_2147 v3045
  v3046.toNat
def k0_dev24 (d0 : Dev nD) : Nat :=
  let c0_i32_2159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_2158 : BitVec 32 := 1#32
  let v3055 : BitVec 32 := Scalar.muli v65 c1_i32_2158
  let v3056 : BitVec 32 := Scalar.addi c0_i32_2159 v3055
  v3056.toNat
def k0_dev25 (d0 : Dev nD) : Nat :=
  let c0_i32_2194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_2193 : BitVec 32 := 1#32
  let v3079 : BitVec 32 := Scalar.muli v101 c1_i32_2193
  let v3080 : BitVec 32 := Scalar.addi c0_i32_2194 v3079
  v3080.toNat
def k0_dev26 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_2355 : BitVec 32 := 1#32
  let v3325 : BitVec 32 := Scalar.muli v65 c1_i32_2355
  let v3326 : BitVec 32 := Scalar.addi c0_i32_2356 v3325
  v3326.toNat
def k0_dev27 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_2585 : BitVec 32 := 1#32
  let v3657 : BitVec 32 := Scalar.muli v101 c1_i32_2585
  let v3658 : BitVec 32 := Scalar.addi c0_i32_2586 v3657
  v3658.toNat
def k0_dev28 (d0 : Dev nD) : Nat :=
  let c0_i32_2598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_2597 : BitVec 32 := 1#32
  let v3667 : BitVec 32 := Scalar.muli v65 c1_i32_2597
  let v3668 : BitVec 32 := Scalar.addi c0_i32_2598 v3667
  v3668.toNat
def k0_dev29 (d0 : Dev nD) : Nat :=
  let c0_i32_2633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_2632 : BitVec 32 := 1#32
  let v3691 : BitVec 32 := Scalar.muli v101 c1_i32_2632
  let v3692 : BitVec 32 := Scalar.addi c0_i32_2633 v3691
  v3692.toNat
def k0_dev30 (d0 : Dev nD) : Nat :=
  let c0_i32_2795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_7 : BitVec 32 := 1#32
  let v30 : BitVec 32 := Scalar.subi v29 c1_i32_7
  let c32_i32 : BitVec 32 := 32#32
  let v31 : BitVec 32 := Scalar.addi v30 c32_i32
  let c16_i32_8 : BitVec 32 := 16#32
  let v32 : BitVec 32 := Scalar.remsi v31 c16_i32_8
  let c0_i32_10 : BitVec 32 := 0#32
  let v34 : BitVec 1 := Scalar.cmpi .sgt v32 c0_i32_10
  let v35 : BitVec 32 := Scalar.extui v34
  let c0_i32_11 : BitVec 32 := 0#32
  let v36 : BitVec 1 := Scalar.cmpi .slt v32 c0_i32_11
  let v37 : BitVec 32 := Scalar.extui v36
  let v38 : BitVec 32 := Scalar.subi v35 v37
  let c4_i32_9 : BitVec 32 := 4#32
  let c0_i32_12 : BitVec 32 := 0#32
  let v39 : BitVec 1 := Scalar.cmpi .sgt c4_i32_9 c0_i32_12
  let v40 : BitVec 32 := Scalar.extui v39
  let c0_i32_13 : BitVec 32 := 0#32
  let v41 : BitVec 1 := Scalar.cmpi .slt c4_i32_9 c0_i32_13
  let v42 : BitVec 32 := Scalar.extui v41
  let v43 : BitVec 32 := Scalar.subi v40 v42
  let v44 : BitVec 1 := Scalar.cmpi .ne v38 v43
  let v45 : BitVec 32 := Scalar.remsi v32 c4_i32_9
  let c0_i32_14 : BitVec 32 := 0#32
  let v46 : BitVec 1 := Scalar.cmpi .ne v45 c0_i32_14
  let v47 : BitVec 1 := Scalar.andi v44 v46
  let v33 : BitVec 32 := Scalar.divsi v32 c4_i32_9
  let c1_i32_15 : BitVec 32 := 1#32
  let v48 : BitVec 32 := Scalar.subi v33 c1_i32_15
  let v49 : BitVec 32 := Scalar.select v47 v48 v33
  let c0_i32_17 : BitVec 32 := 0#32
  let v51 : BitVec 1 := Scalar.cmpi .eq v49 c0_i32_17
  let c4_i32_18 : BitVec 32 := 4#32
  let c4_i32_16 : BitVec 32 := 4#32
  let v50 : BitVec 32 := Scalar.remsi v32 c4_i32_16
  let v52 : BitVec 32 := Scalar.muli c4_i32_18 v50
  let c1_i32_19 : BitVec 32 := 1#32
  let v53 : BitVec 1 := Scalar.cmpi .eq v49 c1_i32_19
  let c4_i32_21 : BitVec 32 := 4#32
  let c3_i32_20 : BitVec 32 := 3#32
  let v54 : BitVec 32 := Scalar.subi c3_i32_20 v50
  let v55 : BitVec 32 := Scalar.muli c4_i32_21 v54
  let c3_i32_22 : BitVec 32 := 3#32
  let v56 : BitVec 32 := Scalar.addi v55 c3_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c1_i32_28 : BitVec 32 := 1#32
  let v62 : BitVec 32 := Scalar.addi v61 c1_i32_28
  let v63 : BitVec 32 := Scalar.select v57 v59 v62
  let v64 : BitVec 32 := Scalar.select v53 v56 v63
  let v65 : BitVec 32 := Scalar.select v51 v52 v64
  let c1_i32_2794 : BitVec 32 := 1#32
  let v3937 : BitVec 32 := Scalar.muli v65 c1_i32_2794
  let v3938 : BitVec 32 := Scalar.addi c0_i32_2795 v3937
  v3938.toNat
def k0_dev31 (d0 : Dev nD) : Nat :=
  let c0_i32_3003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_3002 : BitVec 32 := 1#32
  let v4233 : BitVec 32 := Scalar.muli v101 c1_i32_3002
  let v4234 : BitVec 32 := Scalar.addi c0_i32_3003 v4233
  v4234.toNat
def k0_dev32 (d0 : Dev nD) : Nat :=
  let c0_i32_3038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v22 : BitVec 1 := Scalar.cmpi .eq v3 c3_i32
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c3_i32_45 : BitVec 32 := 3#32
  let v92 : BitVec 32 := Scalar.addi v91 c3_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c1_i32_51 : BitVec 32 := 1#32
  let v98 : BitVec 32 := Scalar.addi v97 c1_i32_51
  let v99 : BitVec 32 := Scalar.select v93 v95 v98
  let v100 : BitVec 32 := Scalar.select v89 v92 v99
  let v101 : BitVec 32 := Scalar.select v87 v88 v100
  let c1_i32_3037 : BitVec 32 := 1#32
  let v4257 : BitVec 32 := Scalar.muli v101 c1_i32_3037
  let v4258 : BitVec 32 := Scalar.addi c0_i32_3038 v4257
  v4258.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S512x4096 : Shape := ⟨2, ![512, 4096]⟩
abbrev S2x128x64x64 : Shape := ⟨4, ![2, 128, 64, 64]⟩
abbrev S4096x512 : Shape := ⟨2, ![4096, 512]⟩
abbrev S2x2048x4096 : Shape := ⟨3, ![2, 2048, 4096]⟩
abbrev S2x2048x64x64 : Shape := ⟨4, ![2, 2048, 64, 64]⟩
abbrev S2048 : Shape := ⟨1, ![2048]⟩
abbrev S_ : Shape := ⟨0, ![]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S2x64x2048x128 : Shape := ⟨4, ![2, 64, 2048, 128]⟩
abbrev S1x1x2048x128 : Shape := ⟨4, ![1, 1, 2048, 128]⟩
abbrev S2x64x2048 : Shape := ⟨3, ![2, 64, 2048]⟩
abbrev S2x64x2048x1 : Shape := ⟨4, ![2, 64, 2048, 1]⟩
abbrev S1x1x2048x1 : Shape := ⟨4, ![1, 1, 2048, 1]⟩
abbrev S2x64x64x2048 : Shape := ⟨4, ![2, 64, 64, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x4096, .bf16⟩
  | .hbm, ⟨2, _⟩ => ⟨S2x128x64x64, .bf16⟩
  | .hbm, ⟨3, _⟩ => ⟨S2x128x64x64, .bf16⟩
  | .hbm, ⟨4, _⟩ => ⟨S4096x512, .bf16⟩
  | .hbm, ⟨5, _⟩ => ⟨S2x2048x512, .f32⟩
  | .hbm, ⟨6, _⟩ => ⟨S512x4096, .f32⟩
  | .hbm, ⟨7, _⟩ => ⟨S2x128x64x64, .f32⟩
  | .hbm, ⟨8, _⟩ => ⟨S2x128x64x64, .f32⟩
  | .hbm, ⟨9, _⟩ => ⟨S4096x512, .f32⟩
  | .hbm, ⟨10, _⟩ => ⟨S2x2048x4096, .f32⟩
  | .hbm, ⟨11, _⟩ => ⟨S2x2048x64x64, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S128, .i32⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S1x128, .i32⟩
  | .hbm, ⟨52, _⟩ => ⟨S2048x128, .i32⟩
  | .hbm, ⟨53, _⟩ => ⟨S2048x128, .i32⟩
  | .hbm, ⟨54, _⟩ => ⟨S2048x128, .i1⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S2048x128, .i1⟩
  | .hbm, ⟨59, _⟩ => ⟨S2048x128, .i1⟩
  | .hbm, ⟨60, _⟩ => ⟨S2048x128, .i32⟩
  | .hbm, ⟨61, _⟩ => ⟨S2048x128, .i32⟩
  | .hbm, ⟨62, _⟩ => ⟨S2048x128, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S2048x128, .i32⟩
  | .hbm, ⟨70, _⟩ => ⟨S2048x128, .i32⟩
  | .hbm, ⟨71, _⟩ => ⟨S_, .i32⟩
  | .hbm, ⟨72, _⟩ => ⟨S2048x128, .i32⟩
  | .hbm, ⟨73, _⟩ => ⟨S2048x128, .i1⟩
  | .hbm, ⟨74, _⟩ => ⟨S_, .i32⟩
  | .hbm, ⟨75, _⟩ => ⟨S2048x128, .i32⟩
  | .hbm, ⟨76, _⟩ => ⟨S2048x128, .i1⟩
  | .hbm, ⟨77, _⟩ => ⟨S_, .i32⟩
  | .hbm, ⟨78, _⟩ => ⟨S_, .i1⟩
  | .hbm, ⟨79, _⟩ => ⟨S2048x128, .i1⟩
  | .hbm, ⟨80, _⟩ => ⟨S2048x128, .i1⟩
  | .hbm, ⟨81, _⟩ => ⟨S2048x128, .i1⟩
  | .hbm, ⟨82, _⟩ => ⟨S2048x128, .i32⟩
  | .hbm, ⟨83, _⟩ => ⟨S2048x128, .i32⟩
  | .hbm, ⟨84, _⟩ => ⟨S2048x128, .i32⟩
  | .hbm, ⟨85, _⟩ => ⟨S_, .i32⟩
  | .hbm, ⟨86, _⟩ => ⟨S2048x128, .i32⟩
  | .hbm, ⟨87, _⟩ => ⟨S2048x128, .i1⟩
  | .hbm, ⟨88, _⟩ => ⟨S2048x128, .i1⟩
  | .hbm, ⟨89, _⟩ => ⟨S2x64x2048x128, .f32⟩
  | .hbm, ⟨90, _⟩ => ⟨S_, .f32⟩
  | .hbm, ⟨91, _⟩ => ⟨S2x64x2048x128, .f32⟩
  | .hbm, ⟨92, _⟩ => ⟨S2x64x2048x128, .f32⟩
  | .hbm, ⟨93, _⟩ => ⟨S1x1x2048x128, .i1⟩
  | .hbm, ⟨94, _⟩ => ⟨S_, .f32⟩
  | .hbm, ⟨95, _⟩ => ⟨S_, .f32⟩
  | .hbm, ⟨96, _⟩ => ⟨S2x64x2048x128, .i1⟩
  | .hbm, ⟨97, _⟩ => ⟨S2x64x2048x128, .f32⟩
  | .hbm, ⟨98, _⟩ => ⟨S2x64x2048x128, .f32⟩
  | .hbm, ⟨99, _⟩ => ⟨S_, .f32⟩
  | .hbm, ⟨100, _⟩ => ⟨S2x64x2048, .f32⟩
  | .hbm, ⟨101, _⟩ => ⟨S2x64x2048x1, .f32⟩
  | .hbm, ⟨102, _⟩ => ⟨S2x64x2048x128, .f32⟩
  | .hbm, ⟨103, _⟩ => ⟨S2x64x2048x128, .f32⟩
  | .hbm, ⟨104, _⟩ => ⟨S2x64x2048x128, .f32⟩
  | .hbm, ⟨105, _⟩ => ⟨S_, .i1⟩
  | .hbm, ⟨106, _⟩ => ⟨S2048, .i1⟩
  | .hbm, ⟨107, _⟩ => ⟨S1x1x2048x1, .i1⟩
  | .hbm, ⟨108, _⟩ => ⟨S_, .f32⟩
  | .hbm, ⟨109, _⟩ => ⟨S2x64x2048, .f32⟩
  | .hbm, ⟨110, _⟩ => ⟨S2x64x2048x1, .f32⟩
  | .hbm, ⟨111, _⟩ => ⟨S_, .f32⟩
  | .hbm, ⟨112, _⟩ => ⟨S_, .f32⟩
  | .hbm, ⟨113, _⟩ => ⟨S2x64x2048x1, .i1⟩
  | .hbm, ⟨114, _⟩ => ⟨S2x64x2048x1, .f32⟩
  | .hbm, ⟨115, _⟩ => ⟨S2x64x2048x1, .f32⟩
  | .hbm, ⟨116, _⟩ => ⟨S2x64x2048x128, .f32⟩
  | .hbm, ⟨117, _⟩ => ⟨S2x64x2048x128, .f32⟩
  | .hbm, ⟨118, _⟩ => ⟨S1x1x2048x1, .i1⟩
  | .hbm, ⟨119, _⟩ => ⟨S_, .f32⟩
  | .hbm, ⟨120, _⟩ => ⟨S_, .f32⟩
  | .hbm, ⟨121, _⟩ => ⟨S2x64x2048x128, .i1⟩
  | .hbm, ⟨122, _⟩ => ⟨S2x64x2048x128, .f32⟩
  | .hbm, ⟨123, _⟩ => ⟨S2x64x2048x128, .f32⟩
  | .hbm, ⟨124, _⟩ => ⟨S2x64x64x2048, .f32⟩
  | .hbm, ⟨125, _⟩ => ⟨S2x2048x64x64, .f32⟩
  | .hbm, ⟨126, _⟩ => ⟨S2x2048x4096, .f32⟩
  | .hbm, ⟨127, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]

def κ : String → Option EReal := fun
  | "mask" => some ⊥
  | _ => none
-- ==== Proof.KI.Prog.lean ====
module

public import proofs.«01_k».proof.Proof.Gen.KernelIdeal.Frame
public import proofs.«01_k».proof.Proof.Gen.KernelIdeal.Skeleton

/-! # The kernel body as a short program

The printed body is one straight line of about a thousand operations. It is written here as it was
meant: a prologue, a ring exchange of sixteen blocks in hops, one block of attention per arrived
pair of weight blocks, and an epilogue. -/

@[expose] public section

set_option synthInstance.maxSize 4096

noncomputable section

namespace Cert.KernelIdeal.Ring

open Idealize.ShloMosaic Idealize.SL.Sem
open Cert.KernelIdeal.Gen

variable {F : FTy → Type} [FloatOps F] [Named F]

/-- Programs of one device's kernel. -/
abbrev PR (F : FTy → Type) [FloatOps F] (α : Type) := Prog (TpuEff nD τ sig (Elt F) Λ₀ .tc) α

/-! ## The buffers -/

abbrev mX : Memref sig .tc .vmem S2x128x512 .bf16 := win0_0.stage (cfg0.slots t0_0 0)
abbrev mWq : Memref sig .tc .vmem S512x256 .bf16 := win0_1.stage (cfg0.slots t0_0 1)
abbrev mWo : Memref sig .tc .vmem S512x256 .bf16 := win0_2.stage (cfg0.slots t0_0 2)
abbrev mK : Memref sig .tc .vmem S64x64x256 .bf16 := win0_3.stage (cfg0.slots t0_0 3)
abbrev mV : Memref sig .tc .vmem S64x256x64 .bf16 := win0_4.stage (cfg0.slots t0_0 4)
abbrev mO : Memref sig .tc .vmem S2x128x512 .f32 := win0_5.stage (cfg0.slots t0_0 5)
abbrev mBuf : Memref sig .tc .vmem S16x2x512x256 .bf16 := Memref.whole cc0_scratch0
abbrev mAcc : Memref sig .tc .vmem S256x512 .f32 := Memref.whole cc0_scratch1
abbrev mQs : Memref sig .tc .vmem S256x256 .bf16 := Memref.whole cc0_scratch2
abbrev mCs : Memref sig .tc .vmem S256x256 .bf16 := Memref.whole cc0_scratch3
abbrev mWs : Memref sig .tc .vmem S256x256 .bf16 := Memref.whole cc0_scratch4

/-- One 512 × 256 block of the exchange buffer, at offsets `off`. -/
def slotM (off : Fin 4 → Nat) (h : ∀ a, off a + S1x1x512x256.size a ≤ S16x2x512x256.size a) :
    Memref sig .tc .vmem S512x256 .bf16 :=
  (mBuf.slice (Rect.unit (s := S16x2x512x256) off S1x1x512x256.size h) (fun _ => rfl)).squeeze S512x256 squeezes_S1x1x512x256_S512x256

theorem slotM_exact {off : Fin 4 → Nat} {h : ∀ a, off a + S1x1x512x256.size a ≤ S16x2x512x256.size a}
    (w : (Rect.unit (s := S16x2x512x256) off S1x1x512x256.size h).WholeWords (EltTy.packing .bf16)) :
    (slotM off h).view.WordExact :=
  (((Memref.isWhole_whole cc0_scratch0).wordExact_slice rfl _ w).reshape _ _)

/-! ## The thirty transfers, in program order

Number `4h` is the rightward copy of hop `h`'s first half, `4h + 1` the leftward one, `4h + 2` and
`4h + 3` the same of the second half; hop 7 has the two rightward copies only. -/

def devT (d : Dev nD) : Fin 30 → Dev nD :=
  ![⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩,
    ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩,
    ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩,
    ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩, ⟨k0_dev31 d, k0_dev31_lt d⟩, ⟨k0_dev32 d, k0_dev32_lt d⟩]

/-- The numbers of transfer `n`'s two semaphores: which pair of a device's ring arrays it uses. -/
def sendNo : Fin 30 → DmaSem sig :=
  ![6, 38, 7, 39, 8, 40, 9, 41, 10, 42, 11, 43, 12, 44, 13, 45, 14, 46, 15, 47, 16, 48, 17, 49, 18, 50, 19, 51, 20, 21]
@[inherit_doc sendNo] def recvNo : Fin 30 → DmaSem sig :=
  ![22, 52, 23, 53, 24, 54, 25, 55, 26, 56, 27, 57, 28, 58, 29, 59, 30, 60, 31, 61, 32, 62, 33, 63, 34, 64, 35, 65, 36, 37]

/-- Start a transfer out of the block `m`. -/
def sendP (dev : Dev nD) (sS sR : DmaSem sig) (m : Memref sig .tc .vmem S512x256 .bf16) (hm : m.view.WordExact) : PR F PUnit :=
  Prog.lift (.enqueueDma m (.remote (Dev.tc dev) m (.dma sS)) (.dma sR) hm hm ⟨⟨rfl, Or.inl rfl⟩, trivial⟩)

/-- Wait for a transfer: that the own copy has been read, then that the neighbour's has landed. -/
def drainP (sS sR : DmaSem sig) (m : Memref sig .tc .vmem S512x256 .bf16) (hm : m.view.WordExact) : PR F PUnit := do
  Prog.lift (.waitDma2 sS m m hm hm)
  Prog.lift (.waitDma2 sR m m hm hm)

/-! ## The block of one pair of weight blocks -/

/-- The weights of one head, of the first and of the second batch element. -/
def payTL (neg : FVec F S128x128 .f32) (q : Vec F S256x64 .bf16) (k : Vec F S1x64x256 .bf16) : FVec F S128x128 .bf16 := k0_pay16 neg q k
@[inherit_doc payTL] def payBR (neg : FVec F S128x128 .f32) (q : Vec F S256x64 .bf16) (k : Vec F S1x64x256 .bf16) : FVec F S128x128 .bf16 := k0_pay17 neg q k
/-- The queries of one block. -/
def payQ (x : FVec F S256x512 .bf16) (w : Vec F S1x1x512x256 .bf16) : FVec F S256x256 .bf16 := k0_pay14 (k0_pay13 x w)
/-- The context of one head. -/
def payC (w : Vec F S256x256 .bf16) (v : Vec F S1x256x64 .bf16) : FVec F S256x64 .bf16 := k0_pay23 w v
/-- The output after one more block. -/
def payA (a : Vec F S256x512 .f32) (c : Vec F S256x256 .bf16) (w : Vec F S1x1x512x256 .bf16) : FVec F S256x512 .f32 := k0_pay34 a c w

def headP (co : Nat) (hco : ∀ a, (![0, co] : Fin 2 → Nat) a + S256x64.size a ≤ S256x256.size a)
    (hpk : (Rect.unit (s := S256x256) ![0, co] S256x64.size hco).PackedRows (EltTy.packing .bf16))
    (offK : Fin 3 → Nat) (hK : ∀ a, offK a + S1x64x256.size a ≤ S64x64x256.size a)
    (offV : Fin 3 → Nat) (hV : ∀ a, offV a + S1x256x64.size a ≤ S64x256x64.size a)
    (neg : FVec F S128x128 .f32) : PR F PUnit := do
  let q : Vec F S256x64 .bf16 ← Prog.lift (.load mQs (Rect.unit (s := S256x256) ![0, co] S256x64.size hco).toLoadRect (View.loadsAt_vmem h_S256x64))
  let k : Vec F S1x64x256 .bf16 ← Prog.lift (.load mK (Rect.unit (s := S64x64x256) offK S1x64x256.size hK).toLoadRect (View.loadsAt_vmem h_S1x64x256))
  let _z : Vec F S128x128 .bf16 ← Prog.lift (.load mWs (Rect.unit (s := S256x256) ![0, 0] S128x128.size inb_S256x256_S128x128_0_0).toLoadRect (View.loadsAt_vmem h_S128x128))
  Prog.lift (.store mWs (Rect.unit (s := S256x256) ![0, 0] S128x128.size inb_S256x256_S128x128_0_0) (payTL neg q k) Finset.univ (View.stores_vmem h_S128x128 ((Memref.isWhole_whole cc0_scratch4).storeExact_slice rfl _ packedbf16_S256x256_S128x128_0_0) (fun _ => rfl)) (.inl rfl))
  let _z : Vec F S128x128 .bf16 ← Prog.lift (.load mWs (Rect.unit (s := S256x256) ![128, 128] S128x128.size inb_S256x256_S128x128_128_128).toLoadRect (View.loadsAt_vmem h_S128x128))
  Prog.lift (.store mWs (Rect.unit (s := S256x256) ![128, 128] S128x128.size inb_S256x256_S128x128_128_128) (payBR neg q k) Finset.univ (View.stores_vmem h_S128x128 ((Memref.isWhole_whole cc0_scratch4).storeExact_slice rfl _ packedbf16_S256x256_S128x128_128_128) (fun _ => rfl)) (.inl rfl))
  let w : Vec F S256x256 .bf16 ← Prog.lift (.load mWs (Rect.unit (s := S256x256) ![0, 0] S256x256.size inb_S256x256_S256x256_0_0).toLoadRect (View.loadsAt_vmem h_S256x256))
  let v : Vec F S1x256x64 .bf16 ← Prog.lift (.load mV (Rect.unit (s := S64x256x64) offV S1x256x64.size hV).toLoadRect (View.loadsAt_vmem h_S1x256x64))
  let _z : Vec F S256x64 .bf16 ← Prog.lift (.load mCs (Rect.unit (s := S256x256) ![0, co] S256x64.size hco).toLoadRect (View.loadsAt_vmem h_S256x64))
  Prog.lift (.store mCs (Rect.unit (s := S256x256) ![0, co] S256x64.size hco) (payC w v) Finset.univ (View.stores_vmem h_S256x64 ((Memref.isWhole_whole cc0_scratch3).storeExact_slice rfl _ hpk) (fun _ => rfl)) (.inl rfl))

/-- One block: queries, four heads, the output's update. -/
def blkP (off0 : Fin 4 → Nat) (h0 : ∀ a, off0 a + S1x1x512x256.size a ≤ S16x2x512x256.size a)
    (off1 : Fin 4 → Nat) (h1 : ∀ a, off1 a + S1x1x512x256.size a ≤ S16x2x512x256.size a)
    (offK : Fin 4 → Fin 3 → Nat) (hK : ∀ r a, offK r a + S1x64x256.size a ≤ S64x64x256.size a)
    (offV : Fin 4 → Fin 3 → Nat) (hV : ∀ r a, offV r a + S1x256x64.size a ≤ S64x256x64.size a)
    (x : FVec F S256x512 .bf16) (neg : FVec F S128x128 .f32) : PR F PUnit := do
  let w : Vec F S1x1x512x256 .bf16 ← Prog.lift (.load mBuf (Rect.unit (s := S16x2x512x256) off0 S1x1x512x256.size h0).toLoadRect (View.loadsAt_vmem h_S1x1x512x256))
  let _z : Vec F S256x256 .bf16 ← Prog.lift (.load mQs (Rect.unit (s := S256x256) ![0, 0] S256x256.size inb_S256x256_S256x256_0_0).toLoadRect (View.loadsAt_vmem h_S256x256))
  Prog.lift (.store mQs (Rect.unit (s := S256x256) ![0, 0] S256x256.size inb_S256x256_S256x256_0_0) (payQ x w) Finset.univ (View.stores_vmem h_S256x256 ((Memref.isWhole_whole cc0_scratch2).storeExact_slice rfl _ packedbf16_S256x256_S256x256_0_0) (fun _ => rfl)) (.inl rfl))
  headP 0 inb_S256x256_S256x64_0_0 packedbf16_S256x256_S256x64_0_0 (offK 0) (hK 0) (offV 0) (hV 0) neg
  headP 64 inb_S256x256_S256x64_0_64 packedbf16_S256x256_S256x64_0_64 (offK 1) (hK 1) (offV 1) (hV 1) neg
  headP 128 inb_S256x256_S256x64_0_128 packedbf16_S256x256_S256x64_0_128 (offK 2) (hK 2) (offV 2) (hV 2) neg
  headP 192 inb_S256x256_S256x64_0_192 packedbf16_S256x256_S256x64_0_192 (offK 3) (hK 3) (offV 3) (hV 3) neg
  let a : Vec F S256x512 .f32 ← Prog.lift (.load mAcc (Rect.unit (s := S256x512) ![0, 0] S256x512.size inb_S256x512_S256x512_0_0).toLoadRect (View.loadsAt_vmem h_S256x512))
  let c : Vec F S256x256 .bf16 ← Prog.lift (.load mCs (Rect.unit (s := S256x256) ![0, 0] S256x256.size inb_S256x256_S256x256_0_0).toLoadRect (View.loadsAt_vmem h_S256x256))
  let w : Vec F S1x1x512x256 .bf16 ← Prog.lift (.load mBuf (Rect.unit (s := S16x2x512x256) off1 S1x1x512x256.size h1).toLoadRect (View.loadsAt_vmem h_S1x1x512x256))
  let _z : Vec F S256x512 .f32 ← Prog.lift (.load mAcc (Rect.unit (s := S256x512) ![0, 0] S256x512.size inb_S256x512_S256x512_0_0).toLoadRect (View.loadsAt_vmem h_S256x512))
  Prog.lift (.store mAcc (Rect.unit (s := S256x512) ![0, 0] S256x512.size inb_S256x512_S256x512_0_0) (payA a c w) Finset.univ (View.stores_vmem_bits_univ h_S256x512 rfl) (.inl rfl))

/-! ## The whole body -/

/-- The device's place as the kernel reads it. -/
def wordD (d : Dev nD) : BitVec 32 := Scalar.remsi (Scalar.divsi (Dev.word d) 1#32) 16#32

/-- What the mask adds to a device's scores. -/
def negV (d : Dev nD) : FVec F S128x128 .f32 :=
  k0_pay12 (k0_pay9 (k0_pay6 (wordD d)) 64#32 (k0_pay8 (wordD d)) 0#32) (k0_pay10 k0_pay7)
    (k0_pay11 (k0_pay6 (wordD d)) k0_pay7 64#32 (k0_pay8 (wordD d)) 0#32) 0#32

abbrev barS : Sem sig := (SemArray.scalar (sig.barrier 0 rfl) : Sems sig S_).sem

/-- The handshake, the own blocks put into the buffer, the zeroed accumulators; the query input. -/
def proP (d : Dev nD) : PR F (FVec F S256x512 .bf16) := do
  semSignalWord (⟨k0_dev1 d, k0_dev1_lt d⟩ : Dev nD) barS 1#32
  semSignalWord (⟨k0_dev2 d, k0_dev2_lt d⟩ : Dev nD) barS 1#32
  semWaitWord barS 2#32
  let w : Vec F S512x256 .bf16 ← Prog.lift (.load mWq (Rect.unit (s := S512x256) ![0, 0] S512x256.size inb_S512x256_S512x256_0_0).toLoadRect (View.loadsAt_vmem h_S512x256))
  let _z : Vec F S1x1x512x256 .bf16 ← Prog.lift (.load mBuf (Rect.unit (s := S16x2x512x256) (k0_off1 d) S1x1x512x256.size (k0_off1_inb d)).toLoadRect (View.loadsAt_vmem h_S1x1x512x256))
  Prog.lift (.store mBuf (Rect.unit (s := S16x2x512x256) (k0_off1 d) S1x1x512x256.size (k0_off1_inb d)) (k0_pay1 w) Finset.univ (View.stores_vmem h_S1x1x512x256 ((Memref.isWhole_whole cc0_scratch0).storeExact_slice rfl _ (k0_off1_packedbf16 d)) (fun _ => rfl)) (.inl rfl))
  let w : Vec F S512x256 .bf16 ← Prog.lift (.load mWo (Rect.unit (s := S512x256) ![0, 0] S512x256.size inb_S512x256_S512x256_0_0).toLoadRect (View.loadsAt_vmem h_S512x256))
  let _z : Vec F S1x1x512x256 .bf16 ← Prog.lift (.load mBuf (Rect.unit (s := S16x2x512x256) (k0_off2 d) S1x1x512x256.size (k0_off2_inb d)).toLoadRect (View.loadsAt_vmem h_S1x1x512x256))
  Prog.lift (.store mBuf (Rect.unit (s := S16x2x512x256) (k0_off2 d) S1x1x512x256.size (k0_off2_inb d)) (k0_pay2 w) Finset.univ (View.stores_vmem h_S1x1x512x256 ((Memref.isWhole_whole cc0_scratch0).storeExact_slice rfl _ (k0_off2_packedbf16 d)) (fun _ => rfl)) (.inl rfl))
  let _z : Vec F S256x512 .f32 ← Prog.lift (.load mAcc (Rect.unit (s := S256x512) ![0, 0] S256x512.size inb_S256x512_S256x512_0_0).toLoadRect (View.loadsAt_vmem h_S256x512))
  Prog.lift (.store mAcc (Rect.unit (s := S256x512) ![0, 0] S256x512.size inb_S256x512_S256x512_0_0) (k0_pay3 (F := F)) Finset.univ (View.stores_vmem_bits_univ h_S256x512 rfl) (.inl rfl))
  let _z : Vec F S256x256 .bf16 ← Prog.lift (.load mWs (Rect.unit (s := S256x256) ![0, 0] S256x256.size inb_S256x256_S256x256_0_0).toLoadRect (View.loadsAt_vmem h_S256x256))
  Prog.lift (.store mWs (Rect.unit (s := S256x256) ![0, 0] S256x256.size inb_S256x256_S256x256_0_0) (k0_pay4 (F := F)) Finset.univ (View.stores_vmem h_S256x256 ((Memref.isWhole_whole cc0_scratch4).storeExact_slice rfl _ packedbf16_S256x256_S256x256_0_0) (fun _ => rfl)) (.inl rfl))
  let x : Vec F S2x128x512 .bf16 ← Prog.lift (.load mX (Rect.unit (s := S2x128x512) ![0, 0, 0] S2x128x512.size inb_S2x128x512_S2x128x512_0_0_0).toLoadRect (View.loadsAt_vmem h_S2x128x512))
  pure (k0_pay5 x)

/-- The block of the device itself. -/
def blk0P (d : Dev nD) (x : FVec F S256x512 .bf16) : PR F PUnit :=
  blkP (k0_off1 d) (k0_off1_inb d) (k0_off2 d) (k0_off2_inb d)
    (fun r => k0_off7 d (BitVec.ofNat 32 r.val)) (fun r => k0_off7_inb d r)
    (fun r => k0_off8 d (BitVec.ofNat 32 r.val)) (fun r => k0_off8_inb d r) x (negV d)

/-- The block of the device `1 + r` places behind on the ring. -/
def blkLP (d : Dev nD) (r : Fin 7) (x : FVec F S256x512 .bf16) : PR F PUnit :=
  blkP (k0_off9 d (BitVec.ofNat 32 (1 + r.val))) (k0_off9_inb d r) (k0_off12 d (BitVec.ofNat 32 (1 + r.val))) (k0_off12_inb d r)
    (fun q => k0_off10 d (BitVec.ofNat 32 (1 + r.val)) (BitVec.ofNat 32 q.val)) (fun q => k0_off10_inb d r q)
    (fun q => k0_off11 d (BitVec.ofNat 32 (1 + r.val)) (BitVec.ofNat 32 q.val)) (fun q => k0_off11_inb d r q) x (negV d)

/-- The block of the device `1 + r` places ahead. -/
def blkRP (d : Dev nD) (r : Fin 8) (x : FVec F S256x512 .bf16) : PR F PUnit :=
  blkP (k0_off13 d (BitVec.ofNat 32 (1 + r.val))) (k0_off13_inb d r) (k0_off16 d (BitVec.ofNat 32 (1 + r.val))) (k0_off16_inb d r)
    (fun q => k0_off14 d (BitVec.ofNat 32 (1 + r.val)) (BitVec.ofNat 32 q.val)) (fun q => k0_off14_inb d r q)
    (fun q => k0_off15 d (BitVec.ofNat 32 (1 + r.val)) (BitVec.ofNat 32 q.val)) (fun q => k0_off15_inb d r q) x (negV d)

/-- The blocks the transfers of hop `h` read. -/
abbrev mRa (d : Dev nD) (h : Fin 8) := slotM (k0_off3 d (BitVec.ofNat 32 h.val)) (k0_off3_inb d h)
@[inherit_doc mRa] abbrev mLa (d : Dev nD) (h : Fin 7) := slotM (k0_off4 d (BitVec.ofNat 32 h.val)) (k0_off4_inb d h)
@[inherit_doc mRa] abbrev mRb (d : Dev nD) (h : Fin 8) := slotM (k0_off5 d (BitVec.ofNat 32 h.val)) (k0_off5_inb d h)
@[inherit_doc mRa] abbrev mLb (d : Dev nD) (h : Fin 7) := slotM (k0_off6 d (BitVec.ofNat 32 h.val)) (k0_off6_inb d h)
theorem mRa_exact (d : Dev nD) (h : Fin 8) : (mRa d h).view.WordExact := slotM_exact (k0_off3_wordsbf16 d h)
theorem mLa_exact (d : Dev nD) (h : Fin 7) : (mLa d h).view.WordExact := slotM_exact (k0_off4_wordsbf16 d h)
theorem mRb_exact (d : Dev nD) (h : Fin 8) : (mRb d h).view.WordExact := slotM_exact (k0_off5_wordsbf16 d h)
theorem mLb_exact (d : Dev nD) (h : Fin 7) : (mLb d h).view.WordExact := slotM_exact (k0_off6_wordsbf16 d h)

def hop0P (d : Dev nD) (x : FVec F S256x512 .bf16) : PR F PUnit := do
  sendP (devT d 0) (sendNo 0) (recvNo 0) (mRa d 0) (mRa_exact d 0)
  sendP (devT d 1) (sendNo 1) (recvNo 1) (mLa d 0) (mLa_exact d 0)
  sendP (devT d 2) (sendNo 2) (recvNo 2) (mRb d 0) (mRb_exact d 0)
  sendP (devT d 3) (sendNo 3) (recvNo 3) (mLb d 0) (mLb_exact d 0)
  blk0P d x
  drainP (sendNo 0) (recvNo 0) (mRa d 0) (mRa_exact d 0)
  drainP (sendNo 1) (recvNo 1) (mLa d 0) (mLa_exact d 0)

/-- Hop `r + 1`, in which both directions still carry. -/
def hopP (d : Dev nD) (x : FVec F S256x512 .bf16) (r : Nat) (hr : r < 6) : PR F PUnit := do
  sendP (devT d ⟨4 * r + 4, by omega⟩) (sendNo ⟨4 * r + 4, by omega⟩) (recvNo ⟨4 * r + 4, by omega⟩) (mRa d ⟨r + 1, by omega⟩) (mRa_exact d _)
  sendP (devT d ⟨4 * r + 5, by omega⟩) (sendNo ⟨4 * r + 5, by omega⟩) (recvNo ⟨4 * r + 5, by omega⟩) (mLa d ⟨r + 1, by omega⟩) (mLa_exact d _)
  drainP (sendNo ⟨4 * r + 2, by omega⟩) (recvNo ⟨4 * r + 2, by omega⟩) (mRb d ⟨r, by omega⟩) (mRb_exact d _)
  sendP (devT d ⟨4 * r + 6, by omega⟩) (sendNo ⟨4 * r + 6, by omega⟩) (recvNo ⟨4 * r + 6, by omega⟩) (mRb d ⟨r + 1, by omega⟩) (mRb_exact d _)
  blkLP d ⟨r, by omega⟩ x
  drainP (sendNo ⟨4 * r + 3, by omega⟩) (recvNo ⟨4 * r + 3, by omega⟩) (mLb d ⟨r, by omega⟩) (mLb_exact d _)
  sendP (devT d ⟨4 * r + 7, by omega⟩) (sendNo ⟨4 * r + 7, by omega⟩) (recvNo ⟨4 * r + 7, by omega⟩) (mLb d ⟨r + 1, by omega⟩) (mLb_exact d _)
  blkRP d ⟨r, by omega⟩ x
  drainP (sendNo ⟨4 * r + 4, by omega⟩) (recvNo ⟨4 * r + 4, by omega⟩) (mRa d ⟨r + 1, by omega⟩) (mRa_exact d _)
  drainP (sendNo ⟨4 * r + 5, by omega⟩) (recvNo ⟨4 * r + 5, by omega⟩) (mLa d ⟨r + 1, by omega⟩) (mLa_exact d _)

def hop7P (d : Dev nD) (x : FVec F S256x512 .bf16) : PR F PUnit := do
  sendP (devT d 28) (sendNo 28) (recvNo 28) (mRa d 7) (mRa_exact d 7)
  drainP (sendNo 26) (recvNo 26) (mRb d 6) (mRb_exact d 6)
  sendP (devT d 29) (sendNo 29) (recvNo 29) (mRb d 7) (mRb_exact d 7)
  blkLP d 6 x
  drainP (sendNo 27) (recvNo 27) (mLb d 6) (mLb_exact d 6)
  blkRP d 6 x
  drainP (sendNo 28) (recvNo 28) (mRa d 7) (mRa_exact d 7)
  drainP (sendNo 29) (recvNo 29) (mRb d 7) (mRb_exact d 7)
  blkRP d 7 x

def epiP : PR F PUnit := do
  let a : Vec F S256x512 .f32 ← Prog.lift (.load mAcc (Rect.unit (s := S256x512) ![0, 0] S256x512.size inb_S256x512_S256x512_0_0).toLoadRect (View.loadsAt_vmem h_S256x512))
  let _z : Vec F S2x128x512 .f32 ← Prog.lift (.load mO (Rect.unit (s := S2x128x512) ![0, 0, 0] S2x128x512.size inb_S2x128x512_S2x128x512_0_0_0).toLoadRect (View.loadsAt_vmem h_S2x128x512))
  Prog.lift (.store mO (Rect.unit (s := S2x128x512) ![0, 0, 0] S2x128x512.size inb_S2x128x512_S2x128x512_0_0_0) (k0_pay357 a) Finset.univ (View.stores_vmem_bits_univ h_S2x128x512 rfl) (.inl rfl))

def ringP : PR F PUnit := do
  let d : Dev nD ← Prog.lift .deviceId
  let x ← proP d
  hop0P d x
  hopP d x 0 (by omega)
  hopP d x 1 (by omega)
  hopP d x 2 (by omega)
  hopP d x 3 (by omega)
  hopP d x 4 (by omega)
  hopP d x 5 (by omega)
  hop7P d x
  epiP

end Cert.KernelIdeal.Ring

end
-- ==== Proof.KI.Geo.lean ====
module

public import proofs.«01_k».proof.Proof.KI.Prog
public import Idealize.ShloMosaic.Lib.Rounds
public import Idealize.ShloMosaic.Lib.Pipeline.RegionTalk
public import Idealize.ShloMosaic.Lib.Tactic

/-! # The ring, its transfers, and the blocks of the exchange buffer -/

@[expose] public section

set_option synthInstance.maxSize 4096

noncomputable section

namespace Cert.KernelIdeal.Ring

open Idealize.ShloMosaic Idealize.SL.Sem
open Cert.KernelIdeal.Gen

variable {F : FTy → Type} [FloatOps F] [Named F]

/-! ## The ring -/

/-- The device at a place of the ring, and a device's place. -/
def ringAt : Fin 16 → Dev nD := ![0, 4, 8, 12, 15, 11, 7, 3, 2, 6, 10, 14, 13, 9, 5, 1]
@[inherit_doc ringAt] def posOf : Dev nD → Fin 16 := ![0, 15, 8, 7, 1, 14, 9, 6, 2, 13, 10, 5, 3, 12, 11, 4]

/-- The device `k` places ahead of `c`. -/
def nb (c : Dev nD) (k : Fin 16) : Dev nD := ringAt (posOf c + k)

theorem nb_zero (c : Dev nD) : nb c 0 = c := by revert c; decide +kernel
theorem nb_nb (c : Dev nD) (k l : Fin 16) : nb (nb c k) l = nb c (k + l) := by revert c k l; decide +kernel
theorem nb_inj (c : Dev nD) (k l : Fin 16) (h : nb c k = nb c l) : k = l := by revert c k l; decide +kernel
theorem nb_surj (c : Dev nD) (j : Dev nD) : nb c (posOf j - posOf c) = j := by revert c j; decide +kernel

/-! ## The transfers -/

/-- Whether transfer `n` goes to the device behind. -/
def isL (n : Fin 30) : Bool := n.val % 2 = 1 && n.val < 28
/-- Which half of a pair of blocks it carries. -/
def half (n : Fin 30) : Fin 2 := if n.val < 28 then ⟨n.val % 4 / 2, by omega⟩ else ⟨n.val % 2, by omega⟩
/-- Where the block it carries stands, counted from the sender and from the receiver. -/
def srcK (n : Fin 30) : Fin 16 := if isL n then ⟨n.val / 4, by omega⟩ else 0 - ⟨n.val / 4, by omega⟩
@[inherit_doc srcK] def dstK (n : Fin 30) : Fin 16 := if isL n then srcK n + 1 else srcK n - 1
/-- To whom it goes. -/
def peer (c : Dev nD) (n : Fin 30) : Dev nD := nb c (if isL n then 15 else 1)

theorem devT_eq (c : Dev nD) (n : Fin 30) : devT c n = peer c n := by revert c n; decide +kernel
theorem dev1_eq (c : Dev nD) : (⟨k0_dev1 c, k0_dev1_lt c⟩ : Dev nD) = nb c 15 := by revert c; decide +kernel
theorem dev2_eq (c : Dev nD) : (⟨k0_dev2 c, k0_dev2_lt c⟩ : Dev nD) = nb c 1 := by revert c; decide +kernel
theorem src_dst (c : Dev nD) (n : Fin 30) : nb c (srcK n) = nb (peer c n) (dstK n) := by revert c n; decide +kernel

theorem sendNo_inj (n n' : Fin 30) (h : sendNo n = sendNo n') : n = n' := by revert n n'; decide +kernel
theorem recvNo_inj (n n' : Fin 30) (h : recvNo n = recvNo n') : n = n' := by revert n n'; decide +kernel

/-- What a semaphore of the ring arrays is for: 1 a sender's, 2 a receiver's, 0 neither; and for which transfer. -/
def kindOf (s : DmaSem sig) : Fin 3 := if ∃ n, sendNo n = s then 1 else if ∃ n, recvNo n = s then 2 else 0
@[inherit_doc kindOf] def trOf (s : DmaSem sig) : Fin 30 := ((List.finRange 30).find? fun n => sendNo n = s ∨ recvNo n = s).getD 0

theorem kind_send (n : Fin 30) : kindOf (sendNo n) = 1 := by revert n; decide +kernel
theorem kind_recv (n : Fin 30) : kindOf (recvNo n) = 2 := by revert n; decide +kernel
theorem tr_send (n : Fin 30) : trOf (sendNo n) = n := by revert n; decide +kernel
theorem tr_recv (n : Fin 30) : trOf (recvNo n) = n := by revert n; decide +kernel
theorem send_ne_recv (n n' : Fin 30) : sendNo n ≠ recvNo n' := by revert n n'; decide +kernel

/-! ## The blocks -/

/-- The offsets of half `p` of device `j`'s pair. -/
def slotOff (j : Dev nD) (p : Fin 2) : Fin 4 → Nat := ![j.val, p.val, 0, 0]
theorem slotOff_inb (j : Dev nD) (p : Fin 2) : ∀ a, slotOff j p a + S1x1x512x256.size a ≤ S16x2x512x256.size a := by
  revert j p; decide +kernel

def slot (j : Dev nD) (p : Fin 2) : Memref sig .tc .vmem S512x256 .bf16 := slotM (slotOff j p) (slotOff_inb j p)

theorem off1_eq (d : Dev nD) : k0_off1 d = slotOff d 0 := by revert d; decide +kernel
theorem off2_eq (d : Dev nD) : k0_off2 d = slotOff d 1 := by revert d; decide +kernel
theorem off3_eq (d : Dev nD) (h : Fin 8) : k0_off3 d (BitVec.ofNat 32 h.val) = slotOff (nb d (srcK ⟨4 * h.val, by omega⟩)) (half ⟨4 * h.val, by omega⟩) := by
  revert d h; decide +kernel
theorem off4_eq (d : Dev nD) (h : Fin 7) : k0_off4 d (BitVec.ofNat 32 h.val) = slotOff (nb d (srcK ⟨4 * h.val + 1, by omega⟩)) (half ⟨4 * h.val + 1, by omega⟩) := by
  revert d h; decide +kernel
theorem off5_eq (d : Dev nD) (h : Fin 7) : k0_off5 d (BitVec.ofNat 32 h.val) = slotOff (nb d (srcK ⟨4 * h.val + 2, by omega⟩)) (half ⟨4 * h.val + 2, by omega⟩) := by
  revert d h; decide +kernel
theorem off5_last (d : Dev nD) : k0_off5 d (BitVec.ofNat 32 ((7 : Fin 8)).val) = slotOff (nb d (srcK 29)) (half 29) := by
  revert d; decide +kernel
theorem off6_eq (d : Dev nD) (h : Fin 7) : k0_off6 d (BitVec.ofNat 32 h.val) = slotOff (nb d (srcK ⟨4 * h.val + 3, by omega⟩)) (half ⟨4 * h.val + 3, by omega⟩) := by
  revert d h; decide +kernel
/-- The blocks read are the landed ones. -/
theorem off9_eq (d : Dev nD) (r : Fin 7) : k0_off9 d (BitVec.ofNat 32 (1 + r.val)) = slotOff (nb d (dstK ⟨4 * r.val, by omega⟩)) (half ⟨4 * r.val, by omega⟩) := by
  revert d r; decide +kernel
theorem off12_eq (d : Dev nD) (r : Fin 7) : k0_off12 d (BitVec.ofNat 32 (1 + r.val)) = slotOff (nb d (dstK ⟨4 * r.val + 2, by omega⟩)) (half ⟨4 * r.val + 2, by omega⟩) := by
  revert d r; decide +kernel
theorem off13_eq (d : Dev nD) (r : Fin 7) : k0_off13 d (BitVec.ofNat 32 (1 + r.val)) = slotOff (nb d (dstK ⟨4 * r.val + 1, by omega⟩)) (half ⟨4 * r.val + 1, by omega⟩) := by
  revert d r; decide +kernel
theorem off16_eq (d : Dev nD) (r : Fin 7) : k0_off16 d (BitVec.ofNat 32 (1 + r.val)) = slotOff (nb d (dstK ⟨4 * r.val + 3, by omega⟩)) (half ⟨4 * r.val + 3, by omega⟩) := by
  revert d r; decide +kernel
theorem off13_last (d : Dev nD) : k0_off13 d (BitVec.ofNat 32 (1 + ((7 : Fin 8)).val)) = slotOff (nb d (dstK 28)) (half 28) := by
  revert d; decide +kernel
theorem off16_last (d : Dev nD) : k0_off16 d (BitVec.ofNat 32 (1 + ((7 : Fin 8)).val)) = slotOff (nb d (dstK 29)) (half 29) := by
  revert d; decide +kernel

/-- The offsets of a head's keys and values, head `r` of device `j`'s four. -/
def headOff (j : Dev nD) (r : Fin 4) : Fin 3 → Nat := ![4 * j.val + r.val, 0, 0]
theorem off7_eq (d : Dev nD) (r : Fin 4) : k0_off7 d (BitVec.ofNat 32 r.val) = headOff d r := by revert d r; decide +kernel
theorem off8_eq (d : Dev nD) (r : Fin 4) : k0_off8 d (BitVec.ofNat 32 r.val) = headOff d r := by revert d r; decide +kernel
theorem off10_eq (d : Dev nD) (r : Fin 7) (q : Fin 4) : k0_off10 d (BitVec.ofNat 32 (1 + r.val)) (BitVec.ofNat 32 q.val) = headOff (nb d (dstK ⟨4 * r.val, by omega⟩)) q := by
  revert d r q; decide +kernel
theorem off11_eq (d : Dev nD) (r : Fin 7) (q : Fin 4) : k0_off11 d (BitVec.ofNat 32 (1 + r.val)) (BitVec.ofNat 32 q.val) = headOff (nb d (dstK ⟨4 * r.val, by omega⟩)) q := by
  revert d r q; decide +kernel
theorem off14_eq (d : Dev nD) (r : Fin 7) (q : Fin 4) : k0_off14 d (BitVec.ofNat 32 (1 + r.val)) (BitVec.ofNat 32 q.val) = headOff (nb d (dstK ⟨4 * r.val + 1, by omega⟩)) q := by
  revert d r q; decide +kernel
theorem off15_eq (d : Dev nD) (r : Fin 7) (q : Fin 4) : k0_off15 d (BitVec.ofNat 32 (1 + r.val)) (BitVec.ofNat 32 q.val) = headOff (nb d (dstK ⟨4 * r.val + 1, by omega⟩)) q := by
  revert d r q; decide +kernel
theorem off14_last (d : Dev nD) (q : Fin 4) : k0_off14 d (BitVec.ofNat 32 (1 + ((7 : Fin 8)).val)) (BitVec.ofNat 32 q.val) = headOff (nb d (dstK 28)) q := by
  revert d q; decide +kernel
theorem off15_last (d : Dev nD) (q : Fin 4) : k0_off15 d (BitVec.ofNat 32 (1 + ((7 : Fin 8)).val)) (BitVec.ofNat 32 q.val) = headOff (nb d (dstK 28)) q := by
  revert d q; decide +kernel

theorem slotM_congr {o o' : Fin 4 → Nat} (e : o = o') (h h') : slotM o h = slotM o' h' := by subst e; rfl
theorem mRa_eq (d : Dev nD) (h : Fin 8) : mRa d h = slot (nb d (srcK ⟨4 * h.val, by omega⟩)) (half ⟨4 * h.val, by omega⟩) := slotM_congr (off3_eq d h) _ _
theorem mLa_eq (d : Dev nD) (h : Fin 7) : mLa d h = slot (nb d (srcK ⟨4 * h.val + 1, by omega⟩)) (half ⟨4 * h.val + 1, by omega⟩) := slotM_congr (off4_eq d h) _ _
theorem mRb_eq (d : Dev nD) (h : Fin 7) : mRb d ⟨h.val, by omega⟩ = slot (nb d (srcK ⟨4 * h.val + 2, by omega⟩)) (half ⟨4 * h.val + 2, by omega⟩) := slotM_congr (off5_eq d h) _ _
theorem mRb_last (d : Dev nD) : mRb d 7 = slot (nb d (srcK 29)) (half 29) := slotM_congr (off5_last d) _ _
theorem mLb_eq (d : Dev nD) (h : Fin 7) : mLb d h = slot (nb d (srcK ⟨4 * h.val + 3, by omega⟩)) (half ⟨4 * h.val + 3, by omega⟩) := slotM_congr (off6_eq d h) _ _

theorem mem_slot (j : Dev nD) (p : Fin 2) (i : S16x2x512x256.Idx) :
    i ∈ (slot j p).view.set ↔ (i 0).val = j.val ∧ (i 1).val = p.val := by
  have hs : (slot j p).view.set = (Rect.unit (s := S16x2x512x256) (slotOff j p) S1x1x512x256.size (slotOff_inb j p)).set :=
    (View.set_reshape _ _).trans (View.set_slice_whole _ _)
  rw [show (i ∈ (slot j p).view.set) = (i ∈ (Rect.unit (s := S16x2x512x256) (slotOff j p) S1x1x512x256.size (slotOff_inb j p)).set) from congrArg (i ∈ ·) hs,
    Rect.mem_set_unit]
  constructor
  · intro h
    have h0 := h 0; have h1 := h 1
    simp only [slotOff] at h0 h1
    have e0 : S1x1x512x256.size 0 = 1 := rfl
    have e1 : S1x1x512x256.size 1 = 1 := rfl
    simp at h0 h1
    omega
  · rintro ⟨h0, h1⟩ a
    have hb := (i a).isLt
    fin_cases a
    · simp [slotOff, h0]
    · simp [slotOff, h1]
    · simpa [slotOff] using hb
    · simpa [slotOff] using hb

end Cert.KernelIdeal.Ring

end
-- ==== Proof.KI.Sched.lean ====
module

public import proofs.«01_k».proof.Proof.KI.Geo

/-! # The exchange's protocol: cells, payloads, what is owed, levels -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The pipeline library's ghost state and the exchange's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-! ## Big separating conjunctions, spelt for the proof mode -/

section BigSep
variable {I : Type} [DecidableEq I]

theorem bs_elim {s : Finset I} {i : I} (h : i ∈ s) {Φ : I → sProp 𝕄} : (bigSep s Φ : sProp 𝕄) ⊢ Φ i := bigSep_elim h
theorem bs_erase {s : Finset I} {i : I} (h : i ∈ s) (Φ : I → sProp 𝕄) :
    bigSep s Φ = iprop(Φ i ∗ bigSep (s.erase i) Φ) := bigSep_erase h
theorem bs_insert {s : Finset I} {i : I} (h : i ∉ s) (Φ : I → sProp 𝕄) :
    bigSep (insert i s) Φ = iprop(Φ i ∗ bigSep s Φ) := bigSep_insert h
theorem bs_union {s t : Finset I} (h : Disjoint s t) (Φ : I → sProp 𝕄) :
    bigSep (s ∪ t) Φ = iprop(bigSep s Φ ∗ bigSep t Φ) := bigSep_union h
theorem bs_sep (s : Finset I) (Φ Ψ : I → sProp 𝕄) :
    bigSep s (fun i => iprop(Φ i ∗ Ψ i)) = iprop(bigSep s Φ ∗ bigSep s Ψ) := bigSep_sep s Φ Ψ
end BigSep

/-! ## Cells and blocks -/

abbrev barCell (c : Dev nD) : GSem nD τ sig := ((c : Thread nD τ), .reg barS)
abbrev sendCell (c : Dev nD) (n : Fin 30) : GSem nD τ sig := ((c : Thread nD τ), .dma (sendNo n))
abbrev recvCell (c : Dev nD) (n : Fin 30) : GSem nD τ sig := ((c : Thread nD τ), .dma (recvNo n))

/-- What one copy of a block is counted as. -/
abbrev N : ℕ := (slot 0 0).view.dmaCredit
theorem N_pos : 0 < N := View.dmaCredit_pos _ (by decide)

/-- The contents of the exchange buffer. -/
abbrev BufC (c : Dev nD) : Type := Buf (Elt F) (mBuf.view.loc (c : Thread nD τ))

/-- The entries of half `p` of pair `j`. -/
def slotSet (j : Dev nD) (p : Fin 2) : Finset S16x2x512x256.Idx := (slot j p).view.set
/-- Half `p` of pair `j` in device `c`'s buffer. -/
def sPt (c : Dev nD) (j : Dev nD) (p : Fin 2) (q : PosShare TreeShare) (f : BufC (F := F) c) : sProp 𝕄 :=
  mBuf.view.loc (c : Thread nD τ) ↦[slotSet j p]{q} f

theorem sPt_view (c : Dev nD) (j : Dev nD) (p : Fin 2) (q : PosShare TreeShare) (f : BufC (F := F) c) :
    sPt c j p q f = ((slot j p).view.loc (c : Thread nD τ) ↦[(slot j p).view.set]{q} f : sProp 𝕄) := rfl

instance sPt_storable (c : Dev nD) (j : Dev nD) (p : Fin 2) (q : PosShare TreeShare) (f : BufC (F := F) c) :
    BI.Storable (upEmb : UEmb _ 𝕄) (sPt c j p q f) := by
  unfold sPt; infer_instance

variable (WQ WO : Dev nD → Vec F S512x256 .bf16)

/-- A block as it is stored. -/
def pay (j : Dev nD) (p : Fin 2) : FVec F S1x1x512x256 .bf16 := if p = 0 then k0_pay1 (WQ j) else k0_pay2 (WO j)

/-- The place of an entry inside its block. -/
def inSlot (i : S16x2x512x256.Idx) : S1x1x512x256.Idx := fun a => match a with
  | 0 => ⟨0, by decide⟩ | 1 => ⟨0, by decide⟩ | 2 => ⟨(i 2).val, (i 2).isLt⟩ | 3 => ⟨(i 3).val, (i 3).isLt⟩

/-- What the buffer holds on every device once all blocks have come. -/
def BUF (c : Dev nD) : BufC (F := F) c := fun i : S16x2x512x256.Idx => pay WQ WO (i 0) (i 1) (inSlot i)

/-- The share of a block a transfer carries off. -/
def shr (n : Fin 30) : PosShare TreeShare :=
  if n.val < 4 then (if n.val % 2 = 0 then fullShare.right.left else fullShare.right.right) else fullShare.right

def srcPt (c : Dev nD) (n : Fin 30) : sProp 𝕄 := sPt c (nb c (srcK n)) (half n) (shr n) (BUF WQ WO c)
def landPt (c : Dev nD) (n : Fin 30) : sProp 𝕄 := sPt c (nb c (dstK n)) (half n) fullShare (BUF WQ WO c)
/-- Transfer `n`'s landing block on its receiver, at contents not chosen. -/
def goal (c : Dev nD) (n : Fin 30) : sProp 𝕄 := iprop(∃ f, sPt (peer c n) (nb c (srcK n)) (half n) fullShare f)

/-! ## The schedule -/

def barPay (c : Dev nD) (b : Bool) : sProp 𝕄 :=
  bigSep (Finset.univ.filter fun n => isL n = b) fun n => iprop(goal c n ∗ reached ER (recvCell (peer c n) n) 0)

def Rd : Rounds.Schedule (GSem nD τ sig) Bool 𝕄 where
  duties g r := if r = 0 ∧ g.1.2 = .tc then (match g.2 with | .reg _ => Finset.univ | .dma s => if kindOf s = 0 then ∅ else {false}) else ∅
  unitless _ := False
  amount g _ _ := match g.2 with | .reg _ => 1 | .dma _ => N
  payload g _ d := match g.2 with
    | .reg _ => barPay g.1.1 d
    | .dma s => if kindOf s = 1 then srcPt WQ WO g.1.1 (trOf s) else if kindOf s = 2 then landPt WQ WO g.1.1 (trOf s) else iprop(emp)
  amount_pos g _ _ _ := by
    rcases g with ⟨t, s | s⟩
    · exact Nat.one_pos
    · exact N_pos

instance Rd_payload_storable (g : GSem nD τ sig) (r : ℕ) (d : Bool) :
    BI.Storable (upEmb : UEmb _ 𝕄) ((Rd (F := F) WQ WO).payload g r d) := by
  rcases g with ⟨t, s | s⟩
  · show BI.Storable upEmb (barPay t.1 d)
    unfold barPay goal; infer_instance
  · show BI.Storable upEmb (if kindOf s = 1 then srcPt WQ WO t.1 (trOf s) else if kindOf s = 2 then landPt WQ WO t.1 (trOf s) else iprop(emp))
    unfold srcPt landPt
    (repeat' split) <;> infer_instance

section Tables

variable (c : Dev nD) (n : Fin 30)

theorem duties_bar : (Rd (F := F) WQ WO).duties (barCell c) 0 = Finset.univ := by dsimp only [Rd]; exact if_pos ⟨rfl, rfl⟩
theorem duties_send : (Rd (F := F) WQ WO).duties (sendCell c n) 0 = {false} := by
  dsimp only [Rd]; rw [if_pos ⟨rfl, rfl⟩, if_neg (by rw [kind_send]; decide)]
theorem duties_recv : (Rd (F := F) WQ WO).duties (recvCell c n) 0 = {false} := by
  dsimp only [Rd]; rw [if_pos ⟨rfl, rfl⟩, if_neg (by rw [kind_recv]; decide)]
theorem duties_later (g : GSem nD τ sig) : ∀ r, 0 + 1 ≤ r → (Rd (F := F) WQ WO).duties g r = ∅ :=
  fun r hr => by dsimp only [Rd]; rw [if_neg (fun h => by omega)]
theorem amount_bar (b : Bool) : (Rd (F := F) WQ WO).amount (barCell c) 0 b = 1 := rfl
theorem amount_send (b : Bool) : (Rd (F := F) WQ WO).amount (sendCell c n) 0 b = N := rfl
theorem amount_recv (b : Bool) : (Rd (F := F) WQ WO).amount (recvCell c n) 0 b = N := rfl
theorem payload_bar (b : Bool) : (Rd (F := F) WQ WO).payload (barCell c) 0 b = barPay c b := rfl
theorem payload_send (b : Bool) : (Rd (F := F) WQ WO).payload (sendCell c n) 0 b = srcPt WQ WO c n := by
  dsimp only [Rd]; rw [if_pos (kind_send n), tr_send]
theorem payload_recv (b : Bool) : (Rd (F := F) WQ WO).payload (recvCell c n) 0 b = landPt WQ WO c n := by
  dsimp only [Rd]; rw [if_neg (by rw [kind_recv]; decide), if_pos (kind_recv n), tr_recv]
theorem expect_bar : (Rd (F := F) WQ WO).expect (barCell c) 0 = 2 := by
  unfold Schedule.expect Schedule.amountOf; rw [duties_bar]; rfl
theorem expect_send : (Rd (F := F) WQ WO).expect (sendCell c n) 0 = N := by
  unfold Schedule.expect Schedule.amountOf; rw [duties_send, Finset.sum_singleton, amount_send]
theorem expect_recv : (Rd (F := F) WQ WO).expect (recvCell c n) 0 = N := by
  unfold Schedule.expect Schedule.amountOf; rw [duties_recv, Finset.sum_singleton, amount_recv]
theorem rest_bar : bigSep ((Rd (F := F) WQ WO).duties (barCell c) 0 \ ∅) (fun u => (Rd (F := F) WQ WO).payload (barCell c) 0 u)
    = bigSep Finset.univ fun n => iprop(goal (F := F) c n ∗ reached ER (recvCell (peer c n) n) 0) := by
  rw [Finset.sdiff_empty, duties_bar,
    show (Finset.univ : Finset Bool) = insert false {true} from by decide, bigSep_insert (by decide), bigSep_singleton, payload_bar, payload_bar]
  unfold barPay
  rw [← bigSep_union (by rw [Finset.disjoint_filter]; intro n _ h h'; rw [h] at h'; cases h')]
  congr 1
  ext n; simp
theorem rest_send : bigSep ((Rd (F := F) WQ WO).duties (sendCell c n) 0 \ ∅) (fun u => (Rd (F := F) WQ WO).payload (sendCell c n) 0 u) = srcPt WQ WO c n := by
  rw [Finset.sdiff_empty, duties_send, bigSep_singleton, payload_send]
theorem rest_recv : bigSep ((Rd (F := F) WQ WO).duties (recvCell c n) 0 \ ∅) (fun u => (Rd (F := F) WQ WO).payload (recvCell c n) 0 u) = landPt WQ WO c n := by
  rw [Finset.sdiff_empty, duties_recv, bigSep_singleton, payload_recv]

end Tables

/-! ## What is owed, and the levels -/

/-- The peers' landing credits of transfers `i` and later. -/
def Ow (c : Dev nD) (i : ℕ) : CellTallies nD τ sig Unit :=
  ∑ n ∈ Finset.univ.filter (fun n : Fin 30 => i ≤ n.val), tallyAt (recvCell (peer c n) n) () N

theorem Ow_step (c : Dev nD) (n : Fin 30) : Ow c n.val = Ow c (n.val + 1) + tallyAt (recvCell (peer c n) n) () N := by
  unfold Ow
  rw [add_comm, ← Finset.sum_insert (s := Finset.univ.filter (fun k : Fin 30 => n.val + 1 ≤ k.val)) (a := n)
    (f := fun k => (tallyAt (recvCell (peer c k) k) () N : CellTallies nD τ sig Unit)) (by simp)]
  congr 1
  ext k; simp only [Finset.mem_filter, Finset.mem_univ, true_and, Finset.mem_insert, Fin.ext_iff]; omega

theorem Ow_end (c : Dev nD) (i : ℕ) (hi : 30 ≤ i) : Ow c i = 0 := by
  unfold Ow
  rw [Finset.filter_false_of_mem (fun n _ => by have := n.isLt; omega)]; rfl

def O₀ (c : Dev nD) : CellTallies nD τ sig Unit := Ow c 0 + tallyAt (barCell (nb c 1)) () 1 + tallyAt (barCell (nb c 15)) () 1

def L (g : GSem nD τ sig) : Finset Unit := if g.1.2 = .tc then {()} else ∅
/-- Barrier cells at 1, the cells of transfer `n` at `n + 2`, the rest at 0. -/
def lv (g : GSem nD τ sig) (_ : Unit) : ℕ := match g.2 with
  | .reg _ => 1
  | .dma s => if kindOf s = 0 then 0 else (trOf s).val + 2

theorem L_of_ne (g : GSem nD τ sig) (h : g.1.2 ≠ .tc) : L g = ∅ := if_neg h
theorem L_tc (c : Dev nD) (sm : SemLoc sig) : L ((c : Thread nD τ), sm) = {()} := if_pos rfl
theorem lv_send (c : Dev nD) (n : Fin 30) : lv (sendCell c n) () = n.val + 2 := by
  dsimp only [lv]; rw [if_neg (by rw [kind_send]; decide), tr_send]
theorem lv_recv (c : Dev nD) (n : Fin 30) : lv (recvCell c n) () = n.val + 2 := by
  dsimp only [lv]; rw [if_neg (by rw [kind_recv]; decide), tr_recv]

theorem Ow_pos (c : Dev nD) (i : ℕ) (g : GSem nD τ sig) (u : Unit) (h : 0 < Ow c i g u) :
    ∃ n : Fin 30, i ≤ n.val ∧ g = recvCell (peer c n) n := by
  have hs : ∀ (S : Finset (Fin 30)), (∑ n ∈ S, (tallyAt (recvCell (peer c n) n) () N : CellTallies nD τ sig Unit)) g u
      = ∑ n ∈ S, (tallyAt (recvCell (peer c n) n) () N : CellTallies nD τ sig Unit) g u := by
    intro S
    induction S using Finset.induction_on with
    | empty => rfl
    | insert a S ha ih => rw [Finset.sum_insert ha, Finset.sum_insert ha, ← ih]; rfl
  unfold Ow at h
  rw [hs] at h
  obtain ⟨n, hn, hp⟩ := Finset.exists_ne_zero_of_sum_ne_zero (Nat.pos_iff_ne_zero.mp h)
  refine ⟨n, (Finset.mem_filter.mp hn).2, ?_⟩
  rw [tallyAt_apply] at hp
  by_contra hg
  exact hp (if_neg (fun h => hg h.1))

theorem mayWait_bar (c : Dev nD) : (levAts L lv : sProp 𝕄) ⊢ MayWait (c : Thread nD τ) (.reg barS) () (Ow c 0) :=
  MayOwe.of_cut (L := L) (lev := lv) 1 (fun p hp => by rw [Finset.mem_singleton.mp hp, L_tc]; exact Finset.mem_singleton_self _)
    (fun g u hg => by
      obtain ⟨n, _, rfl⟩ := Ow_pos c 0 g u hg
      rw [L_tc]; exact Finset.mem_singleton_self _)
    (fun p hp => by rw [Finset.mem_singleton.mp hp]; exact le_refl _)
    (fun g u hg => by
      obtain ⟨n, _, rfl⟩ := Ow_pos c 0 g u hg
      rw [lv_recv]; omega)

theorem mayWait_send (c : Dev nD) (n : Fin 30) (i : ℕ) (hi : n.val < i) :
    (levAts L lv : sProp 𝕄) ⊢ MayWait (c : Thread nD τ) (.dma (sendNo n)) () (Ow c i) :=
  MayOwe.of_cut (L := L) (lev := lv) (n.val + 2) (fun p hp => by rw [Finset.mem_singleton.mp hp, L_tc]; exact Finset.mem_singleton_self _)
    (fun g u hg => by
      obtain ⟨n, _, rfl⟩ := Ow_pos c i g u hg
      rw [L_tc]; exact Finset.mem_singleton_self _)
    (fun p hp => by rw [Finset.mem_singleton.mp hp]; exact le_of_eq (lv_send c n))
    (fun g u hg => by
      obtain ⟨n', h', rfl⟩ := Ow_pos c i g u hg
      rw [lv_recv]; omega)

theorem mayWait_recv (c : Dev nD) (n : Fin 30) (i : ℕ) (hi : n.val < i) :
    (levAts L lv : sProp 𝕄) ⊢ MayWait (c : Thread nD τ) (.dma (recvNo n)) () (Ow c i) :=
  MayOwe.of_cut (L := L) (lev := lv) (n.val + 2) (fun p hp => by rw [Finset.mem_singleton.mp hp, L_tc]; exact Finset.mem_singleton_self _)
    (fun g u hg => by
      obtain ⟨n, _, rfl⟩ := Ow_pos c i g u hg
      rw [L_tc]; exact Finset.mem_singleton_self _)
    (fun p hp => by rw [Finset.mem_singleton.mp hp]; exact le_of_eq (lv_recv c n))
    (fun g u hg => by
      obtain ⟨n', h', rfl⟩ := Ow_pos c i g u hg
      rw [lv_recv]; omega)

/-! ## The ghost state -/

/-- The cells of one device that are scoped to the launch. -/
abbrev SC : Type := Fin 30 × Bool
abbrev scCell (c : Dev nD) (s : SC) : GSem nD τ sig := if s.2 then recvCell c s.1 else sendCell c s.1

def allInv (K : GSem nD τ sig → ℕ) : sProp 𝕄 :=
  iprop((bigSep Finset.univ fun c : Dev nD => cellInv ER (Rd WQ WO) (K (barCell c)) (barCell c))
    ∗ (bigSep Finset.univ fun x : Dev nD × SC => cellInv ER (Rd WQ WO) (K (scCell x.1 x.2)) (scCell x.1 x.2)))

instance allInv_persistent (K : GSem nD τ sig → ℕ) : BI.Persistent (allInv WQ WO K) := by unfold allInv; infer_instance

theorem allInv_bar (K : GSem nD τ sig → ℕ) (c : Dev nD) : allInv WQ WO K ⊢ cellInv ER (Rd WQ WO) (K (barCell c)) (barCell c) := by
  unfold allInv
  iintro ⟨H, -⟩
  iapply (bs_elim (Finset.mem_univ c) (Φ := fun c : Dev nD => cellInv ER (Rd WQ WO) (K (barCell c)) (barCell c))) $$ H
theorem allInv_send (K : GSem nD τ sig → ℕ) (c : Dev nD) (n : Fin 30) : allInv WQ WO K ⊢ cellInv ER (Rd WQ WO) (K (sendCell c n)) (sendCell c n) := by
  unfold allInv
  iintro ⟨-, H⟩
  iapply (bs_elim (Finset.mem_univ ((c, (n, false)) : Dev nD × SC)) (Φ := fun x : Dev nD × SC => cellInv ER (Rd WQ WO) (K (scCell x.1 x.2)) (scCell x.1 x.2))) $$ H
theorem allInv_recv (K : GSem nD τ sig → ℕ) (c : Dev nD) (n : Fin 30) : allInv WQ WO K ⊢ cellInv ER (Rd WQ WO) (K (recvCell c n)) (recvCell c n) := by
  unfold allInv
  iintro ⟨-, H⟩
  iapply (bs_elim (Finset.mem_univ ((c, (n, true)) : Dev nD × SC)) (Φ := fun x : Dev nD × SC => cellInv ER (Rd WQ WO) (K (scCell x.1 x.2)) (scCell x.1 x.2))) $$ H

/-- What a transfer not yet started needs, but for its source. -/
def pend (c : Dev nD) (n : Fin 30) : sProp 𝕄 :=
  iprop(dutyTok ER (sendCell c n) 0 false ∗ dutyTok ER (recvCell (peer c n) n) 0 false ∗ reached ER (sendCell c n) 0
    ∗ (goal c n ∗ reached ER (recvCell (peer c n) n) 0)
    ∗ atPos ER (sendCell c n) 0 ∅ 0 ∗ atPos ER (recvCell c n) 0 ∅ 0 ∗ cred (tallyAt (recvCell c n) () N))

/-- What its two waits need. -/
def fly (c : Dev nD) (n : Fin 30) : sProp 𝕄 :=
  iprop(cred (tallyAt (sendCell c n) () N) ∗ atPos ER (sendCell c n) 0 ∅ 0 ∗ atPos ER (recvCell c n) 0 ∅ 0 ∗ cred (tallyAt (recvCell c n) () N))

/-- What they leave, but for the landed block. -/
def dn (c : Dev nD) (n : Fin 30) : sProp 𝕄 :=
  iprop(semVal (sendCell c n) 0 ∗ semVal (recvCell c n) 0 ∗ srcPt WQ WO c n)

def ow (c : Dev nD) (i : ℕ) : sProp 𝕄 := iprop(∃ W, owes (c : Thread nD τ) (Ow c i) W)

theorem close (κ : ℕ) (g : GSem nD τ sig) :
    iprop(cellInv ER (Rd WQ WO) κ g ∗ atPos ER g (0 + 1) ∅ 0) ⊢ (|={Set.univ}=> semVal g 0 : sProp 𝕄) :=
  Rounds.cell_close ER (Rd WQ WO) (Set.mem_univ κ) id (duties_later WQ WO g)

end Cert.KernelIdeal.Ring

end
-- ==== Proof.KI.Pieces.lean ====
module

public import proofs.«01_k».proof.Proof.KI.Sched

/-! # The exchange's steps: start a transfer, wait for one -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (WQ WO : Dev nD → Vec F S512x256 .bf16)

/-- A program run on device `c`. -/
abbrev wpc {α : Type} (c : Dev nD) (p : PR F α) (Q : α → sProp 𝕄) : sProp 𝕄 :=
  wp frame (wpE (defs₀ (F := F)) 𝒱₀ (c : Thread nD τ) none) Set.univ p Q

theorem wpc_ret {α : Type} (c : Dev nD) (a : α) (Q : α → sProp 𝕄) : Q a ⊢ wpc c (Prog.ret a) Q := le_wp_ret _ _ _ a Q

/-- Rewriting a block with what it holds elsewhere leaves it at that. -/
theorem landed_eq (c c' : Dev nD) (j : Dev nD) (p : Fin 2) (fd : BufC (F := F) c') :
    ((slot j p).view.loc (c' : Thread nD τ) ↦[(slot j p).view.set]{fullShare}
        ((slot j p).view.write (Elt F) fd ((slot j p).view.read (Elt F) (BUF WQ WO c)) Finset.univ) : sProp 𝕄)
      = sPt c' j p fullShare (BUF WQ WO c') := by
  rw [sPt_view]
  refine pointsTo_congr fun i hi => ?_
  obtain ⟨x, -, rfl⟩ := Finset.mem_map.mp hi
  exact (View.write_emb_of_mem (v := (slot j p).view) (Val := Elt F) fd ((slot j p).view.read (Elt F) (BUF WQ WO c)) (Finset.mem_univ x)).trans rfl

theorem N_eq (j : Dev nD) (p : Fin 2) (sR : DmaSem sig) : (slot j p).view.amount (.dma sR) = N := rfl

theorem send_run (K : GSem nD τ sig → ℕ) (c : Dev nD) (n : Fin 30) (dev : Dev nD) (hdev : dev = peer c n)
    (m : Memref sig .tc .vmem S512x256 .bf16) (hm : m.view.WordExact) (em : m = slot (nb c (srcK n)) (half n))
    (i : ℕ) (hi : i = n.val) (Q : PUnit → sProp 𝕄) :
    iprop(allInv WQ WO K ∗ pend c n ∗ srcPt WQ WO c n ∗ ow c i)
      ⊢ iprop((fly c n ∗ ow c (i + 1) -∗ Q ⟨⟩) -∗ wpc c (sendP dev (sendNo n) (recvNo n) m hm) Q) := by
  subst hdev em hi
  unfold pend ow sendP goal
  iintro ⟨#HI, ⟨HtS, HtR, #HrS, ⟨⟨%fd, Hd⟩, #HrR⟩, HaS, HaR, HcR⟩, Hs, ⟨%W, HO⟩⟩ Hk
  ihave #HIs := (allInv_send WQ WO K c n) $$ HI
  ihave #HIr := (allInv_recv WQ WO K (peer c n) n) $$ HI
  ihave Hs := (Entails.of_eq ((show srcPt WQ WO c n = sPt c (nb c (srcK n)) (half n) (shr n) (BUF WQ WO c) from rfl).trans (sPt_view ..))) $$ Hs
  ihave Hd := (Entails.of_eq (sPt_view ..)) $$ Hd
  iapply (Rounds.wp_send_pointsTo 𝒱₀ ER (Rd WQ WO) (c : Thread nD τ) none (c' := (peer c n : Thread nD τ))
      (src := slot (nb c (srcK n)) (half n)) (dst := slot (nb c (srcK n)) (half n))
      (sS := .dma (sendNo n)) (sem := .dma (recvNo n)) (q := shr n) (fs := BUF WQ WO c) (κ₁ := K (sendCell c n)) (κ₂ := K (recvCell (peer c n) n))
      (r₁ := 0) (r₂ := 0) (d₁ := false) (d₂ := false) (fd := fd)
      (by rw [duties_send]; exact Finset.mem_singleton_self _) (by rw [duties_recv]; exact Finset.mem_singleton_self _)
      () () N rfl (amount_send WQ WO c n false) (amount_recv WQ WO (peer c n) n false) (Ow c (n.val + 1)) (Ow_step c n) (W := W)
      (by rw [payload_send]; exact BI.Entails.refl _)
      (by rw [payload_recv, landed_eq WQ WO c (peer c n)]; unfold landPt; rw [← src_dst])) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply (wpc_ret c)
  iapply Hk
  isplitl [HcS HaS HaR HcR]
  · unfold fly
    isplitl [HcS]; · iexact HcS
    isplitl [HaS]; · iexact HaS
    isplitl [HaR]; · iexact HaR
    iexact HcR
  iexists W; iexact HO

theorem drain_run (K : GSem nD τ sig → ℕ) (c : Dev nD) (n : Fin 30)
    (m : Memref sig .tc .vmem S512x256 .bf16) (hm : m.view.WordExact) (em : ∃ j p, m = slot j p)
    (i : ℕ) (hi : n.val < i) (Q : PUnit → sProp 𝕄) :
    iprop(allInv WQ WO K ∗ levAts L lv ∗ fly c n ∗ ow c i)
      ⊢ iprop((dn WQ WO c n ∗ landPt WQ WO c n ∗ ow c i -∗ Q ⟨⟩) -∗ wpc c (drainP (sendNo n) (recvNo n) m hm) Q) := by
  obtain ⟨j, p, rfl⟩ := em
  unfold fly ow drainP
  rw [wpc, wp_bind]
  iintro ⟨#HI, #Hlev, ⟨HcS, HaS, HaR, HcR⟩, ⟨%W, HO⟩⟩ Hk
  ihave #HIs := (allInv_send WQ WO K c n) $$ HI
  ihave #HIr := (allInv_recv WQ WO K c n) $$ HI
  iapply (Rounds.wp_wait_rest_token 𝒱₀ ER (Rd WQ WO) (c : Thread nD τ) none (w := .waitDma2 (sendNo n) (slot j p) (slot j p) hm hm) (κ := K (sendCell c n))
      (wpE_waitDma2_eq 𝒱₀ (c : Thread nD τ) none Set.univ) (Set.mem_univ _) () (O := Ow c i) (W := W) (R := 0) (m := 0) (T := ∅)
      ((Nat.zero_add _).trans (expect_send WQ WO c n).symm)) $$ [HcS HO HaS]
  · isplitr; · iexact HIs
    isplitl [HcS]; · iexact HcS
    isplitl [HO]; · iexact HO
    isplitr; · iapply (mayWait_send c n i hi); iexact Hlev
    iexact HaS
  iintro ⟨HO, HaS, -, Hpay⟩
  ihave Hp := (Entails.of_eq (rest_send WQ WO c n)) $$ Hpay
  imod (close WQ WO (K (sendCell c n)) (sendCell c n)) $$ [HaS] with HsS
  · isplitr; · iexact HIs
    iexact HaS
  iapply (wpc_ret c)
  iapply (Rounds.wp_wait_rest_token 𝒱₀ ER (Rd WQ WO) (c : Thread nD τ) none (w := .waitDma2 (recvNo n) (slot j p) (slot j p) hm hm) (κ := K (recvCell c n))
      (wpE_waitDma2_eq 𝒱₀ (c : Thread nD τ) none Set.univ) (Set.mem_univ _) () (O := Ow c i) (R := 0) (m := 0) (T := ∅)
      ((Nat.zero_add _).trans (expect_recv WQ WO c n).symm)) $$ [HcR HO HaR]
  · isplitr; · iexact HIr
    isplitl [HcR]; · iexact HcR
    isplitl [HO]; · iexact HO
    isplitr; · iapply (mayWait_recv c n i hi); iexact Hlev
    iexact HaR
  iintro ⟨HO, HaR, -, Hpay⟩
  ihave Hl := (Entails.of_eq (rest_recv WQ WO c n)) $$ Hpay
  imod (close WQ WO (K (recvCell c n)) (recvCell c n)) $$ [HaR] with HsR
  · isplitr; · iexact HIr
    iexact HaR
  iapply (wpc_ret c)
  iapply Hk
  isplitl [HsS HsR Hp]
  · unfold dn
    isplitl [HsS]; · iexact HsS
    isplitl [HsR]; · iexact HsR
    iexact Hp
  isplitl [Hl]; · iexact Hl
  iexists _; iexact HO

/-! ## The shares of a block -/

/-- What stays with the reader of a landed block, and what is sent on. -/
def keep (c : Dev nD) (n : Fin 30) : sProp 𝕄 := sPt c (nb c (dstK n)) (half n) fullShare.left (BUF WQ WO c)
@[inherit_doc keep] def fwd (c : Dev nD) (n : Fin 30) : sProp 𝕄 := sPt c (nb c (dstK n)) (half n) fullShare.right (BUF WQ WO c)

theorem sPt_split (c j : Dev nD) (p : Fin 2) (q : PosShare TreeShare) (f : BufC (F := F) c) :
    (sPt c j p q f : sProp 𝕄) ⊣⊢ iprop(sPt c j p q.left f ∗ sPt c j p q.right f) :=
  pointsTo_share (PosShare.mem_left_op_right q)

theorem land_split (c : Dev nD) (n : Fin 30) : landPt WQ WO c n ⊣⊢ iprop(keep WQ WO c n ∗ fwd WQ WO c n) := sPt_split ..

theorem fwd_eq (c : Dev nD) (n n' : Fin 30) (hn : 4 ≤ n'.val) (hk : dstK n = srcK n') (hh : half n = half n') :
    fwd WQ WO c n = srcPt WQ WO c n' := by
  unfold fwd srcPt shr
  rw [hk, hh, if_neg (by omega)]
theorem dst_src4 : ∀ n : Fin 24, dstK (⟨n.val, by omega⟩ : Fin 30) = srcK ⟨n.val + 4, by omega⟩
    ∧ half (⟨n.val, by omega⟩ : Fin 30) = half ⟨n.val + 4, by omega⟩ := by decide +kernel
theorem fwd4 (c : Dev nD) (n : ℕ) (hn : n < 24) : fwd WQ WO c ⟨n, by omega⟩ = srcPt WQ WO c ⟨n + 4, by omega⟩ :=
  fwd_eq WQ WO c _ _ (by simp) (dst_src4 ⟨n, hn⟩).1 (dst_src4 ⟨n, hn⟩).2
theorem fwd24 (c : Dev nD) : fwd WQ WO c 24 = srcPt WQ WO c 28 := fwd_eq WQ WO c _ _ (by decide) (by decide +kernel) (by decide +kernel)
theorem fwd26 (c : Dev nD) : fwd WQ WO c 26 = srcPt WQ WO c 29 := fwd_eq WQ WO c _ _ (by decide) (by decide +kernel) (by decide +kernel)

/-- The device's own blocks before its first transfers: the readers' share, and what goes right and left. -/
def own (c : Dev nD) (p : Fin 2) (q : PosShare TreeShare) : sProp 𝕄 := sPt c (nb c 0) p q (BUF WQ WO c)

theorem own_src (c : Dev nD) :
    srcPt WQ WO c 0 = own WQ WO c 0 fullShare.right.left ∧ srcPt WQ WO c 1 = own WQ WO c 0 fullShare.right.right
      ∧ srcPt WQ WO c 2 = own WQ WO c 1 fullShare.right.left ∧ srcPt WQ WO c 3 = own WQ WO c 1 fullShare.right.right := by
  unfold srcPt own
  have e : ∀ n : Fin 30, n.val < 4 → srcK n = 0 := by decide +kernel
  refine ⟨?_, ?_, ?_, ?_⟩ <;> (rw [e _ (by decide)]; rfl)

/-! ## Ranges of transfers -/

abbrev lo (k : ℕ) : Finset (Fin 30) := Finset.univ.filter fun n => n.val < k
@[inherit_doc lo] abbrev hi (k : ℕ) : Finset (Fin 30) := Finset.univ.filter fun n => k ≤ n.val

theorem hi_step (n : Fin 30) (Φ : Fin 30 → sProp 𝕄) : bigSep (hi n.val) Φ = iprop(Φ n ∗ bigSep (hi (n.val + 1)) Φ) := by
  rw [← bs_insert (by simp)]
  congr 1
  ext k; simp only [Finset.mem_filter, Finset.mem_univ, true_and, Finset.mem_insert, Fin.ext_iff]; omega
theorem lo_step (n : Fin 30) (Φ : Fin 30 → sProp 𝕄) : bigSep (lo (n.val + 1)) Φ = iprop(Φ n ∗ bigSep (lo n.val) Φ) := by
  rw [← bs_insert (by simp)]
  congr 1
  ext k; simp only [Finset.mem_filter, Finset.mem_univ, true_and, Finset.mem_insert, Fin.ext_iff]; omega

end Cert.KernelIdeal.Ring

end
-- ==== Proof.KI.Blk.lean ====
module

public import proofs.«01_k».proof.Proof.KI.Pieces

/-! # One block's arithmetic: loads, stores, a head, a block -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- What the memref `m` names on device `c`. -/
abbrev mPt {s : Shape} {e : EltTy} (c : Dev nD) (m : Memref sig .tc .vmem s e) (q : PosShare TreeShare)
    (f : Buf (Elt F) (m.view.loc (c : Thread nD τ))) : sProp 𝕄 :=
  m.view.loc (c : Thread nD τ) ↦[m.view.set]{q} f

theorem ld_run {s : Shape} {e : EltTy} (c : Dev nD) (m : Memref sig .tc .vmem s e) (r : LoadRect s) (hl : m.view.LoadsAt r)
    (q : PosShare TreeShare) (f : Buf (Elt F) (m.view.loc (c : Thread nD τ))) (Q : (r.shape.Idx → Elt F e) → sProp 𝕄) :
    mPt c m q f ⊢ iprop((mPt c m q f -∗ Q (m.view.readAt (Elt F) r f)) -∗ wpc c (Prog.lift (.load m r hl)) Q) := by
  iintro H Hk
  iapply (wp_load 𝒱₀ (c : Thread nD τ) none Set.univ (View.setOn_subset_set (v := m.view) r.set)) $$ H
  iintro H
  iapply (wpc_ret c)
  iapply Hk; iexact H

theorem st_run {s : Shape} {e : EltTy} (c : Dev nD) (m : Memref sig .tc .vmem s e) (r : Rect s) (w : r.shape.Idx → Elt F e)
    (hx : (m.access r).Stores Finset.univ) (hm : (Finset.univ : Finset r.shape.Idx) = Finset.univ ∨ ∀ a, r.stride a = 1)
    (f : Buf (Elt F) (m.view.loc (c : Thread nD τ))) (Q : PUnit → sProp 𝕄) :
    mPt c m fullShare f ⊢ iprop((mPt c m fullShare ((m.access r).write (Elt F) f w Finset.univ) -∗ Q ⟨⟩)
      -∗ wpc c (Prog.lift (.store m r w Finset.univ hx hm)) Q) := by
  iintro H Hk
  iapply (wp_store 𝒱₀ (c : Thread nD τ) none Set.univ (m := m) (r := r) (w := w) (Mk := Finset.univ) (S := m.view.set) (f := f)
    (by rw [View.setOn_univ]; exact (View.set_slice (v := m.view) r).trans_subset (View.setOn_subset_set (v := m.view) _))) $$ H
  iintro H
  iapply (wpc_ret c)
  iapply Hk; iexact H

/-! ## The blocks of the exchange buffer -/

variable (WQ WO : Dev nD → Vec F S512x256 .bf16)

theorem slotSet_eq (j : Dev nD) (p : Fin 2) :
    slotSet j p = ((mBuf.access (Rect.unit (s := S16x2x512x256) (slotOff j p) S1x1x512x256.size (slotOff_inb j p))).set : Finset S16x2x512x256.Idx) :=
  View.set_reshape _ _

theorem ld_slot (c j : Dev nD) (p : Fin 2) (q : PosShare TreeShare) (f : BufC (F := F) c)
    (off : Fin 4 → Nat) (h : ∀ a, off a + S1x1x512x256.size a ≤ S16x2x512x256.size a) (eo : off = slotOff j p)
    (hl : mBuf.view.LoadsAt (Rect.unit (s := S16x2x512x256) off S1x1x512x256.size h).toLoadRect)
    (Q : (S1x1x512x256.Idx → Elt F .bf16) → sProp 𝕄) :
    sPt c j p q f ⊢ iprop((sPt c j p q f -∗ Q (mBuf.view.readAt (Elt F) (Rect.unit (s := S16x2x512x256) (slotOff j p) S1x1x512x256.size (slotOff_inb j p)).toLoadRect f))
      -∗ wpc c (Prog.lift (.load mBuf (Rect.unit (s := S16x2x512x256) off S1x1x512x256.size h).toLoadRect hl)) Q) := by
  subst eo
  unfold sPt
  iintro H Hk
  iapply (wp_load_rect 𝒱₀ (c : Thread nD τ) none Set.univ (m := mBuf) (r := Rect.unit (s := S16x2x512x256) (slotOff j p) S1x1x512x256.size h) (S := slotSet j p) (f := f) (le_of_eq (slotSet_eq j p).symm)) $$ H
  iintro H
  iapply (wpc_ret c)
  rw [View.readAt_rect]
  iapply Hk; iexact H

theorem slot_emb (j : Dev nD) (p : Fin 2) (x : S1x1x512x256.Idx) :
    (mBuf.access (Rect.unit (s := S16x2x512x256) (slotOff j p) S1x1x512x256.size (slotOff_inb j p))).emb x
      = (fun a => match a with | 0 => j | 1 => p | 2 => ⟨(x 2).val, (x 2).isLt⟩ | 3 => ⟨(x 3).val, (x 3).isLt⟩ : S16x2x512x256.Idx) := by
  have h0 : (x 0).val = 0 := by have := (x 0).isLt; have e : S1x1x512x256.size 0 = 1 := rfl; omega
  have h1 : (x 1).val = 0 := by have := (x 1).isLt; have e : S1x1x512x256.size 1 = 1 := rfl; omega
  funext a
  apply Fin.ext
  show slotOff j p a + 1 * (x a).val = _
  fin_cases a
  · simp [slotOff, h0]
  · simp [slotOff, h1]
  · simp [slotOff]; rfl
  · simp [slotOff]; rfl

theorem BUF_at (c j : Dev nD) (p : Fin 2) (x : S1x1x512x256.Idx) :
    BUF WQ WO c ((mBuf.access (Rect.unit (s := S16x2x512x256) (slotOff j p) S1x1x512x256.size (slotOff_inb j p))).emb x) = pay WQ WO j p x := by
  rw [slot_emb]
  show pay WQ WO j p (inSlot _) = _
  congr 1
  funext a
  apply Fin.ext
  fin_cases a
  · have := (x 0).isLt; have e : S1x1x512x256.size 0 = 1 := rfl; show 0 = (x 0).val; omega
  · have := (x 1).isLt; have e : S1x1x512x256.size 1 = 1 := rfl; show 0 = (x 1).val; omega
  · rfl
  · rfl

theorem readAt_BUF (c j : Dev nD) (p : Fin 2) :
    mBuf.view.readAt (Elt F) (Rect.unit (s := S16x2x512x256) (slotOff j p) S1x1x512x256.size (slotOff_inb j p)).toLoadRect (BUF WQ WO c) = pay WQ WO j p :=
  funext fun x => BUF_at WQ WO c j p x

theorem st_slot (c j : Dev nD) (p : Fin 2) (f : BufC (F := F) c)
    (off : Fin 4 → Nat) (h : ∀ a, off a + S1x1x512x256.size a ≤ S16x2x512x256.size a) (eo : off = slotOff j p)
    (w : S1x1x512x256.Idx → Elt F .bf16) (ew : w = pay WQ WO j p)
    (hx : (mBuf.access (Rect.unit (s := S16x2x512x256) off S1x1x512x256.size h)).Stores Finset.univ)
    (hm : (Finset.univ : Finset S1x1x512x256.Idx) = Finset.univ ∨ ∀ a, (Rect.unit (s := S16x2x512x256) off S1x1x512x256.size h).stride a = 1)
    (Q : PUnit → sProp 𝕄) :
    sPt c j p fullShare f ⊢ iprop((sPt c j p fullShare (BUF WQ WO c) -∗ Q ⟨⟩)
      -∗ wpc c (Prog.lift (.store mBuf (Rect.unit (s := S16x2x512x256) off S1x1x512x256.size h) w Finset.univ hx hm)) Q) := by
  subst eo ew
  have e : (sPt c j p fullShare ((mBuf.access (Rect.unit (s := S16x2x512x256) (slotOff j p) S1x1x512x256.size h)).write (Elt F) f (pay WQ WO j p) Finset.univ) : sProp 𝕄)
      = sPt c j p fullShare (BUF WQ WO c) := by
    unfold sPt
    refine pointsTo_congr fun i hi => ?_
    rw [slotSet_eq] at hi
    obtain ⟨x, -, rfl⟩ := Finset.mem_map.mp hi
    exact (View.write_emb_of_mem (v := mBuf.access (Rect.unit (s := S16x2x512x256) (slotOff j p) S1x1x512x256.size h)) (Val := Elt F) f
      (pay WQ WO j p) (Finset.mem_univ x)).trans (BUF_at WQ WO c j p x).symm
  rw [← e]
  unfold sPt
  iintro H Hk
  iapply (wp_store 𝒱₀ (c : Thread nD τ) none Set.univ (m := mBuf) (r := Rect.unit (s := S16x2x512x256) (slotOff j p) S1x1x512x256.size h) (w := pay WQ WO j p) (Mk := Finset.univ) (S := slotSet j p) (f := f)
    (by rw [View.setOn_univ]; exact le_of_eq (slotSet_eq j p).symm)) $$ H
  iintro H
  iapply (wpc_ret c)
  iapply Hk; iexact H

/-! ## Scratch tables -/

/-- The all-zero entry the score table starts from. -/
def z0 : Elt F .bf16 := (k0_pay4 (F := F)) (fun a => ⟨0, by fin_cases a <;> decide⟩)

/-- A block-diagonal score table. -/
def diag (e0 e1 : S128x128.Idx → Elt F .bf16) : S256x256.Idx → Elt F .bf16 := fun i =>
  if h : (i 0).val < 128 ∧ (i 1).val < 128 then e0 (fun a => match a with | 0 => ⟨(i 0).val, h.1⟩ | 1 => ⟨(i 1).val, h.2⟩)
  else if h : 128 ≤ (i 0).val ∧ 128 ≤ (i 1).val then
    e1 (fun a => match a with
      | 0 => ⟨(i 0).val - 128, by have := (i 0).isLt; have e : S256x256.size 0 = 256 := rfl; show _ < 128; omega⟩
      | 1 => ⟨(i 1).val - 128, by have := (i 1).isLt; have e : S256x256.size 1 = 256 := rfl; show _ < 128; omega⟩)
  else z0

/-- A table of columns with the strip at `co` replaced. -/
def putStrip (co : ℕ) (w : S256x64.Idx → Elt F .bf16) (f : S256x256.Idx → Elt F .bf16) : S256x256.Idx → Elt F .bf16 := fun i =>
  if h : co ≤ (i 1).val ∧ (i 1).val < co + 64 then
    w (fun a => match a with
      | 0 => ⟨(i 0).val, (i 0).isLt⟩
      | 1 => ⟨(i 1).val - co, by show _ < 64; omega⟩)
  else f i

/-- Four strips side by side. -/
def strips (w : Fin 4 → S256x64.Idx → Elt F .bf16) : S256x256.Idx → Elt F .bf16 := fun i =>
  w ⟨(i 1).val / 64, by have := (i 1).isLt; have e : S256x256.size 1 = 256 := rfl; omega⟩
    (fun a => match a with
      | 0 => ⟨(i 0).val, (i 0).isLt⟩
      | 1 => ⟨(i 1).val % 64, by show _ < 64; omega⟩)

theorem putStrips (w : Fin 4 → S256x64.Idx → Elt F .bf16) (f : S256x256.Idx → Elt F .bf16) :
    putStrip 192 (w 3) (putStrip 128 (w 2) (putStrip 64 (w 1) (putStrip 0 (w 0) f))) = strips w := by
  funext i
  have hi : (i 1).val < 256 := (i 1).isLt
  have key : ∀ (r : Fin 4) (x y : S256x64.Idx) (r' : Fin 4), r = r' → (x 0).val = (y 0).val → (x 1).val = (y 1).val → w r x = w r' y := by
    rintro r x y r' rfl h0 h1
    congr 1; funext a; apply Fin.ext
    fin_cases a
    · exact h0
    · exact h1
  unfold putStrip strips
  split_ifs with h1 h2 h3 h4
  · refine key _ _ _ _ (Fin.ext ?_) rfl ?_
    · show 3 = (i 1).val / 64; omega
    · show (i 1).val - 192 = (i 1).val % 64; omega
  · refine key _ _ _ _ (Fin.ext ?_) rfl ?_
    · show 2 = (i 1).val / 64; omega
    · show (i 1).val - 128 = (i 1).val % 64; omega
  · refine key _ _ _ _ (Fin.ext ?_) rfl ?_
    · show 1 = (i 1).val / 64; omega
    · show (i 1).val - 64 = (i 1).val % 64; omega
  · refine key _ _ _ _ (Fin.ext ?_) rfl ?_
    · show 0 = (i 1).val / 64; omega
    · show (i 1).val - 0 = (i 1).val % 64; omega
  · omega

/-- A write through a rectangle of a whole scratch table, read at an entry of the rectangle and off it. -/
theorem write_in (b : Ref sig .tc) (r : Rect b.ty.shape) (f : b.ty.Contents (Elt F)) (w : r.shape.Idx → Elt F b.ty.elt) (i : b.ty.Idx) (x : r.shape.Idx)
    (hx : ∀ a, (r.emb x a).val = (i a).val) :
    (((Memref.whole b : Memref sig .tc _ _ _).access r).write (Elt F) f w Finset.univ : b.ty.Contents (Elt F)) i = w x := by
  have e : i = r.emb x := funext fun a => Fin.ext (hx a).symm
  subst e
  exact (View.write_emb_of_mem (v := (Memref.whole b : Memref sig .tc _ _ _).access r) (Val := Elt F) f w (Finset.mem_univ x)).trans rfl

theorem write_out (b : Ref sig .tc) (off size : Fin b.ty.shape.rank → ℕ) (inb : ∀ a, off a + size a ≤ b.ty.shape.size a) (f : b.ty.Contents (Elt F))
    (w : (Rect.unit off size inb).shape.Idx → Elt F b.ty.elt) (i : b.ty.Idx)
    (hx : ∃ a, ¬ (off a ≤ (i a).val ∧ (i a).val < off a + size a)) :
    (((Memref.whole b : Memref sig .tc _ _ _).access (Rect.unit off size inb)).write (Elt F) f w Finset.univ : b.ty.Contents (Elt F)) i = f i := by
  refine View.write_of_not_mem (v := (Memref.whole b : Memref sig .tc _ _ _).access (Rect.unit off size inb)) (Val := Elt F) f w Finset.univ ?_
  intro hm
  rw [View.setOn_univ] at hm
  have hm' : i ∈ (Rect.unit off size inb).set := (View.set_slice_whole b (Rect.unit off size inb)) ▸ hm
  rw [Rect.mem_set_unit] at hm'
  obtain ⟨a, ha⟩ := hx
  exact ha (hm' a)

theorem write_tl (e0 e1 w : S128x128.Idx → Elt F .bf16) :
    ((mWs.access (Rect.unit (s := S256x256) ![0, 0] S128x128.size inb_S256x256_S128x128_0_0)).write (Elt F) (diag e0 e1) w Finset.univ
      : S256x256.Idx → Elt F .bf16) = diag w e1 := by
  funext i
  by_cases h : (i 0).val < 128 ∧ (i 1).val < 128
  · refine (write_in cc0_scratch4 (Rect.unit (s := S256x256) ![0, 0] S128x128.size inb_S256x256_S128x128_0_0) (diag e0 e1) w i
      (fun a => match a with | 0 => ⟨(i 0).val, h.1⟩ | 1 => ⟨(i 1).val, h.2⟩) ?_).trans ?_
    · intro a
      fin_cases a
      · show 0 + 1 * (i 0).val = (i 0).val; omega
      · show 0 + 1 * (i 1).val = (i 1).val; omega
    · unfold diag; rw [dif_pos h]; congr 1
  · refine (write_out cc0_scratch4 ![0, 0] S128x128.size inb_S256x256_S128x128_0_0 (diag e0 e1) w i ?_).trans ?_
    · by_contra hc
      push Not at hc
      have h0 := (hc 0).2; have h1 := (hc 1).2
      exact h ⟨by simpa using h0, by simpa using h1⟩
    · unfold diag; rw [dif_neg h, dif_neg h]

theorem write_br (e0 e1 w : S128x128.Idx → Elt F .bf16) :
    ((mWs.access (Rect.unit (s := S256x256) ![128, 128] S128x128.size inb_S256x256_S128x128_128_128)).write (Elt F) (diag e0 e1) w Finset.univ
      : S256x256.Idx → Elt F .bf16) = diag e0 w := by
  funext i
  have b0 : (i 0).val < 256 := (i 0).isLt
  have b1 : (i 1).val < 256 := (i 1).isLt
  by_cases h : 128 ≤ (i 0).val ∧ 128 ≤ (i 1).val
  · refine (write_in cc0_scratch4 (Rect.unit (s := S256x256) ![128, 128] S128x128.size inb_S256x256_S128x128_128_128) (diag e0 e1) w i
      (fun a => match a with | 0 => ⟨(i 0).val - 128, by show _ < 128; omega⟩ | 1 => ⟨(i 1).val - 128, by show _ < 128; omega⟩) ?_).trans ?_
    · intro a
      fin_cases a
      · show 128 + 1 * ((i 0).val - 128) = (i 0).val; omega
      · show 128 + 1 * ((i 1).val - 128) = (i 1).val; omega
    · unfold diag; rw [dif_neg (by omega), dif_pos h]; congr 1
  · refine (write_out cc0_scratch4 ![128, 128] S128x128.size inb_S256x256_S128x128_128_128 (diag e0 e1) w i ?_).trans ?_
    · by_contra hc
      push Not at hc
      have h0 := (hc 0).1; have h1 := (hc 1).1
      exact h ⟨by simpa using h0, by simpa using h1⟩
    · unfold diag
      by_cases h' : (i 0).val < 128 ∧ (i 1).val < 128
      · rw [dif_pos h', dif_pos h']
      · rw [dif_neg h', dif_neg h, dif_neg h', dif_neg h]

theorem write_strip (co : ℕ) (hco : ∀ a, (![0, co] : Fin 2 → Nat) a + S256x64.size a ≤ S256x256.size a)
    (f : S256x256.Idx → Elt F .bf16) (w : S256x64.Idx → Elt F .bf16) :
    ((mCs.access (Rect.unit (s := S256x256) ![0, co] S256x64.size hco)).write (Elt F) f w Finset.univ : S256x256.Idx → Elt F .bf16) = putStrip co w f := by
  funext i
  have b0 : (i 0).val < 256 := (i 0).isLt
  by_cases h : co ≤ (i 1).val ∧ (i 1).val < co + 64
  · refine (write_in cc0_scratch3 (Rect.unit (s := S256x256) ![0, co] S256x64.size hco) f w i
      (fun a => match a with | 0 => ⟨(i 0).val, b0⟩ | 1 => ⟨(i 1).val - co, by show _ < 64; omega⟩) ?_).trans ?_
    · intro a
      fin_cases a
      · show 0 + 1 * (i 0).val = (i 0).val; omega
      · show co + 1 * ((i 1).val - co) = (i 1).val; omega
    · unfold putStrip; rw [dif_pos h]; congr 1; funext a; fin_cases a <;> rfl
  · refine (write_out cc0_scratch3 ![0, co] S256x64.size hco f w i ⟨1, ?_⟩).trans ?_
    · intro hc; exact h (by simpa using hc)
    · unfold putStrip; rw [dif_neg h]

theorem z2 : (![0, 0] : Fin 2 → ℕ) = fun _ => 0 := by funext a; fin_cases a <;> rfl

theorem zero_diag : (k0_pay4 (F := F) : S256x256.Idx → Elt F .bf16) = diag (fun _ => z0) (fun _ => z0) := by
  have hz : ∀ i, (k0_pay4 (F := F) : S256x256.Idx → Elt F .bf16) i = z0 := fun i => rfl
  funext i
  rw [hz]; unfold diag
  split_ifs <;> rfl

end Cert.KernelIdeal.Ring

end
-- ==== Proof.KI.Head.lean ====
module

public import proofs.«01_k».proof.Proof.KI.Blk

/-! # A head and a block run -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (WQ WO : Dev nD → Vec F S512x256 .bf16)

/-- A head's queries, keys and values. -/
def qAt (qv : S256x256.Idx → Elt F .bf16) (co : ℕ) (hco : ∀ a, (![0, co] : Fin 2 → Nat) a + S256x64.size a ≤ S256x256.size a) : S256x64.Idx → Elt F .bf16 :=
  mQs.view.readAt (Elt F) (Rect.unit (s := S256x256) ![0, co] S256x64.size hco).toLoadRect qv

theorem headOff_inbK (j : Dev nD) (r : Fin 4) : ∀ a, headOff j r a + S1x64x256.size a ≤ S64x64x256.size a := by revert j r; decide +kernel
theorem headOff_inbV (j : Dev nD) (r : Fin 4) : ∀ a, headOff j r a + S1x256x64.size a ≤ S64x256x64.size a := by revert j r; decide +kernel

/-- The contents of a staged array. -/
abbrev Cont {s : Shape} {e : EltTy} (m : Memref sig .tc .vmem s e) (c : Dev nD) : Type := Buf (Elt F) (m.view.loc (c : Thread nD τ))

def kAt (c : Dev nD) (fK : Cont (F := F) mK c) (j : Dev nD) (r : Fin 4) : S1x64x256.Idx → Elt F .bf16 :=
  mK.view.readAt (Elt F) (Rect.unit (s := S64x64x256) (headOff j r) S1x64x256.size (headOff_inbK j r)).toLoadRect fK
def vAt (c : Dev nD) (fV : Cont (F := F) mV c) (j : Dev nD) (r : Fin 4) : S1x256x64.Idx → Elt F .bf16 :=
  mV.view.readAt (Elt F) (Rect.unit (s := S64x256x64) (headOff j r) S1x256x64.size (headOff_inbV j r)).toLoadRect fV

/-- A head's weights as the table holds them. -/
def tab (neg : FVec F S128x128 .f32) (q : S256x64.Idx → Elt F .bf16) (k : S1x64x256.Idx → Elt F .bf16) : S256x256.Idx → Elt F .bf16 :=
  diag (payTL neg q k) (payBR neg q k)

/-! Loads and stores of a whole scratch table -/

theorem ld_ws (c : Dev nD) (hl : mWs.view.LoadsAt (Rect.unit (s := S256x256) ![0, 0] S256x256.size inb_S256x256_S256x256_0_0).toLoadRect)
    (q : PosShare TreeShare) (f : S256x256.Idx → Elt F .bf16) (Q : (S256x256.Idx → Elt F .bf16) → sProp 𝕄) :
    mPt c mWs q f ⊢ iprop((mPt c mWs q f -∗ Q f)
      -∗ wpc c (Prog.lift (.load mWs (Rect.unit (s := S256x256) ![0, 0] S256x256.size inb_S256x256_S256x256_0_0).toLoadRect hl)) Q) := by
  have e := ld_run c mWs (Rect.unit (s := S256x256) ![0, 0] S256x256.size inb_S256x256_S256x256_0_0).toLoadRect hl q f Q
  have h : mWs.view.readAt (Elt F) (Rect.unit (s := S256x256) ![0, 0] S256x256.size inb_S256x256_S256x256_0_0).toLoadRect f = f := Memref.readAt_unit_zero (Elt F) cc0_scratch4 z2 _ f
  rw [h] at e
  exact e
theorem st_ws (c : Dev nD) (w : S256x256.Idx → Elt F .bf16)
    (hx : (mWs.access (Rect.unit (s := S256x256) ![0, 0] S256x256.size inb_S256x256_S256x256_0_0)).Stores Finset.univ)
    (hm : (Finset.univ : Finset S256x256.Idx) = Finset.univ ∨ ∀ a, (Rect.unit (s := S256x256) ![0, 0] S256x256.size inb_S256x256_S256x256_0_0).stride a = 1)
    (f : S256x256.Idx → Elt F .bf16) (Q : PUnit → sProp 𝕄) :
    mPt c mWs fullShare f ⊢ iprop((mPt c mWs fullShare w -∗ Q ⟨⟩)
      -∗ wpc c (Prog.lift (.store mWs (Rect.unit (s := S256x256) ![0, 0] S256x256.size inb_S256x256_S256x256_0_0) w Finset.univ hx hm)) Q) := by
  have e := st_run c mWs (Rect.unit (s := S256x256) ![0, 0] S256x256.size inb_S256x256_S256x256_0_0) w hx hm f Q
  have h : (mWs.access (Rect.unit (s := S256x256) ![0, 0] S256x256.size inb_S256x256_S256x256_0_0)).write (Elt F) f w Finset.univ = w := Memref.write_access_unit_zero_univ (Elt F) cc0_scratch4 z2 _ f w
  rw [h] at e
  exact e

theorem ld_cs (c : Dev nD) (hl : mCs.view.LoadsAt (Rect.unit (s := S256x256) ![0, 0] S256x256.size inb_S256x256_S256x256_0_0).toLoadRect)
    (q : PosShare TreeShare) (f : S256x256.Idx → Elt F .bf16) (Q : (S256x256.Idx → Elt F .bf16) → sProp 𝕄) :
    mPt c mCs q f ⊢ iprop((mPt c mCs q f -∗ Q f)
      -∗ wpc c (Prog.lift (.load mCs (Rect.unit (s := S256x256) ![0, 0] S256x256.size inb_S256x256_S256x256_0_0).toLoadRect hl)) Q) := by
  have e := ld_run c mCs (Rect.unit (s := S256x256) ![0, 0] S256x256.size inb_S256x256_S256x256_0_0).toLoadRect hl q f Q
  have h : mCs.view.readAt (Elt F) (Rect.unit (s := S256x256) ![0, 0] S256x256.size inb_S256x256_S256x256_0_0).toLoadRect f = f := Memref.readAt_unit_zero (Elt F) cc0_scratch3 z2 _ f
  rw [h] at e
  exact e
theorem st_cs (c : Dev nD) (w : S256x256.Idx → Elt F .bf16)
    (hx : (mCs.access (Rect.unit (s := S256x256) ![0, 0] S256x256.size inb_S256x256_S256x256_0_0)).Stores Finset.univ)
    (hm : (Finset.univ : Finset S256x256.Idx) = Finset.univ ∨ ∀ a, (Rect.unit (s := S256x256) ![0, 0] S256x256.size inb_S256x256_S256x256_0_0).stride a = 1)
    (f : S256x256.Idx → Elt F .bf16) (Q : PUnit → sProp 𝕄) :
    mPt c mCs fullShare f ⊢ iprop((mPt c mCs fullShare w -∗ Q ⟨⟩)
      -∗ wpc c (Prog.lift (.store mCs (Rect.unit (s := S256x256) ![0, 0] S256x256.size inb_S256x256_S256x256_0_0) w Finset.univ hx hm)) Q) := by
  have e := st_run c mCs (Rect.unit (s := S256x256) ![0, 0] S256x256.size inb_S256x256_S256x256_0_0) w hx hm f Q
  have h : (mCs.access (Rect.unit (s := S256x256) ![0, 0] S256x256.size inb_S256x256_S256x256_0_0)).write (Elt F) f w Finset.univ = w := Memref.write_access_unit_zero_univ (Elt F) cc0_scratch3 z2 _ f w
  rw [h] at e
  exact e

theorem ld_qs (c : Dev nD) (hl : mQs.view.LoadsAt (Rect.unit (s := S256x256) ![0, 0] S256x256.size inb_S256x256_S256x256_0_0).toLoadRect)
    (q : PosShare TreeShare) (f : S256x256.Idx → Elt F .bf16) (Q : (S256x256.Idx → Elt F .bf16) → sProp 𝕄) :
    mPt c mQs q f ⊢ iprop((mPt c mQs q f -∗ Q f)
      -∗ wpc c (Prog.lift (.load mQs (Rect.unit (s := S256x256) ![0, 0] S256x256.size inb_S256x256_S256x256_0_0).toLoadRect hl)) Q) := by
  have e := ld_run c mQs (Rect.unit (s := S256x256) ![0, 0] S256x256.size inb_S256x256_S256x256_0_0).toLoadRect hl q f Q
  have h : mQs.view.readAt (Elt F) (Rect.unit (s := S256x256) ![0, 0] S256x256.size inb_S256x256_S256x256_0_0).toLoadRect f = f := Memref.readAt_unit_zero (Elt F) cc0_scratch2 z2 _ f
  rw [h] at e
  exact e
theorem st_qs (c : Dev nD) (w : S256x256.Idx → Elt F .bf16)
    (hx : (mQs.access (Rect.unit (s := S256x256) ![0, 0] S256x256.size inb_S256x256_S256x256_0_0)).Stores Finset.univ)
    (hm : (Finset.univ : Finset S256x256.Idx) = Finset.univ ∨ ∀ a, (Rect.unit (s := S256x256) ![0, 0] S256x256.size inb_S256x256_S256x256_0_0).stride a = 1)
    (f : S256x256.Idx → Elt F .bf16) (Q : PUnit → sProp 𝕄) :
    mPt c mQs fullShare f ⊢ iprop((mPt c mQs fullShare w -∗ Q ⟨⟩)
      -∗ wpc c (Prog.lift (.store mQs (Rect.unit (s := S256x256) ![0, 0] S256x256.size inb_S256x256_S256x256_0_0) w Finset.univ hx hm)) Q) := by
  have e := st_run c mQs (Rect.unit (s := S256x256) ![0, 0] S256x256.size inb_S256x256_S256x256_0_0) w hx hm f Q
  have h : (mQs.access (Rect.unit (s := S256x256) ![0, 0] S256x256.size inb_S256x256_S256x256_0_0)).write (Elt F) f w Finset.univ = w := Memref.write_access_unit_zero_univ (Elt F) cc0_scratch2 z2 _ f w
  rw [h] at e
  exact e

theorem ld_acc (c : Dev nD) (hl : mAcc.view.LoadsAt (Rect.unit (s := S256x512) ![0, 0] S256x512.size inb_S256x512_S256x512_0_0).toLoadRect)
    (q : PosShare TreeShare) (f : S256x512.Idx → Elt F .f32) (Q : (S256x512.Idx → Elt F .f32) → sProp 𝕄) :
    mPt c mAcc q f ⊢ iprop((mPt c mAcc q f -∗ Q f)
      -∗ wpc c (Prog.lift (.load mAcc (Rect.unit (s := S256x512) ![0, 0] S256x512.size inb_S256x512_S256x512_0_0).toLoadRect hl)) Q) := by
  have e := ld_run c mAcc (Rect.unit (s := S256x512) ![0, 0] S256x512.size inb_S256x512_S256x512_0_0).toLoadRect hl q f Q
  have h : mAcc.view.readAt (Elt F) (Rect.unit (s := S256x512) ![0, 0] S256x512.size inb_S256x512_S256x512_0_0).toLoadRect f = f := Memref.readAt_unit_zero (Elt F) cc0_scratch1 z2 _ f
  rw [h] at e
  exact e
theorem st_acc (c : Dev nD) (w : S256x512.Idx → Elt F .f32)
    (hx : (mAcc.access (Rect.unit (s := S256x512) ![0, 0] S256x512.size inb_S256x512_S256x512_0_0)).Stores Finset.univ)
    (hm : (Finset.univ : Finset S256x512.Idx) = Finset.univ ∨ ∀ a, (Rect.unit (s := S256x512) ![0, 0] S256x512.size inb_S256x512_S256x512_0_0).stride a = 1)
    (f : S256x512.Idx → Elt F .f32) (Q : PUnit → sProp 𝕄) :
    mPt c mAcc fullShare f ⊢ iprop((mPt c mAcc fullShare w -∗ Q ⟨⟩)
      -∗ wpc c (Prog.lift (.store mAcc (Rect.unit (s := S256x512) ![0, 0] S256x512.size inb_S256x512_S256x512_0_0) w Finset.univ hx hm)) Q) := by
  have e := st_run c mAcc (Rect.unit (s := S256x512) ![0, 0] S256x512.size inb_S256x512_S256x512_0_0) w hx hm f Q
  have h : (mAcc.access (Rect.unit (s := S256x512) ![0, 0] S256x512.size inb_S256x512_S256x512_0_0)).write (Elt F) f w Finset.univ = w := Memref.write_access_unit_zero_univ (Elt F) cc0_scratch1 z2 _ f w
  rw [h] at e
  exact e

theorem head_run (c : Dev nD) (co : Nat) (hco : ∀ a, (![0, co] : Fin 2 → Nat) a + S256x64.size a ≤ S256x256.size a)
    (hpk : (Rect.unit (s := S256x256) ![0, co] S256x64.size hco).PackedRows (EltTy.packing .bf16))
    (offK : Fin 3 → Nat) (hK : ∀ a, offK a + S1x64x256.size a ≤ S64x64x256.size a)
    (offV : Fin 3 → Nat) (hV : ∀ a, offV a + S1x256x64.size a ≤ S64x256x64.size a)
    (neg : FVec F S128x128 .f32) (j : Dev nD) (r : Fin 4) (eK : offK = headOff j r) (eV : offV = headOff j r)
    (qv : S256x256.Idx → Elt F .bf16) (fK : Cont (F := F) mK c) (fV : Cont (F := F) mV c) (e0 e1 : S128x128.Idx → Elt F .bf16)
    (fc : S256x256.Idx → Elt F .bf16) (qK qV : PosShare TreeShare) (Q : PUnit → sProp 𝕄) :
    iprop(mPt c mQs fullShare qv ∗ mPt c mK qK fK ∗ mPt c mV qV fV ∗ mPt c mWs fullShare (diag e0 e1) ∗ mPt c mCs fullShare fc)
      ⊢ iprop((mPt c mQs fullShare qv ∗ mPt c mK qK fK ∗ mPt c mV qV fV
          ∗ mPt c mWs fullShare (tab neg (qAt qv co hco) (kAt c fK j r))
          ∗ mPt c mCs fullShare (putStrip co (payC (tab neg (qAt qv co hco) (kAt c fK j r)) (vAt c fV j r)) fc) -∗ Q ⟨⟩)
        -∗ wpc c (headP co hco hpk offK hK offV hV neg) Q) := by
  subst eK eV
  unfold headP wpc
  simp only [wp_bind]
  iintro ⟨Hq, HK, HV, Hw, Hc⟩ Hk
  iapply (ld_run c mQs _ _ fullShare qv _) $$ Hq
  iintro Hq
  iapply (ld_run c mK _ _ qK fK _) $$ HK
  iintro HK
  iapply (ld_run c mWs _ _ fullShare (diag e0 e1) _) $$ Hw
  iintro Hw
  iapply (st_run c mWs _ _ _ _ (diag e0 e1) _) $$ Hw
  iintro Hw
  rw [write_tl]
  iapply (ld_run c mWs _ _ fullShare _ _) $$ Hw
  iintro Hw
  iapply (st_run c mWs _ _ _ _ _ _) $$ Hw
  iintro Hw
  rw [write_br]
  iapply (ld_ws c _ fullShare _ _) $$ Hw
  iintro Hw
  iapply (ld_run c mV _ _ qV fV _) $$ HV
  iintro HV
  iapply (ld_run c mCs _ _ fullShare fc _) $$ Hc
  iintro Hc
  iapply (st_run c mCs _ _ _ _ fc _) $$ Hc
  iintro Hc
  rw [write_strip]
  iapply Hk
  isplitl [Hq]; · iexact Hq
  isplitl [HK]; · iexact HK
  isplitl [HV]; · iexact HV
  isplitl [Hw]; · iexact Hw
  iexact Hc

/-! ## A block -/

/-- What the tables hold between blocks, and the accumulator. -/
def wk (c : Dev nD) (fK : Cont (F := F) mK c) (fV : Cont (F := F) mV c) (qK qV : PosShare TreeShare) (a : S256x512.Idx → Elt F .f32) : sProp 𝕄 :=
  iprop((∃ qv : S256x256.Idx → Elt F .bf16, mPt c mQs fullShare qv) ∗ (∃ e0 e1, mPt c mWs fullShare (diag e0 e1))
    ∗ (∃ fc : S256x256.Idx → Elt F .bf16, mPt c mCs fullShare fc) ∗ mPt c mAcc fullShare a ∗ mPt c mK qK fK ∗ mPt c mV qV fV)

theorem strip_inb (r : Fin 4) : ∀ a, (![0, 64 * r.val] : Fin 2 → Nat) a + S256x64.size a ≤ S256x256.size a := by revert r; decide +kernel

/-- The contexts of device `j`'s four heads side by side. -/
def ctx (c : Dev nD) (fK : Cont (F := F) mK c) (fV : Cont (F := F) mV c) (x : FVec F S256x512 .bf16) (neg : FVec F S128x128 .f32) (j : Dev nD) :
    S256x256.Idx → Elt F .bf16 :=
  strips fun r => payC (tab neg (qAt (payQ x (pay WQ WO j 0)) (64 * r.val) (strip_inb r)) (kAt c fK j r)) (vAt c fV j r)

/-- The accumulator after device `j`'s block. -/
def stepA (c : Dev nD) (fK : Cont (F := F) mK c) (fV : Cont (F := F) mV c) (x : FVec F S256x512 .bf16) (neg : FVec F S128x128 .f32) (j : Dev nD)
    (a : S256x512.Idx → Elt F .f32) : S256x512.Idx → Elt F .f32 :=
  payA a (ctx WQ WO c fK fV x neg j) (pay WQ WO j 1)

theorem blk_run (c j : Dev nD) (off0 : Fin 4 → Nat) (h0 : ∀ a, off0 a + S1x1x512x256.size a ≤ S16x2x512x256.size a)
    (off1 : Fin 4 → Nat) (h1 : ∀ a, off1 a + S1x1x512x256.size a ≤ S16x2x512x256.size a)
    (offK : Fin 4 → Fin 3 → Nat) (hK : ∀ r a, offK r a + S1x64x256.size a ≤ S64x64x256.size a)
    (offV : Fin 4 → Fin 3 → Nat) (hV : ∀ r a, offV r a + S1x256x64.size a ≤ S64x256x64.size a)
    (eo0 : off0 = slotOff j 0) (eo1 : off1 = slotOff j 1) (eK : ∀ r, offK r = headOff j r) (eV : ∀ r, offV r = headOff j r)
    (x : FVec F S256x512 .bf16) (neg : FVec F S128x128 .f32)
    (fK : Cont (F := F) mK c) (fV : Cont (F := F) mV c) (qK qV q0 q1 : PosShare TreeShare) (a : S256x512.Idx → Elt F .f32) (Q : PUnit → sProp 𝕄) :
    iprop(wk c fK fV qK qV a ∗ sPt c j 0 q0 (BUF WQ WO c) ∗ sPt c j 1 q1 (BUF WQ WO c))
      ⊢ iprop((wk c fK fV qK qV (stepA WQ WO c fK fV x neg j a) ∗ sPt c j 0 q0 (BUF WQ WO c) ∗ sPt c j 1 q1 (BUF WQ WO c) -∗ Q ⟨⟩)
        -∗ wpc c (blkP off0 h0 off1 h1 offK hK offV hV x neg) Q) := by
  unfold blkP wpc
  simp only [wp_bind]
  unfold wk
  iintro ⟨⟨⟨%qv, Hq⟩, ⟨%e0, %e1, Hw⟩, ⟨%fc, Hc⟩, Ha, HK, HV⟩, H0, H1⟩ Hk
  iapply (ld_slot c j 0 q0 (BUF WQ WO c) off0 h0 eo0 _ _) $$ H0
  iintro H0
  rw [readAt_BUF]
  iapply (ld_qs c _ fullShare qv _) $$ Hq
  iintro Hq
  iapply (st_qs c _ _ _ qv _) $$ Hq
  iintro Hq
  iapply (head_run c 0 _ _ _ _ _ _ neg j 0 (eK 0) (eV 0) _ fK fV _ _ _ qK qV _) $$ [Hq HK HV Hw Hc]
  · isplitl [Hq]; · iexact Hq
    isplitl [HK]; · iexact HK
    isplitl [HV]; · iexact HV
    isplitl [Hw]; · iexact Hw
    iexact Hc
  iintro ⟨Hq, HK, HV, Hw, Hc⟩
  unfold tab
  iapply (head_run c 64 _ _ _ _ _ _ neg j 1 (eK 1) (eV 1) _ fK fV _ _ _ qK qV _) $$ [Hq HK HV Hw Hc]
  · isplitl [Hq]; · iexact Hq
    isplitl [HK]; · iexact HK
    isplitl [HV]; · iexact HV
    isplitl [Hw]; · iexact Hw
    iexact Hc
  iintro ⟨Hq, HK, HV, Hw, Hc⟩
  unfold tab
  iapply (head_run c 128 _ _ _ _ _ _ neg j 2 (eK 2) (eV 2) _ fK fV _ _ _ qK qV _) $$ [Hq HK HV Hw Hc]
  · isplitl [Hq]; · iexact Hq
    isplitl [HK]; · iexact HK
    isplitl [HV]; · iexact HV
    isplitl [Hw]; · iexact Hw
    iexact Hc
  iintro ⟨Hq, HK, HV, Hw, Hc⟩
  unfold tab
  iapply (head_run c 192 _ _ _ _ _ _ neg j 3 (eK 3) (eV 3) _ fK fV _ _ _ qK qV _) $$ [Hq HK HV Hw Hc]
  · isplitl [Hq]; · iexact Hq
    isplitl [HK]; · iexact HK
    isplitl [HV]; · iexact HV
    isplitl [Hw]; · iexact Hw
    iexact Hc
  iintro ⟨Hq, HK, HV, Hw, Hc⟩
  iapply (ld_acc c _ fullShare a _) $$ Ha
  iintro Ha
  iapply (ld_cs c _ fullShare _ _) $$ Hc
  iintro Hc
  iapply (ld_slot c j 1 q1 (BUF WQ WO c) off1 h1 eo1 _ _) $$ H1
  iintro H1
  rw [readAt_BUF]
  iapply (ld_acc c _ fullShare a _) $$ Ha
  iintro Ha
  iapply (st_acc c _ _ _ a _) $$ Ha
  iintro Ha
  iapply Hk
  isplitr [H0 H1]
  · isplitl [Hq]; · iexists _; iexact Hq
    isplitl [Hw]; · iexists _, _; iexact Hw
    isplitl [Hc]; · iexists _; iexact Hc
    isplitr [HK HV]
    · rw [show stepA WQ WO c fK fV x neg j a = payA a (ctx WQ WO c fK fV x neg j) (pay WQ WO j 1) from rfl, ctx, ← putStrips _ fc]
      iexact Ha
    isplitl [HK]; · iexact HK
    iexact HV
  isplitl [H0]; · iexact H0
  iexact H1

end Cert.KernelIdeal.Ring

end
-- ==== Proof.KI.Hops.lean ====
module

public import proofs.«01_k».proof.Proof.KI.Head

/-! # The hops run -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (WQ WO : Dev nD → Vec F S512x256 .bf16)

/-! ## The blocks of a hop -/

theorem halfs (r : Fin 7) : half (⟨4 * r.val, by omega⟩ : Fin 30) = 0 ∧ half (⟨4 * r.val + 1, by omega⟩ : Fin 30) = 0
    ∧ half (⟨4 * r.val + 2, by omega⟩ : Fin 30) = 1 ∧ half (⟨4 * r.val + 3, by omega⟩ : Fin 30) = 1 := by revert r; decide +kernel
theorem dsts (r : Fin 7) : dstK (⟨4 * r.val + 2, by omega⟩ : Fin 30) = dstK ⟨4 * r.val, by omega⟩
    ∧ dstK (⟨4 * r.val + 3, by omega⟩ : Fin 30) = dstK ⟨4 * r.val + 1, by omega⟩ := by revert r; decide +kernel

/-- Whose block a landing brings. -/
def orig (c : Dev nD) (n : Fin 30) : Dev nD := nb c (dstK n)

theorem keep_eq (c : Dev nD) (n : Fin 30) (j : Dev nD) (p : Fin 2) (hj : orig c n = j) (hp : half n = p) :
    keep WQ WO c n = sPt c j p fullShare.left (BUF WQ WO c) := by subst hj hp; rfl

section Blocks
variable (c : Dev nD) (x : FVec F S256x512 .bf16)
  (fK : Cont (F := F) mK c) (fV : Cont (F := F) mV c) (qK qV : PosShare TreeShare) (a : S256x512.Idx → Elt F .f32)

theorem blk0_run (Q : PUnit → sProp 𝕄) :
    iprop(wk c fK fV qK qV a ∗ own WQ WO c 0 fullShare.left ∗ own WQ WO c 1 fullShare.left)
      ⊢ iprop((wk c fK fV qK qV (stepA WQ WO c fK fV x (negV c) (nb c 0) a) ∗ own WQ WO c 0 fullShare.left ∗ own WQ WO c 1 fullShare.left -∗ Q ⟨⟩)
        -∗ wpc c (blk0P c x) Q) :=
  blk_run WQ WO c (nb c 0) _ _ _ _ _ _ _ _ (by rw [nb_zero]; exact off1_eq c) (by rw [nb_zero]; exact off2_eq c)
    (fun r => by rw [nb_zero]; exact off7_eq c r) (fun r => by rw [nb_zero]; exact off8_eq c r) x (negV c) fK fV qK qV _ _ a Q

theorem blkL_run (Q : PUnit → sProp 𝕄) (r : Fin 7) :
    iprop(wk c fK fV qK qV a ∗ keep WQ WO c ⟨4 * r.val, by omega⟩ ∗ keep WQ WO c ⟨4 * r.val + 2, by omega⟩)
      ⊢ iprop((wk c fK fV qK qV (stepA WQ WO c fK fV x (negV c) (orig c ⟨4 * r.val, by omega⟩) a)
          ∗ keep WQ WO c ⟨4 * r.val, by omega⟩ ∗ keep WQ WO c ⟨4 * r.val + 2, by omega⟩ -∗ Q ⟨⟩)
        -∗ wpc c (blkLP c r x) Q) := by
  rw [keep_eq WQ WO c ⟨4 * r.val, by omega⟩ _ 0 rfl (halfs r).1,
    keep_eq WQ WO c ⟨4 * r.val + 2, by omega⟩ (orig c ⟨4 * r.val, by omega⟩) 1 (by unfold orig; rw [(dsts r).1]) (halfs r).2.2.1]
  exact blk_run WQ WO c (orig c ⟨4 * r.val, by omega⟩) _ _ _ _ _ _ _ _ (by rw [off9_eq, (halfs r).1]; rfl) (by rw [off12_eq, (halfs r).2.2.1, (dsts r).1]; rfl)
    (fun q => off10_eq c r q) (fun q => off11_eq c r q) x (negV c) fK fV qK qV _ _ a Q

theorem blkR_run (Q : PUnit → sProp 𝕄) (r : Fin 7) :
    iprop(wk c fK fV qK qV a ∗ keep WQ WO c ⟨4 * r.val + 1, by omega⟩ ∗ keep WQ WO c ⟨4 * r.val + 3, by omega⟩)
      ⊢ iprop((wk c fK fV qK qV (stepA WQ WO c fK fV x (negV c) (orig c ⟨4 * r.val + 1, by omega⟩) a)
          ∗ keep WQ WO c ⟨4 * r.val + 1, by omega⟩ ∗ keep WQ WO c ⟨4 * r.val + 3, by omega⟩ -∗ Q ⟨⟩)
        -∗ wpc c (blkRP c ⟨r.val, by omega⟩ x) Q) := by
  rw [keep_eq WQ WO c ⟨4 * r.val + 1, by omega⟩ _ 0 rfl (halfs r).2.1,
    keep_eq WQ WO c ⟨4 * r.val + 3, by omega⟩ (orig c ⟨4 * r.val + 1, by omega⟩) 1 (by unfold orig; rw [(dsts r).2]) (halfs r).2.2.2]
  exact blk_run WQ WO c (orig c ⟨4 * r.val + 1, by omega⟩) _ _ _ _ _ _ _ _ (by rw [off13_eq, (halfs r).2.1]; rfl) (by rw [off16_eq, (halfs r).2.2.2, (dsts r).2]; rfl)
    (fun q => off14_eq c r q) (fun q => off15_eq c r q) x (negV c) fK fV qK qV _ _ a Q

theorem blkR7_run (Q : PUnit → sProp 𝕄) :
    iprop(wk c fK fV qK qV a ∗ keep WQ WO c 28 ∗ keep WQ WO c 29)
      ⊢ iprop((wk c fK fV qK qV (stepA WQ WO c fK fV x (negV c) (orig c 28) a) ∗ keep WQ WO c 28 ∗ keep WQ WO c 29 -∗ Q ⟨⟩)
        -∗ wpc c (blkRP c 7 x) Q) := by
  have e : dstK 29 = dstK 28 := by decide +kernel
  have h0 : half 28 = 0 := by decide +kernel
  have h1 : half 29 = 1 := by decide +kernel
  rw [keep_eq WQ WO c 28 _ 0 rfl h0, keep_eq WQ WO c 29 (orig c 28) 1 (by unfold orig; rw [e]) h1]
  exact blk_run WQ WO c (orig c 28) _ _ _ _ _ _ _ _ (by rw [off13_last, h0]; rfl) (by rw [off16_last, h1, e]; rfl)
    (fun q => off14_last c q) (fun q => off15_last c q) x (negV c) fK fV qK qV _ _ a Q

end Blocks

/-! ## Between hops -/

/-- A transfer gone through. -/
def fin (c : Dev nD) (n : Fin 30) : sProp 𝕄 := iprop(dn WQ WO c n ∗ keep WQ WO c n)

/-- After transfers `n0` and `n1` are through and `n2`, `n3` started. -/
def SH (c : Dev nD) (fK : Cont (F := F) mK c) (fV : Cont (F := F) mV c) (qK qV : PosShare TreeShare) (n0 n1 n2 n3 : Fin 30) (l : ℕ)
    (a : S256x512.Idx → Elt F .f32) : sProp 𝕄 :=
  iprop(bigSep (lo n0.val) (fin WQ WO c) ∗ (dn WQ WO c n0 ∗ landPt WQ WO c n0) ∗ (dn WQ WO c n1 ∗ landPt WQ WO c n1) ∗ fly c n2 ∗ fly c n3
    ∗ bigSep (hi l) (pend c) ∗ ow c l ∗ wk c fK fV qK qV a)

section Hops
variable (K : GSem nD τ sig → ℕ) (c : Dev nD) (x : FVec F S256x512 .bf16)
  (fK : Cont (F := F) mK c) (fV : Cont (F := F) mV c) (qK qV : PosShare TreeShare) (a : S256x512.Idx → Elt F .f32)

theorem hop_run (r : ℕ) (hr : r < 6) (Q : PUnit → sProp 𝕄) :
    iprop(allInv WQ WO K ∗ levAts L lv ∗ SH WQ WO c fK fV qK qV ⟨4 * r, by omega⟩ ⟨4 * r + 1, by omega⟩ ⟨4 * r + 2, by omega⟩ ⟨4 * r + 3, by omega⟩ (4 * r + 4) a)
      ⊢ iprop((SH WQ WO c fK fV qK qV ⟨4 * r + 4, by omega⟩ ⟨4 * r + 5, by omega⟩ ⟨4 * r + 6, by omega⟩ ⟨4 * r + 7, by omega⟩ (4 * r + 8)
          (stepA WQ WO c fK fV x (negV c) (orig c ⟨4 * r + 1, by omega⟩) (stepA WQ WO c fK fV x (negV c) (orig c ⟨4 * r, by omega⟩) a)) -∗ Q ⟨⟩)
        -∗ wpc c (hopP c x r hr) Q) := by
  have b1 : 4 * r + 1 < 30 := by omega
  have b2 : 4 * r + 2 < 30 := by omega
  have b3 : 4 * r + 3 < 30 := by omega
  have b4 : 4 * r + 4 < 30 := by omega
  have b5 : 4 * r + 5 < 30 := by omega
  have b6 : 4 * r + 6 < 30 := by omega
  have b7 : 4 * r + 7 < 30 := by omega
  have c7 : r < 7 := by omega
  have c1 : r + 1 < 7 := by omega
  have c2 : r + 1 < 8 := by omega
  unfold hopP wpc
  simp only [wp_bind]
  unfold SH
  rw [hi_step ⟨4 * r + 4, by omega⟩, hi_step ⟨4 * r + 5, by omega⟩, hi_step ⟨4 * r + 6, by omega⟩, hi_step ⟨4 * r + 7, by omega⟩]
  iintro ⟨#HI, #Hlev, Hfin, ⟨Hd0, Hl0⟩, ⟨Hd1, Hl1⟩, Hf2, Hf3, ⟨Hp4, Hp5, Hp6, Hp7, Hpend⟩, Ho, Hwk⟩ Hk
  ihave Hl0 := (land_split WQ WO c _).1 $$ Hl0
  icases Hl0 with ⟨Hk0, Hs4⟩
  ihave Hs4 := (Entails.of_eq (fwd4 WQ WO c (4 * r) (by omega))) $$ Hs4
  ihave Hl1 := (land_split WQ WO c _).1 $$ Hl1
  icases Hl1 with ⟨Hk1, Hs5⟩
  ihave Hs5 := (Entails.of_eq (fwd4 WQ WO c (4 * r + 1) (by omega))) $$ Hs5
  iapply (send_run WQ WO K c ⟨4 * r + 4, b4⟩ _ (devT_eq c _) _ _ (mRa_eq c ⟨r + 1, c2⟩) (4 * r + 4) rfl _) $$ [Hp4 Hs4 Ho]
  · isplitr; · iexact HI
    isplitl [Hp4]; · iexact Hp4
    isplitl [Hs4]; · iexact Hs4
    iexact Ho
  iintro ⟨Hf4, Ho⟩
  iapply (send_run WQ WO K c ⟨4 * r + 5, b5⟩ _ (devT_eq c _) _ _ (mLa_eq c ⟨r + 1, c1⟩) (4 * r + 5) rfl _) $$ [Hp5 Hs5 Ho]
  · isplitr; · iexact HI
    isplitl [Hp5]; · iexact Hp5
    isplitl [Hs5]; · iexact Hs5
    iexact Ho
  iintro ⟨Hf5, Ho⟩
  iapply (drain_run WQ WO K c ⟨4 * r + 2, b2⟩ _ _ ⟨_, _, mRb_eq c ⟨r, c7⟩⟩ (4 * r + 6) (by show 4 * r + 2 < _; omega) _) $$ [Hf2 Ho]
  · isplitr; · iexact HI
    isplitr; · iexact Hlev
    isplitl [Hf2]; · iexact Hf2
    iexact Ho
  iintro ⟨Hd2, Hl2, Ho⟩
  ihave Hl2 := (land_split WQ WO c _).1 $$ Hl2
  icases Hl2 with ⟨Hk2, Hs6⟩
  ihave Hs6 := (Entails.of_eq (fwd4 WQ WO c (4 * r + 2) (by omega))) $$ Hs6
  iapply (send_run WQ WO K c ⟨4 * r + 6, b6⟩ _ (devT_eq c _) _ _ (mRb_eq c ⟨r + 1, c1⟩) (4 * r + 6) rfl _) $$ [Hp6 Hs6 Ho]
  · isplitr; · iexact HI
    isplitl [Hp6]; · iexact Hp6
    isplitl [Hs6]; · iexact Hs6
    iexact Ho
  iintro ⟨Hf6, Ho⟩
  iapply (blkL_run WQ WO c x fK fV qK qV a _ ⟨r, c7⟩) $$ [Hwk Hk0 Hk2]
  · isplitl [Hwk]; · iexact Hwk
    isplitl [Hk0]; · iexact Hk0
    iexact Hk2
  iintro ⟨Hwk, Hk0, Hk2⟩
  iapply (drain_run WQ WO K c ⟨4 * r + 3, b3⟩ _ _ ⟨_, _, mLb_eq c ⟨r, c7⟩⟩ (4 * r + 7) (by show 4 * r + 3 < _; omega) _) $$ [Hf3 Ho]
  · isplitr; · iexact HI
    isplitr; · iexact Hlev
    isplitl [Hf3]; · iexact Hf3
    iexact Ho
  iintro ⟨Hd3, Hl3, Ho⟩
  ihave Hl3 := (land_split WQ WO c _).1 $$ Hl3
  icases Hl3 with ⟨Hk3, Hs7⟩
  ihave Hs7 := (Entails.of_eq (fwd4 WQ WO c (4 * r + 3) (by omega))) $$ Hs7
  iapply (send_run WQ WO K c ⟨4 * r + 7, b7⟩ _ (devT_eq c _) _ _ (mLb_eq c ⟨r + 1, c1⟩) (4 * r + 7) rfl _) $$ [Hp7 Hs7 Ho]
  · isplitr; · iexact HI
    isplitl [Hp7]; · iexact Hp7
    isplitl [Hs7]; · iexact Hs7
    iexact Ho
  iintro ⟨Hf7, Ho⟩
  iapply (blkR_run WQ WO c x fK fV qK qV _ _ ⟨r, c7⟩) $$ [Hwk Hk1 Hk3]
  · isplitl [Hwk]; · iexact Hwk
    isplitl [Hk1]; · iexact Hk1
    iexact Hk3
  iintro ⟨Hwk, Hk1, Hk3⟩
  iapply (drain_run WQ WO K c ⟨4 * r + 4, b4⟩ _ _ ⟨_, _, mRa_eq c ⟨r + 1, c2⟩⟩ (4 * r + 8) (by show 4 * r + 4 < _; omega) _) $$ [Hf4 Ho]
  · isplitr; · iexact HI
    isplitr; · iexact Hlev
    isplitl [Hf4]; · iexact Hf4
    iexact Ho
  iintro ⟨Hd4, Hl4, Ho⟩
  iapply (drain_run WQ WO K c ⟨4 * r + 5, b5⟩ _ _ ⟨_, _, mLa_eq c ⟨r + 1, c1⟩⟩ (4 * r + 8) (by show 4 * r + 5 < _; omega) _) $$ [Hf5 Ho]
  · isplitr; · iexact HI
    isplitr; · iexact Hlev
    isplitl [Hf5]; · iexact Hf5
    iexact Ho
  iintro ⟨Hd5, Hl5, Ho⟩
  iapply Hk
  isplitl [Hfin Hd0 Hk0 Hd1 Hk1 Hd2 Hk2 Hd3 Hk3]
  · rw [show lo (⟨4 * r + 4, by omega⟩ : Fin 30).val = lo ((⟨4 * r + 3, by omega⟩ : Fin 30).val + 1) from rfl, lo_step,
      show lo (⟨4 * r + 3, by omega⟩ : Fin 30).val = lo ((⟨4 * r + 2, by omega⟩ : Fin 30).val + 1) from rfl, lo_step,
      show lo (⟨4 * r + 2, by omega⟩ : Fin 30).val = lo ((⟨4 * r + 1, by omega⟩ : Fin 30).val + 1) from rfl, lo_step,
      show lo (⟨4 * r + 1, by omega⟩ : Fin 30).val = lo ((⟨4 * r, by omega⟩ : Fin 30).val + 1) from rfl, lo_step]
    unfold fin
    isplitl [Hd3 Hk3]
    · isplitl [Hd3]; · iexact Hd3
      iexact Hk3
    isplitl [Hd2 Hk2]
    · isplitl [Hd2]; · iexact Hd2
      iexact Hk2
    isplitl [Hd1 Hk1]
    · isplitl [Hd1]; · iexact Hd1
      iexact Hk1
    isplitl [Hd0 Hk0]
    · isplitl [Hd0]; · iexact Hd0
      iexact Hk0
    iexact Hfin
  isplitl [Hd4 Hl4]
  · isplitl [Hd4]; · iexact Hd4
    iexact Hl4
  isplitl [Hd5 Hl5]
  · isplitl [Hd5]; · iexact Hd5
    iexact Hl5
  isplitl [Hf6]; · iexact Hf6
  isplitl [Hf7]; · iexact Hf7
  isplitl [Hpend]; · iexact Hpend
  isplitl [Ho]; · iexact Ho
  iexact Hwk

/-- When all transfers are through. -/
def SE (c : Dev nD) (fK : Cont (F := F) mK c) (fV : Cont (F := F) mV c) (qK qV : PosShare TreeShare) (a : S256x512.Idx → Elt F .f32) : sProp 𝕄 :=
  iprop(bigSep Finset.univ (fin WQ WO c) ∗ fwd WQ WO c 25 ∗ fwd WQ WO c 27 ∗ fwd WQ WO c 28 ∗ fwd WQ WO c 29 ∗ ow c 30 ∗ wk c fK fV qK qV a)

theorem lo_all : lo ((29 : Fin 30).val + 1) = Finset.univ := by decide +kernel

theorem hop7_run (Q : PUnit → sProp 𝕄) :
    iprop(allInv WQ WO K ∗ levAts L lv ∗ SH WQ WO c fK fV qK qV 24 25 26 27 28 a)
      ⊢ iprop((SE WQ WO c fK fV qK qV (stepA WQ WO c fK fV x (negV c) (orig c 28)
          (stepA WQ WO c fK fV x (negV c) (orig c 25) (stepA WQ WO c fK fV x (negV c) (orig c 24) a))) -∗ Q ⟨⟩)
        -∗ wpc c (hop7P c x) Q) := by
  unfold hop7P wpc
  simp only [wp_bind]
  unfold SH
  rw [show hi 28 = hi (28 : Fin 30).val from rfl, hi_step 28, show hi ((28 : Fin 30).val + 1) = hi (29 : Fin 30).val from rfl, hi_step 29]
  iintro ⟨#HI, #Hlev, Hfin, ⟨Hd0, Hl0⟩, ⟨Hd1, Hl1⟩, Hf2, Hf3, ⟨Hp4, Hp6, Hpend⟩, Ho, Hwk⟩ Hk
  iclear Hpend
  ihave Hl0 := (land_split WQ WO c _).1 $$ Hl0
  icases Hl0 with ⟨Hk0, Hs4⟩
  ihave Hs4 := (Entails.of_eq (fwd24 WQ WO c)) $$ Hs4
  ihave Hl1 := (land_split WQ WO c _).1 $$ Hl1
  icases Hl1 with ⟨Hk1, Hw1⟩
  iapply (send_run WQ WO K c 28 _ (devT_eq c _) _ _ (mRa_eq c 7) 28 rfl _) $$ [Hp4 Hs4 Ho]
  · isplitr; · iexact HI
    isplitl [Hp4]; · iexact Hp4
    isplitl [Hs4]; · iexact Hs4
    iexact Ho
  iintro ⟨Hf4, Ho⟩
  iapply (drain_run WQ WO K c 26 _ _ ⟨_, _, mRb_eq c 6⟩ 29 (by decide) _) $$ [Hf2 Ho]
  · isplitr; · iexact HI
    isplitr; · iexact Hlev
    isplitl [Hf2]; · iexact Hf2
    iexact Ho
  iintro ⟨Hd2, Hl2, Ho⟩
  ihave Hl2 := (land_split WQ WO c _).1 $$ Hl2
  icases Hl2 with ⟨Hk2, Hs6⟩
  ihave Hs6 := (Entails.of_eq (fwd26 WQ WO c)) $$ Hs6
  iapply (send_run WQ WO K c 29 _ (devT_eq c _) _ _ (mRb_last c) 29 rfl _) $$ [Hp6 Hs6 Ho]
  · isplitr; · iexact HI
    isplitl [Hp6]; · iexact Hp6
    isplitl [Hs6]; · iexact Hs6
    iexact Ho
  iintro ⟨Hf6, Ho⟩
  iapply (blkL_run WQ WO c x fK fV qK qV a _ 6) $$ [Hwk Hk0 Hk2]
  · isplitl [Hwk]; · iexact Hwk
    isplitl [Hk0]; · iexact Hk0
    iexact Hk2
  iintro ⟨Hwk, Hk0, Hk2⟩
  iapply (drain_run WQ WO K c 27 _ _ ⟨_, _, mLb_eq c 6⟩ 30 (by decide) _) $$ [Hf3 Ho]
  · isplitr; · iexact HI
    isplitr; · iexact Hlev
    isplitl [Hf3]; · iexact Hf3
    iexact Ho
  iintro ⟨Hd3, Hl3, Ho⟩
  ihave Hl3 := (land_split WQ WO c _).1 $$ Hl3
  icases Hl3 with ⟨Hk3, Hw3⟩
  iapply (blkR_run WQ WO c x fK fV qK qV _ _ 6) $$ [Hwk Hk1 Hk3]
  · isplitl [Hwk]; · iexact Hwk
    isplitl [Hk1]; · iexact Hk1
    iexact Hk3
  iintro ⟨Hwk, Hk1, Hk3⟩
  iapply (drain_run WQ WO K c 28 _ _ ⟨_, _, mRa_eq c 7⟩ 30 (by decide) _) $$ [Hf4 Ho]
  · isplitr; · iexact HI
    isplitr; · iexact Hlev
    isplitl [Hf4]; · iexact Hf4
    iexact Ho
  iintro ⟨Hd4, Hl4, Ho⟩
  ihave Hl4 := (land_split WQ WO c _).1 $$ Hl4
  icases Hl4 with ⟨Hk4, Hw4⟩
  iapply (drain_run WQ WO K c 29 _ _ ⟨_, _, mRb_last c⟩ 30 (by decide) _) $$ [Hf6 Ho]
  · isplitr; · iexact HI
    isplitr; · iexact Hlev
    isplitl [Hf6]; · iexact Hf6
    iexact Ho
  iintro ⟨Hd6, Hl6, Ho⟩
  ihave Hl6 := (land_split WQ WO c _).1 $$ Hl6
  icases Hl6 with ⟨Hk6, Hw6⟩
  iapply (blkR7_run WQ WO c x fK fV qK qV _ _) $$ [Hwk Hk4 Hk6]
  · isplitl [Hwk]; · iexact Hwk
    isplitl [Hk4]; · iexact Hk4
    iexact Hk6
  iintro ⟨Hwk, Hk4, Hk6⟩
  iapply Hk
  unfold SE
  isplitl [Hfin Hd0 Hk0 Hd1 Hk1 Hd2 Hk2 Hd3 Hk3 Hd4 Hk4 Hd6 Hk6]
  · rw [← lo_all, lo_step,
      show lo (29 : Fin 30).val = lo ((28 : Fin 30).val + 1) from rfl, lo_step,
      show lo (28 : Fin 30).val = lo ((27 : Fin 30).val + 1) from rfl, lo_step,
      show lo (27 : Fin 30).val = lo ((26 : Fin 30).val + 1) from rfl, lo_step,
      show lo (26 : Fin 30).val = lo ((25 : Fin 30).val + 1) from rfl, lo_step,
      show lo (25 : Fin 30).val = lo ((24 : Fin 30).val + 1) from rfl, lo_step]
    unfold fin
    isplitl [Hd6 Hk6]
    · isplitl [Hd6]; · iexact Hd6
      iexact Hk6
    isplitl [Hd4 Hk4]
    · isplitl [Hd4]; · iexact Hd4
      iexact Hk4
    isplitl [Hd3 Hk3]
    · isplitl [Hd3]; · iexact Hd3
      iexact Hk3
    isplitl [Hd2 Hk2]
    · isplitl [Hd2]; · iexact Hd2
      iexact Hk2
    isplitl [Hd1 Hk1]
    · isplitl [Hd1]; · iexact Hd1
      iexact Hk1
    isplitl [Hd0 Hk0]
    · isplitl [Hd0]; · iexact Hd0
      iexact Hk0
    iexact Hfin
  isplitl [Hw1]; · iexact Hw1
  isplitl [Hw3]; · iexact Hw3
  isplitl [Hw4]; · iexact Hw4
  isplitl [Hw6]; · iexact Hw6
  isplitl [Ho]; · iexact Ho
  iexact Hwk

end Hops

end Cert.KernelIdeal.Ring

end
-- ==== Proof.KI.Ring.lean ====
module

public import proofs.«01_k».proof.Proof.KI.Hops

/-! # One device's run -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (WQ WO : Dev nD → Vec F S512x256 .bf16)

/-! ## The staged operands as they are read -/

def rdX (c : Dev nD) (f : Cont (F := F) mX c) : S2x128x512.Idx → Elt F .bf16 :=
  mX.view.readAt (Elt F) (Rect.unit (s := S2x128x512) ![0, 0, 0] S2x128x512.size inb_S2x128x512_S2x128x512_0_0_0).toLoadRect f
@[inherit_doc rdX] def rdWq (c : Dev nD) (f : Cont (F := F) mWq c) : S512x256.Idx → Elt F .bf16 :=
  mWq.view.readAt (Elt F) (Rect.unit (s := S512x256) ![0, 0] S512x256.size inb_S512x256_S512x256_0_0).toLoadRect f
@[inherit_doc rdX] def rdWo (c : Dev nD) (f : Cont (F := F) mWo c) : S512x256.Idx → Elt F .bf16 :=
  mWo.view.readAt (Elt F) (Rect.unit (s := S512x256) ![0, 0] S512x256.size inb_S512x256_S512x256_0_0).toLoadRect f
/-- The result's staging once the sum is stored. -/
def wrO (c : Dev nD) (f : Cont (F := F) mO c) (a : S256x512.Idx → Elt F .f32) : Cont (F := F) mO c :=
  (mO.access (Rect.unit (s := S2x128x512) ![0, 0, 0] S2x128x512.size inb_S2x128x512_S2x128x512_0_0_0)).write (Elt F) f (k0_pay357 a) Finset.univ

/-! ## The handshake -/

theorem peer15 (c : Dev nD) : ∀ n : Fin 30, isL n = false → peer (nb c 15) n = c ∧ nb (nb c 15) (srcK n) = nb c (dstK n) := by
  revert c; decide +kernel
theorem peer1 (c : Dev nD) : ∀ n : Fin 30, isL n = true → peer (nb c 1) n = c ∧ nb (nb c 1) (srcK n) = nb c (dstK n) := by
  revert c; decide +kernel

/-- A transfer's tokens and cells before the handshake. -/
def pre0 (c : Dev nD) (n : Fin 30) : sProp 𝕄 :=
  iprop(dutyTok ER (sendCell c n) 0 false ∗ dutyTok ER (recvCell (peer c n) n) 0 false ∗ reached ER (sendCell c n) 0
    ∗ atPos ER (sendCell c n) 0 ∅ 0 ∗ atPos ER (recvCell c n) 0 ∅ 0 ∗ cred (tallyAt (recvCell c n) () N))
/-- Where transfer `n` lands on this device, at any contents. -/
def land0 (c : Dev nD) (n : Fin 30) : sProp 𝕄 :=
  iprop((∃ f, sPt c (nb c (dstK n)) (half n) fullShare f) ∗ reached ER (recvCell c n) 0)

theorem pay15 (c : Dev nD) :
    bigSep (Finset.univ.filter fun n => isL n = false) (land0 (F := F) c) = barPay (nb c 15) false := by
  unfold barPay
  refine bigSep_congr fun n hn => ?_
  obtain ⟨h1, h2⟩ := peer15 c n (Finset.mem_filter.mp hn).2
  unfold land0 goal
  rw [h1, h2]
theorem pay1 (c : Dev nD) :
    bigSep (Finset.univ.filter fun n => isL n = true) (land0 (F := F) c) = barPay (nb c 1) true := by
  unfold barPay
  refine bigSep_congr fun n hn => ?_
  obtain ⟨h1, h2⟩ := peer1 c n (Finset.mem_filter.mp hn).2
  unfold land0 goal
  rw [h1, h2]
theorem land_dirs (c : Dev nD) :
    bigSep Finset.univ (land0 (F := F) c) = iprop(barPay (nb c 15) false ∗ barPay (nb c 1) true) := by
  rw [← pay15, ← pay1, ← bs_union (by decide +kernel)]
  congr 1
  decide +kernel

theorem pend_of1 (c : Dev nD) (n : Fin 30) :
    iprop(pre0 (F := F) c n ∗ (goal (F := F) c n ∗ reached ER (recvCell (peer c n) n) 0)) ⊢ pend (F := F) c n := by
  unfold pre0 pend
  iintro ⟨⟨H1, H2, H3, H4, H5, H6⟩, Hg⟩
  isplitl [H1]; · iexact H1
  isplitl [H2]; · iexact H2
  isplitl [H3]; · iexact H3
  isplitl [Hg]; · iexact Hg
  isplitl [H4]; · iexact H4
  isplitl [H5]; · iexact H5
  iexact H6

theorem pend_of (c : Dev nD) :
    iprop(bigSep Finset.univ (pre0 (F := F) c) ∗ bigSep Finset.univ fun n => iprop(goal (F := F) c n ∗ reached ER (recvCell (peer c n) n) 0))
      ⊢ bigSep Finset.univ (pend (F := F) c) := by
  rw [← bs_sep]
  exact bigSep_mono fun n _ => pend_of1 c n

/-- What a device has of the exchange before it starts. -/
def talk0 (c : Dev nD) : sProp 𝕄 :=
  iprop(atPos ER (barCell c) 0 ∅ 0 ∗ cred (tallyAt (barCell c) () 2) ∗ reached ER (barCell (nb c 15)) 0 ∗ reached ER (barCell (nb c 1)) 0
    ∗ dutyTok ER (barCell (nb c 15)) 0 false ∗ dutyTok ER (barCell (nb c 1)) 0 true
    ∗ bigSep Finset.univ (pre0 c) ∗ bigSep Finset.univ (land0 c)
    ∗ (∃ f, sPt c (nb c 0) 0 fullShare f) ∗ (∃ f, sPt c (nb c 0) 1 fullShare f))

section Run
variable (K : GSem nD τ sig → ℕ) (c : Dev nD) (fX : Cont (F := F) mX c) (fQ : Cont (F := F) mWq c) (fW : Cont (F := F) mWo c)
  (fK : Cont (F := F) mK c) (fV : Cont (F := F) mV c) (qX qQ qW qK qV : PosShare TreeShare)

theorem pro_run (hQ : WQ c = rdWq c fQ) (hW : WO c = rdWo c fW) (Q : FVec F S256x512 .bf16 → sProp 𝕄) :
    iprop(allInv WQ WO K ∗ levAts L lv ∗ talk0 c ∗ (∃ W, owes (c : Thread nD τ) (O₀ c) W)
        ∗ mPt c mX qX fX ∗ mPt c mWq qQ fQ ∗ mPt c mWo qW fW
        ∗ (∃ f : S256x512.Idx → Elt F .f32, mPt c mAcc fullShare f) ∗ (∃ f : S256x256.Idx → Elt F .bf16, mPt c mWs fullShare f))
      ⊢ iprop((semVal (barCell c) 0 ∗ bigSep Finset.univ (pend c) ∗ own WQ WO c 0 fullShare ∗ own WQ WO c 1 fullShare ∗ ow c 0
            ∗ mPt c mX qX fX ∗ mPt c mWq qQ fQ ∗ mPt c mWo qW fW ∗ mPt c mAcc fullShare (k0_pay3 (F := F))
            ∗ mPt c mWs fullShare (diag (fun _ => z0) (fun _ => z0)) -∗ Q (k0_pay5 (rdX c fX)))
        -∗ wpc c (proP c) Q) := by
  unfold proP wpc talk0 O₀ rdX own
  simp only [wp_bind]
  rw [dev1_eq, dev2_eq, land_dirs]
  iintro ⟨#HI, #Hlev, ⟨Hat, Hcr, #Hr15, #Hr1, Ht15, Ht1, Hpre, ⟨Hl15, Hl1⟩, ⟨%g0, Ho0⟩, ⟨%g1, Ho1⟩⟩, ⟨%W, HO⟩, HX, HQ, HW, ⟨%fa, Ha⟩, ⟨%fw, Hw⟩⟩ Hk
  ihave #HIb := (allInv_bar WQ WO K c) $$ HI
  ihave #HI15 := (allInv_bar WQ WO K (nb c 15)) $$ HI
  ihave #HI1 := (allInv_bar WQ WO K (nb c 1)) $$ HI
  iapply (Rounds.wp_signal 𝒱₀ ER (Rd WQ WO) (c : Thread nD τ) none (dst := (nb c 15 : Thread nD τ)) (sem := barS) (r := 0) (d := false) (κ := K (barCell (nb c 15)))
      (by rw [duties_bar]; exact Finset.mem_univ _) (amount_bar WQ WO (nb c 15) false) () (Ow c 0 + tallyAt (barCell (nb c 1)) () 1) rfl)
    $$ [HO Ht15 Hl15]
  · isplitr; · iexact HI15
    isplitl [HO]; · iexact HO
    isplitl [Ht15]; · iexact Ht15
    isplitl [Hl15]; · rw [payload_bar]; iexact Hl15
    iexact Hr15
  iintro HO
  iapply (wpc_ret c)
  iapply (Rounds.wp_signal 𝒱₀ ER (Rd WQ WO) (c : Thread nD τ) none (dst := (nb c 1 : Thread nD τ)) (sem := barS) (r := 0) (d := true) (κ := K (barCell (nb c 1)))
      (by rw [duties_bar]; exact Finset.mem_univ _) (amount_bar WQ WO (nb c 1) true) () (Ow c 0) rfl)
    $$ [HO Ht1 Hl1]
  · isplitr; · iexact HI1
    isplitl [HO]; · iexact HO
    isplitl [Ht1]; · iexact Ht1
    isplitl [Hl1]; · rw [payload_bar]; iexact Hl1
    iexact Hr1
  iintro HO
  iapply (wpc_ret c)
  iapply (Rounds.wp_wait_rest_token 𝒱₀ ER (Rd WQ WO) (c : Thread nD τ) none (w := .semWait barS ((2 : ℕ) : ℤ)) (κ := K (barCell c))
      (wpE_semWait_eq 𝒱₀ (c : Thread nD τ) none Set.univ) (Set.mem_univ _) () (O := Ow c 0) (R := 0) (m := 0) (T := ∅)
      ((Nat.zero_add _).trans (expect_bar WQ WO c).symm)) $$ [Hcr HO Hat]
  · isplitr; · iexact HIb
    isplitl [Hcr]; · iexact Hcr
    isplitl [HO]; · iexact HO
    isplitr; · iapply (mayWait_bar c); iexact Hlev
    iexact Hat
  iintro ⟨HO, Hat, -, Hpay⟩
  ihave Hg := (Entails.of_eq (rest_bar WQ WO c)) $$ Hpay
  imod (close WQ WO (K (barCell c)) (barCell c)) $$ [Hat] with HsB
  · isplitr; · iexact HIb
    iexact Hat
  ihave Hpend := (pend_of c) $$ [Hpre Hg]
  · isplitl [Hpre]; · iexact Hpre
    iexact Hg
  iapply (wpc_ret c)
  iapply (ld_run c mWq _ _ qQ fQ _) $$ HQ
  iintro HQ
  iapply (ld_slot c (nb c 0) 0 fullShare g0 _ _ (by rw [nb_zero]; exact off1_eq c) _ _) $$ Ho0
  iintro Ho0
  iapply (st_slot WQ WO c (nb c 0) 0 g0 _ _ (by rw [nb_zero]; exact off1_eq c) _ (by rw [nb_zero]; unfold pay; rw [if_pos rfl, hQ]; rfl) _ _ _) $$ Ho0
  iintro Ho0
  iapply (ld_run c mWo _ _ qW fW _) $$ HW
  iintro HW
  iapply (ld_slot c (nb c 0) 1 fullShare g1 _ _ (by rw [nb_zero]; exact off2_eq c) _ _) $$ Ho1
  iintro Ho1
  iapply (st_slot WQ WO c (nb c 0) 1 g1 _ _ (by rw [nb_zero]; exact off2_eq c) _ (by rw [nb_zero]; unfold pay; rw [if_neg (by decide), hW]; rfl) _ _ _) $$ Ho1
  iintro Ho1
  iapply (ld_acc c _ fullShare fa _) $$ Ha
  iintro Ha
  iapply (st_acc c _ _ _ fa _) $$ Ha
  iintro Ha
  iapply (ld_ws c _ fullShare fw _) $$ Hw
  iintro Hw
  iapply (st_ws c _ _ _ fw _) $$ Hw
  iintro Hw
  iapply (ld_run c mX _ _ qX fX _) $$ HX
  iintro HX
  iapply (wpc_ret c)
  iapply Hk
  isplitl [HsB]; · iexact HsB
  isplitl [Hpend]; · iexact Hpend
  isplitl [Ho0]; · iexact Ho0
  isplitl [Ho1]; · iexact Ho1
  isplitl [HO]; · unfold ow; iexists _; iexact HO
  isplitl [HX]; · iexact HX
  isplitl [HQ]; · iexact HQ
  isplitl [HW]; · iexact HW
  isplitl [Ha]; · iexact Ha
  rw [← zero_diag]
  iexact Hw

theorem own_split (p : Fin 2) (q : PosShare TreeShare) :
    own WQ WO c p q ⊣⊢ iprop(own WQ WO c p q.left ∗ own WQ WO c p q.right) := sPt_split ..

theorem hi_all : (hi 0 : Finset (Fin 30)) = Finset.univ := by decide +kernel

theorem hop0_run (x : FVec F S256x512 .bf16) (a : S256x512.Idx → Elt F .f32) (Q : PUnit → sProp 𝕄) :
    iprop(allInv WQ WO K ∗ levAts L lv ∗ bigSep Finset.univ (pend c) ∗ own WQ WO c 0 fullShare ∗ own WQ WO c 1 fullShare ∗ ow c 0 ∗ wk c fK fV qK qV a)
      ⊢ iprop((SH WQ WO c fK fV qK qV 0 1 2 3 4 (stepA WQ WO c fK fV x (negV c) (nb c 0) a)
          ∗ own WQ WO c 0 fullShare.left ∗ own WQ WO c 1 fullShare.left -∗ Q ⟨⟩)
        -∗ wpc c (hop0P c x) Q) := by
  obtain ⟨s0, s1, s2, s3⟩ := own_src WQ WO c
  unfold hop0P wpc
  simp only [wp_bind]
  rw [← hi_all, show hi 0 = hi (0 : Fin 30).val from rfl, hi_step 0, show hi ((0 : Fin 30).val + 1) = hi (1 : Fin 30).val from rfl, hi_step 1,
    show hi ((1 : Fin 30).val + 1) = hi (2 : Fin 30).val from rfl, hi_step 2, show hi ((2 : Fin 30).val + 1) = hi (3 : Fin 30).val from rfl, hi_step 3]
  iintro ⟨#HI, #Hlev, ⟨Hp0, Hp1, Hp2, Hp3, Hpend⟩, Ho0, Ho1, Ho, Hwk⟩ Hk
  ihave Ho0 := (own_split WQ WO c 0 fullShare).1 $$ Ho0
  icases Ho0 with ⟨Hk0, Hr0⟩
  ihave Hr0 := (own_split WQ WO c 0 fullShare.right).1 $$ Hr0
  icases Hr0 with ⟨Hs0, Hs1⟩
  ihave Ho1 := (own_split WQ WO c 1 fullShare).1 $$ Ho1
  icases Ho1 with ⟨Hk1, Hr1⟩
  ihave Hr1 := (own_split WQ WO c 1 fullShare.right).1 $$ Hr1
  icases Hr1 with ⟨Hs2, Hs3⟩
  ihave Hs0 := (Entails.of_eq s0.symm) $$ Hs0
  ihave Hs1 := (Entails.of_eq s1.symm) $$ Hs1
  ihave Hs2 := (Entails.of_eq s2.symm) $$ Hs2
  ihave Hs3 := (Entails.of_eq s3.symm) $$ Hs3
  iapply (send_run WQ WO K c 0 _ (devT_eq c _) _ _ (mRa_eq c 0) 0 rfl _) $$ [Hp0 Hs0 Ho]
  · isplitr; · iexact HI
    isplitl [Hp0]; · iexact Hp0
    isplitl [Hs0]; · iexact Hs0
    iexact Ho
  iintro ⟨Hf0, Ho⟩
  iapply (send_run WQ WO K c 1 _ (devT_eq c _) _ _ (mLa_eq c 0) 1 rfl _) $$ [Hp1 Hs1 Ho]
  · isplitr; · iexact HI
    isplitl [Hp1]; · iexact Hp1
    isplitl [Hs1]; · iexact Hs1
    iexact Ho
  iintro ⟨Hf1, Ho⟩
  iapply (send_run WQ WO K c 2 _ (devT_eq c _) _ _ (mRb_eq c 0) 2 rfl _) $$ [Hp2 Hs2 Ho]
  · isplitr; · iexact HI
    isplitl [Hp2]; · iexact Hp2
    isplitl [Hs2]; · iexact Hs2
    iexact Ho
  iintro ⟨Hf2, Ho⟩
  iapply (send_run WQ WO K c 3 _ (devT_eq c _) _ _ (mLb_eq c 0) 3 rfl _) $$ [Hp3 Hs3 Ho]
  · isplitr; · iexact HI
    isplitl [Hp3]; · iexact Hp3
    isplitl [Hs3]; · iexact Hs3
    iexact Ho
  iintro ⟨Hf3, Ho⟩
  iapply (blk0_run WQ WO c x fK fV qK qV a _) $$ [Hwk Hk0 Hk1]
  · isplitl [Hwk]; · iexact Hwk
    isplitl [Hk0]; · iexact Hk0
    iexact Hk1
  iintro ⟨Hwk, Hk0, Hk1⟩
  iapply (drain_run WQ WO K c 0 _ _ ⟨_, _, mRa_eq c 0⟩ 4 (by decide) _) $$ [Hf0 Ho]
  · isplitr; · iexact HI
    isplitr; · iexact Hlev
    isplitl [Hf0]; · iexact Hf0
    iexact Ho
  iintro ⟨Hd0, Hl0, Ho⟩
  iapply (drain_run WQ WO K c 1 _ _ ⟨_, _, mLa_eq c 0⟩ 4 (by decide) _) $$ [Hf1 Ho]
  · isplitr; · iexact HI
    isplitr; · iexact Hlev
    isplitl [Hf1]; · iexact Hf1
    iexact Ho
  iintro ⟨Hd1, Hl1, Ho⟩
  iapply Hk
  isplitr [Hk0 Hk1]
  · unfold SH
    isplitr
    · rw [show lo (0 : Fin 30).val = ∅ from by decide +kernel, bigSep_empty]; iempintro
    isplitl [Hd0 Hl0]
    · isplitl [Hd0]; · iexact Hd0
      iexact Hl0
    isplitl [Hd1 Hl1]
    · isplitl [Hd1]; · iexact Hd1
      iexact Hl1
    isplitl [Hf2]; · iexact Hf2
    isplitl [Hf3]; · iexact Hf3
    isplitl [Hpend]; · iexact Hpend
    isplitl [Ho]; · iexact Ho
    iexact Hwk
  isplitl [Hk0]; · iexact Hk0
  iexact Hk1

/-- The devices in the order their blocks are added. -/
def order (c : Dev nD) : List (Dev nD) :=
  [nb c 0, orig c 0, orig c 1, orig c 4, orig c 5, orig c 8, orig c 9, orig c 12, orig c 13, orig c 16, orig c 17, orig c 20, orig c 21,
    orig c 24, orig c 25, orig c 28]

/-- The sum over the heads of all devices. -/
def accAll : S256x512.Idx → Elt F .f32 :=
  (order c).foldl (fun a j => stepA WQ WO c fK fV (k0_pay5 (rdX c fX)) (negV c) j a) (k0_pay3 (F := F))

theorem ring_run (hQ : WQ c = rdWq c fQ) (hW : WO c = rdWo c fW) (fO : Cont (F := F) mO c) (Q : PUnit → sProp 𝕄) :
    iprop(allInv WQ WO K ∗ levAts L lv ∗ talk0 c ∗ (∃ W, owes (c : Thread nD τ) (O₀ c) W)
        ∗ mPt c mX qX fX ∗ mPt c mWq qQ fQ ∗ mPt c mWo qW fW ∗ mPt c mK qK fK ∗ mPt c mV qV fV ∗ mPt c mO fullShare fO
        ∗ (∃ f : S256x512.Idx → Elt F .f32, mPt c mAcc fullShare f) ∗ (∃ f : S256x256.Idx → Elt F .bf16, mPt c mQs fullShare f)
        ∗ (∃ f : S256x256.Idx → Elt F .bf16, mPt c mCs fullShare f) ∗ (∃ f : S256x256.Idx → Elt F .bf16, mPt c mWs fullShare f))
      ⊢ iprop((semVal (barCell c) 0 ∗ SE WQ WO c fK fV qK qV (accAll WQ WO c fX fK fV) ∗ own WQ WO c 0 fullShare.left ∗ own WQ WO c 1 fullShare.left
            ∗ mPt c mX qX fX ∗ mPt c mWq qQ fQ ∗ mPt c mWo qW fW ∗ mPt c mO fullShare (wrO c fO (accAll WQ WO c fX fK fV)) -∗ Q ⟨⟩)
        -∗ wpc c ringP Q) := by
  have lt0 : 0 < 6 := by decide
  have lt1 : 1 < 6 := by decide
  have lt2 : 2 < 6 := by decide
  have lt3 : 3 < 6 := by decide
  have lt4 : 4 < 6 := by decide
  have lt5 : 5 < 6 := by decide
  unfold ringP wpc
  simp only [wp_bind]
  iintro ⟨#HI, #Hlev, Htk, HO, HX, HQ, HW, HK, HV, HY, Ha, Hq, Hc, Hw⟩ Hk
  iapply (Entails.of_eq (wp_deviceId 𝒱₀ (c : Thread nD τ) none Set.univ).symm)
  iapply (wpc_ret c)
  iapply (pro_run WQ WO K c fX fQ fW qX qQ qW hQ hW _) $$ [Htk HO HX HQ HW Ha Hw]
  · isplitr; · iexact HI
    isplitr; · iexact Hlev
    isplitl [Htk]; · iexact Htk
    isplitl [HO]; · iexact HO
    isplitl [HX]; · iexact HX
    isplitl [HQ]; · iexact HQ
    isplitl [HW]; · iexact HW
    isplitl [Ha]; · iexact Ha
    iexact Hw
  iintro ⟨HsB, Hpend, Ho0, Ho1, Ho, HX, HQ, HW, Ha, Hw⟩
  iapply (hop0_run WQ WO K c fK fV qK qV (k0_pay5 (rdX c fX)) _ _) $$ [Hpend Ho0 Ho1 Ho Ha Hw Hq Hc HK HV]
  · isplitr; · iexact HI
    isplitr; · iexact Hlev
    isplitl [Hpend]; · iexact Hpend
    isplitl [Ho0]; · iexact Ho0
    isplitl [Ho1]; · iexact Ho1
    isplitl [Ho]; · iexact Ho
    unfold wk
    isplitl [Hq]; · iexact Hq
    isplitl [Hw]; · iexists _; iexists _; iexact Hw
    isplitl [Hc]; · iexact Hc
    isplitl [Ha]; · iexact Ha
    isplitl [HK]; · iexact HK
    iexact HV
  iintro ⟨HS, Ho0, Ho1⟩
  iapply (hop_run WQ WO K c (k0_pay5 (rdX c fX)) fK fV qK qV _ 0 lt0 _) $$ [HS]
  · isplitr; · iexact HI
    isplitr; · iexact Hlev
    iexact HS
  iintro HS
  iapply (hop_run WQ WO K c (k0_pay5 (rdX c fX)) fK fV qK qV _ 1 lt1 _) $$ [HS]
  · isplitr; · iexact HI
    isplitr; · iexact Hlev
    iexact HS
  iintro HS
  iapply (hop_run WQ WO K c (k0_pay5 (rdX c fX)) fK fV qK qV _ 2 lt2 _) $$ [HS]
  · isplitr; · iexact HI
    isplitr; · iexact Hlev
    iexact HS
  iintro HS
  iapply (hop_run WQ WO K c (k0_pay5 (rdX c fX)) fK fV qK qV _ 3 lt3 _) $$ [HS]
  · isplitr; · iexact HI
    isplitr; · iexact Hlev
    iexact HS
  iintro HS
  iapply (hop_run WQ WO K c (k0_pay5 (rdX c fX)) fK fV qK qV _ 4 lt4 _) $$ [HS]
  · isplitr; · iexact HI
    isplitr; · iexact Hlev
    iexact HS
  iintro HS
  iapply (hop_run WQ WO K c (k0_pay5 (rdX c fX)) fK fV qK qV _ 5 lt5 _) $$ [HS]
  · isplitr; · iexact HI
    isplitr; · iexact Hlev
    iexact HS
  iintro HS
  iapply (hop7_run WQ WO K c (k0_pay5 (rdX c fX)) fK fV qK qV _ _) $$ [HS]
  · isplitr; · iexact HI
    isplitr; · iexact Hlev
    iexact HS
  iintro HS
  unfold epiP
  simp only [wp_bind]
  unfold SE wk
  icases HS with ⟨Hfin, H25, H27, H28, H29, Ho, Hq, Hw, Hc, Ha, HK, HV⟩
  iapply (ld_acc c _ fullShare _ _) $$ Ha
  iintro Ha
  iapply (ld_run c mO _ _ fullShare fO _) $$ HY
  iintro HY
  iapply (st_run c mO _ _ _ _ fO _) $$ HY
  iintro HY
  iapply Hk
  isplitl [HsB]; · iexact HsB
  isplitl [Hfin H25 H27 H28 H29 Ho Hq Hw Hc Ha HK HV]
  · isplitl [Hfin]; · iexact Hfin
    isplitl [H25]; · iexact H25
    isplitl [H27]; · iexact H27
    isplitl [H28]; · iexact H28
    isplitl [H29]; · iexact H29
    isplitl [Ho]; · iexact Ho
    isplitl [Hq]; · iexact Hq
    isplitl [Hw]; · iexact Hw
    isplitl [Hc]; · iexact Hc
    isplitl [Ha]; · iexact Ha
    isplitl [HK]; · iexact HK
    iexact HV
  isplitl [Ho0]; · iexact Ho0
  isplitl [Ho1]; · iexact Ho1
  isplitl [HX]; · iexact HX
  isplitl [HQ]; · iexact HQ
  isplitl [HW]; · iexact HW
  iexact HY

end Run

end Cert.KernelIdeal.Ring

end
-- ==== Proof.KI.Cover.lean ====
module

public import proofs.«01_k».proof.Proof.KI.Ring

/-! # The exchange buffer in blocks and whole -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (WQ WO : Dev nD → Vec F S512x256 .bf16)

theorem slot_cover (c : Dev nD) :
    (Finset.univ : Finset S16x2x512x256.Idx) = (Finset.univ : Finset (Fin 16 × Fin 2)).biUnion fun k => slotSet (nb c k.1) k.2 := by
  symm
  rw [Finset.eq_univ_iff_forall]
  intro i
  rw [Finset.mem_biUnion]
  let d : Dev nD := i 0
  refine ⟨(posOf d - posOf c, i 1), Finset.mem_univ _, ?_⟩
  exact (mem_slot (nb c (posOf d - posOf c)) (i 1) i).mpr ⟨congrArg Fin.val (nb_surj c d).symm, rfl⟩

theorem slot_disj (c : Dev nD) (k k' : Fin 16 × Fin 2) (h : k ≠ k') : Disjoint (slotSet (nb c k.1) k.2) (slotSet (nb c k'.1) k'.2) := by
  rw [Finset.disjoint_left]
  intro i h1 h2
  have h1 := (mem_slot _ _ i).mp h1
  have h2 := (mem_slot _ _ i).mp h2
  exact h (Prod.ext (nb_inj c _ _ (Fin.ext (h1.1.symm.trans h2.1))) (Fin.ext (h1.2.symm.trans h2.2)))

/-- The whole buffer is its blocks. -/
theorem buf_slots (c : Dev nD) (f : BufC (F := F) c) :
    ((c : Thread nD τ).loc cc0_scratch0 ↦{fullShare} f : sProp 𝕄)
      = bigSep Finset.univ fun k : Fin 16 × Fin 2 => sPt c (nb c k.1) k.2 fullShare f :=
  (congrArg (fun S : Finset S16x2x512x256.Idx => (mBuf.view.loc (c : Thread nD τ) ↦[S]{fullShare} f : sProp 𝕄)) (slot_cover c)).trans
    (pointsTo_biUnion (ℓ := mBuf.view.loc (c : Thread nD τ)) Finset.univ (fun k : Fin 16 × Fin 2 => slotSet (nb c k.1) k.2)
      (fun k _ k' _ h => slot_disj c k k' h))

theorem slots_land (Φ : Fin 16 × Fin 2 → sProp 𝕄) :
    bigSep Finset.univ Φ = iprop(Φ (0, 0) ∗ Φ (0, 1) ∗ bigSep Finset.univ fun n : Fin 30 => Φ (dstK n, half n)) := by
  rw [show (Finset.univ : Finset (Fin 16 × Fin 2)) = insert (0, 0) (insert (0, 1) (Finset.univ.image fun n : Fin 30 => (dstK n, half n))) from by decide +kernel,
    bs_insert (by decide +kernel), bs_insert (by decide +kernel),
    bigSep_image_of_injOn (f := fun n : Fin 30 => (dstK n, half n)) (fun a _ b _ h => (by decide +kernel :
      ∀ a b : Fin 30, (dstK a, half a) = (dstK b, half b) → a = b) a b h)]

/-- The buffer dealt into its blocks before the exchange. -/
theorem buf_deal (c : Dev nD) (f : BufC (F := F) c) :
    iprop(((c : Thread nD τ).loc cc0_scratch0 ↦{fullShare} f) ∗ bigSep Finset.univ fun n : Fin 30 => reached ER (recvCell c n) 0)
      ⊢ (iprop(bigSep Finset.univ (land0 c) ∗ (∃ f, sPt c (nb c 0) 0 fullShare f) ∗ (∃ f, sPt c (nb c 0) 1 fullShare f)) : sProp 𝕄) := by
  have h1 : ∀ n : Fin 30, (iprop(sPt c (nb c (dstK n)) (half n) fullShare f ∗ reached ER (recvCell c n) 0) : sProp 𝕄) ⊢ land0 c n := fun n => by
    unfold land0
    iintro ⟨H, #Hr⟩
    isplitl; · iexists f; iexact H
    iexact Hr
  have h : iprop((bigSep Finset.univ fun n : Fin 30 => sPt c (nb c (dstK n)) (half n) fullShare f) ∗ bigSep Finset.univ fun n : Fin 30 => reached ER (recvCell c n) 0)
      ⊢ (bigSep Finset.univ (land0 c) : sProp 𝕄) := by
    rw [← bs_sep]
    exact bigSep_mono fun n _ => h1 n
  rw [buf_slots, slots_land]
  iintro ⟨⟨H0, H1, Hl⟩, Hr⟩
  isplitl [Hl Hr]
  · iapply h
    isplitl [Hl]; · iexact Hl
    iexact Hr
  isplitl [H0]; · iexists f; iexact H0
  iexists f; iexact H1

/-- Where a block that has come is sent from next. -/
def nxt (n : Fin 30) : Fin 30 := if h : n.val < 24 then ⟨n.val + 4, by omega⟩ else if n = 24 then 28 else 29
abbrev sentOn : Finset (Fin 30) := Finset.univ.filter fun n => n ≠ 25 ∧ n ≠ 27 ∧ n ≠ 28 ∧ n ≠ 29

theorem fwd_nxt (c : Dev nD) (n : Fin 30) (hn : n ∈ sentOn) : fwd WQ WO c n = srcPt WQ WO c (nxt n) :=
  fwd_eq WQ WO c n (nxt n) ((by decide +kernel : ∀ n ∈ sentOn, 4 ≤ (nxt n).val) n hn)
    ((by decide +kernel : ∀ n ∈ sentOn, dstK n = srcK (nxt n)) n hn) ((by decide +kernel : ∀ n ∈ sentOn, half n = half (nxt n)) n hn)

theorem src_fwd (c : Dev nD) : bigSep (hi 4) (srcPt WQ WO c) = bigSep sentOn (fwd WQ WO c) := by
  rw [show hi 4 = sentOn.image nxt from by decide +kernel,
    bigSep_image_of_injOn (f := nxt) (fun a ha b hb h => (by decide +kernel : ∀ a ∈ sentOn, ∀ b ∈ sentOn, nxt a = nxt b → a = b) a (Finset.mem_coe.mp ha) b (Finset.mem_coe.mp hb) h)]
  exact bigSep_congr fun n hn => (fwd_nxt WQ WO c n hn).symm

theorem fwd_all (c : Dev nD) (Φ : Fin 30 → sProp 𝕄) :
    bigSep Finset.univ Φ = iprop(Φ 25 ∗ Φ 27 ∗ Φ 28 ∗ Φ 29 ∗ bigSep sentOn Φ) := by
  rw [show (Finset.univ : Finset (Fin 30)) = insert 25 (insert 27 (insert 28 (insert 29 sentOn))) from by decide +kernel,
    bs_insert (by decide +kernel), bs_insert (by decide +kernel), bs_insert (by decide +kernel), bs_insert (by decide +kernel)]

theorem lands_of (c : Dev nD) :
    iprop(bigSep Finset.univ (keep WQ WO c) ∗ bigSep Finset.univ (fwd WQ WO c))
      ⊢ (bigSep Finset.univ fun n : Fin 30 => sPt c (nb c (dstK n)) (half n) fullShare (BUF WQ WO c) : sProp 𝕄) := by
  rw [← bs_sep]
  exact bigSep_mono fun n _ => (land_split WQ WO c n).2

/-- The counters of the exchange at zero. -/
def sems0 (c : Dev nD) : sProp 𝕄 :=
  iprop((bigSep Finset.univ fun n : Fin 30 => semVal (sendCell c n) 0) ∗ (bigSep Finset.univ fun n : Fin 30 => semVal (recvCell c n) 0))

theorem fin_all (c : Dev nD) :
    bigSep Finset.univ (fin WQ WO c) = iprop((((bigSep Finset.univ fun n : Fin 30 => semVal (sendCell c n) 0)
      ∗ (bigSep Finset.univ fun n : Fin 30 => semVal (recvCell c n) 0) ∗ bigSep Finset.univ (srcPt WQ WO c)) ∗ bigSep Finset.univ (keep WQ WO c)) : sProp 𝕄) := by
  unfold fin dn
  rw [bs_sep, bs_sep, bs_sep]

theorem own_join (c : Dev nD) (p : Fin 2) :
    iprop(own WQ WO c p fullShare.left ∗ own WQ WO c p fullShare.right.left ∗ own WQ WO c p fullShare.right.right)
      ⊢ (sPt c (nb c 0) p fullShare (BUF WQ WO c) : sProp 𝕄) := by
  have h := (own_split WQ WO c p fullShare).2
  rw [show own WQ WO c p fullShare = sPt c (nb c 0) p fullShare (BUF WQ WO c) from rfl] at h
  iintro ⟨Hl, H0, H1⟩
  iapply h
  isplitl [Hl]; · iexact Hl
  iapply (own_split WQ WO c p fullShare.right).2
  isplitl [H0]; · iexact H0
  iexact H1

/-- The buffer whole again after the exchange. -/
theorem buf_join (c : Dev nD) :
    iprop(bigSep Finset.univ (fin WQ WO c) ∗ fwd WQ WO c 25 ∗ fwd WQ WO c 27 ∗ fwd WQ WO c 28 ∗ fwd WQ WO c 29
        ∗ own WQ WO c 0 fullShare.left ∗ own WQ WO c 1 fullShare.left)
      ⊢ iprop(sems0 c ∗ (c : Thread nD τ).loc cc0_scratch0 ↦{fullShare} (BUF WQ WO c)) := by
  obtain ⟨s0, s1, s2, s3⟩ := own_src WQ WO c
  rw [fin_all, buf_slots, slots_land, ← hi_all, show (hi 0 : Finset (Fin 30)) = hi (0 : Fin 30).val from rfl, hi_step 0 (srcPt WQ WO c),
    show hi ((0 : Fin 30).val + 1) = hi (1 : Fin 30).val from rfl, hi_step 1 (srcPt WQ WO c),
    show hi ((1 : Fin 30).val + 1) = hi (2 : Fin 30).val from rfl, hi_step 2 (srcPt WQ WO c),
    show hi ((2 : Fin 30).val + 1) = hi (3 : Fin 30).val from rfl, hi_step 3 (srcPt WQ WO c),
    show hi ((3 : Fin 30).val + 1) = hi 4 from rfl, src_fwd, s0, s1, s2, s3, show (hi (0 : Fin 30).val : Finset (Fin 30)) = Finset.univ from hi_all]
  unfold sems0
  iintro ⟨⟨⟨HS, HR, H0, H1, H2, H3, Hf⟩, Hk⟩, H25, H27, H28, H29, Hl0, Hl1⟩
  isplitl [HS HR]
  · isplitl [HS]; · iexact HS
    iexact HR
  isplitl [H0 H1 Hl0]
  · iapply (own_join WQ WO c 0)
    isplitl [Hl0]; · iexact Hl0
    isplitl [H0]; · iexact H0
    iexact H1
  isplitl [H2 H3 Hl1]
  · iapply (own_join WQ WO c 1)
    isplitl [Hl1]; · iexact Hl1
    isplitl [H2]; · iexact H2
    iexact H3
  iapply (lands_of WQ WO c)
  isplitl [Hk]; · iexact Hk
  rw [fwd_all c (fwd WQ WO c)]
  isplitl [H25]; · iexact H25
  isplitl [H27]; · iexact H27
  isplitl [H28]; · iexact H28
  isplitl [H29]; · iexact H29
  iexact Hf

end Cert.KernelIdeal.Ring

end
-- ==== Proof.KI.ProgEq.lean ====
module

public import proofs.«01_k».proof.Proof.KI.Prog

@[expose] public section

set_option synthInstance.maxSize 4096

noncomputable section

namespace Cert.KernelIdeal.Ring

open Idealize.ShloMosaic Idealize.SL.Sem
open Cert.KernelIdeal.Gen

variable {F : FTy → Type} [FloatOps F] [Named F]

set_option maxRecDepth 1000000 in
set_option maxHeartbeats 0 in
/-- The printed body at the call's point is the short program. -/
theorem body_eq : bodyAt0 (F := F) t0_0 = ringP (F := F) := by
  unfold bodyAt0
  rfl

end Cert.KernelIdeal.Ring

end
-- ==== Proof.KI.Body.lean ====
module

public import proofs.«01_k».proof.Proof.KI.Cover
public import proofs.«01_k».proof.Proof.KI.ProgEq

/-! # The body obligation -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ)

/-! ## What the windows bring -/

theorem z3 : (![0, 0, 0] : Fin 3 → ℕ) = fun _ => 0 := by funext a; fin_cases a <;> rfl

def WQ (c : Dev nD) : Vec F S512x256 .bf16 := iblk m c 1 t0_0
@[inherit_doc WQ] def WO (c : Dev nD) : Vec F S512x256 .bf16 := iblk m c 2 t0_0
@[inherit_doc WQ] def bX (c : Dev nD) : S2x128x512.Idx → Elt F .bf16 := iblk m c 0 t0_0
@[inherit_doc WQ] def bK (c : Dev nD) : S64x64x256.Idx → Elt F .bf16 := iblk m c 3 t0_0
@[inherit_doc WQ] def bV (c : Dev nD) : S64x256x64.Idx → Elt F .bf16 := iblk m c 4 t0_0

/-- What the kernel leaves in the result's staging. -/
def OUT (c : Dev nD) : S2x128x512.Idx → Elt F .f32 := k0_pay357 (accAll (WQ m) (WO m) c (bX m c) (bK m c) (bV m c))

theorem rdX_eq (c : Dev nD) (f : S2x128x512.Idx → Elt F .bf16) : rdX c f = f := Memref.readAt_unit_zero (Elt F) cc0_stg0_0 z3 _ f
theorem rdWq_eq (c : Dev nD) (f : S512x256.Idx → Elt F .bf16) : rdWq c f = f := Memref.readAt_unit_zero (Elt F) cc0_stg1_0 z2 _ f
theorem rdWo_eq (c : Dev nD) (f : S512x256.Idx → Elt F .bf16) : rdWo c f = f := Memref.readAt_unit_zero (Elt F) cc0_stg2_0 z2 _ f
theorem wrO_eq (c : Dev nD) (f : S2x128x512.Idx → Elt F .f32) (a : S256x512.Idx → Elt F .f32) : wrO c f a = k0_pay357 a :=
  Memref.write_access_unit_zero_univ (Elt F) cc0_stg5_0 z3 _ f _

theorem stg (c : Dev nD) (b : Ref sig .tc) (q : PosShare TreeShare) (f : b.ty.Contents (Elt F)) :
    (owns (c : Thread nD τ) (Memref.whole b) q f : sProp 𝕄)
      = ((Memref.whole b).view.loc (c : Thread nD τ) ↦[(Memref.whole b).view.set]{q} f : sProp 𝕄) := by
  refine (owns_whole (c : Thread nD τ) b q f).trans ?_
  simp only [Memref.view_whole, View.set_whole]

/-! ## The proof data -/

def scr (c : Dev nD) : sProp 𝕄 := Pipeline.scopedRest spec0 c

/-- What a device has of the exchange beside its buffers. -/
def talkG (c : Dev nD) : sProp 𝕄 :=
  iprop(atPos ER (barCell c) 0 ∅ 0 ∗ cred (tallyAt (barCell c) () 2) ∗ reached ER (barCell (nb c 15)) 0 ∗ reached ER (barCell (nb c 1)) 0
    ∗ dutyTok ER (barCell (nb c 15)) 0 false ∗ dutyTok ER (barCell (nb c 1)) 0 true
    ∗ bigSep Finset.univ (pre0 c) ∗ bigSep Finset.univ fun n : Fin 30 => reached ER (recvCell c n) 0)

def Xk (c : Dev nD) : sProp 𝕄 := iprop((∃ K, allInv (WQ m) (WO m) K) ∗ levAts L lv ∗ talkG c)
def X1 (c : Dev nD) : sProp 𝕄 := iprop(Xk m c ∗ scr c ∗ ∃ r, prngReg c r)
def Y1 (c : Dev nD) : sProp 𝕄 := iprop(semVal (barCell c) 0 ∗ sems0 c ∗ scr c ∗ ∃ r, prngReg c r)

def dat (c : Dev nD) : Pipeline.Dat τ (Elt F) Unit ℕ UU ℕ cfg0 c where
  A w := V m c (Pipeline.arrRef spec0 w)
  after := fun
    | 0 => iblk m c 0 | 1 => iblk m c 1 | 2 => iblk m c 2 | 3 => iblk m c 3 | 4 => iblk m c 4 | 5 => fun _ => OUT m c
    | ⟨_ + 6, h⟩ => absurd h (Nat.not_lt.2 (Nat.le_add_left _ _))
  Φ t := if t.val = 0 then X1 m c else Y1 c
  q _ := fullShare
  owed t := if t.val = 0 then O₀ c else 0

theorem before0 (c : Dev nD) (t : Fin cfg0.N) (d) : (dat m c).before 0 t d = iblk m c 0 t :=
  ((dat m c).before_in_eq_fetched 0 rfl (fun _ => rfl) (fun _ _ _ => rfl) (fun _ => rfl) t d).trans rfl
theorem before1 (c : Dev nD) (t : Fin cfg0.N) (d) : (dat m c).before 1 t d = iblk m c 1 t :=
  ((dat m c).before_in_eq_fetched 1 rfl (fun _ => rfl) (fun _ _ _ => rfl) (fun _ => rfl) t d).trans rfl
theorem before2 (c : Dev nD) (t : Fin cfg0.N) (d) : (dat m c).before 2 t d = iblk m c 2 t :=
  ((dat m c).before_in_eq_fetched 2 rfl (fun _ => rfl) (fun _ _ _ => rfl) (fun _ => rfl) t d).trans rfl
theorem before3 (c : Dev nD) (t : Fin cfg0.N) (d) : (dat m c).before 3 t d = iblk m c 3 t :=
  ((dat m c).before_in_eq_fetched 3 rfl (fun _ => rfl) (fun _ _ _ => rfl) (fun _ => rfl) t d).trans rfl
theorem before4 (c : Dev nD) (t : Fin cfg0.N) (d) : (dat m c).before 4 t d = iblk m c 4 t :=
  ((dat m c).before_in_eq_fetched 4 rfl (fun _ => rfl) (fun _ _ _ => rfl) (fun _ => rfl) t d).trans rfl

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (by decide)

theorem scr_eq (c : Dev nD) : (scr (F := F) c) = iprop((∃ f, ((c : Thread nD τ).loc cc0_scratch0) ↦{fullShare} f)
    ∗ (∃ f : S256x512.Idx → Elt F .f32, mPt c mAcc fullShare f) ∗ (∃ f : S256x256.Idx → Elt F .bf16, mPt c mQs fullShare f)
    ∗ (∃ f : S256x256.Idx → Elt F .bf16, mPt c mCs fullShare f) ∗ (∃ f : S256x256.Idx → Elt F .bf16, mPt c mWs fullShare f)) := by
  unfold scr
  rw [scopedRest0_eq]
  simp only [mPt, Memref.view_whole, View.set_whole]
  rfl

theorem owesAt_intro (c : Dev nD) (t : Fin (cfg0.N + 1)) (O : CellTallies nD τ sig Unit) (h0 : (dat m c).owed t = O) :
    iprop(∃ W, owes (c : Thread nD τ) O W) ⊢ ((dat m c).owesAt () t : sProp 𝕄) := by
  unfold Pipeline.Dat.owesAt Pipeline.owesWithin Pipeline.Dat.bound
  rw [h0, show (dat m c).recorded t = Set.univ from rfl]
  iintro ⟨%W, HO⟩
  iexists W
  isplitr
  · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Pipeline.Dat.owesAt Pipeline.owesWithin
  rw [h0]
  iintro ⟨%W, -, HO⟩
  iexists W
  iexact HO

theorem in0 (c : Dev nD) : iprop(∃ d, owns (c : Thread nD τ) mX fullShare ((dat m c).before 0 t0_0 d)) ⊢ (mPt c mX fullShare (bX m c) : sProp 𝕄) := by
  iintro ⟨%d, H⟩
  ihave H := (Entails.of_eq ((congrArg _ (before0 m c t0_0 d)).trans (stg c cc0_stg0_0 fullShare (bX m c)))) $$ H
  iexact H
theorem back0 (c : Dev nD) : (mPt c mX fullShare (bX m c) : sProp 𝕄) ⊢ owns (c : Thread nD τ) mX fullShare ((dat m c).after 0 t0_0) :=
  Entails.of_eq (stg c cc0_stg0_0 fullShare (bX m c)).symm
theorem in1 (c : Dev nD) : iprop(∃ d, owns (c : Thread nD τ) mWq fullShare ((dat m c).before 1 t0_0 d)) ⊢ (mPt c mWq fullShare (WQ m c) : sProp 𝕄) := by
  iintro ⟨%d, H⟩
  ihave H := (Entails.of_eq ((congrArg _ (before1 m c t0_0 d)).trans (stg c cc0_stg1_0 fullShare (WQ m c)))) $$ H
  iexact H
theorem back1 (c : Dev nD) : (mPt c mWq fullShare (WQ m c) : sProp 𝕄) ⊢ owns (c : Thread nD τ) mWq fullShare ((dat m c).after 1 t0_0) :=
  Entails.of_eq (stg c cc0_stg1_0 fullShare (WQ m c)).symm
theorem in2 (c : Dev nD) : iprop(∃ d, owns (c : Thread nD τ) mWo fullShare ((dat m c).before 2 t0_0 d)) ⊢ (mPt c mWo fullShare (WO m c) : sProp 𝕄) := by
  iintro ⟨%d, H⟩
  ihave H := (Entails.of_eq ((congrArg _ (before2 m c t0_0 d)).trans (stg c cc0_stg2_0 fullShare (WO m c)))) $$ H
  iexact H
theorem back2 (c : Dev nD) : (mPt c mWo fullShare (WO m c) : sProp 𝕄) ⊢ owns (c : Thread nD τ) mWo fullShare ((dat m c).after 2 t0_0) :=
  Entails.of_eq (stg c cc0_stg2_0 fullShare (WO m c)).symm
theorem in3 (c : Dev nD) : iprop(∃ d, owns (c : Thread nD τ) mK fullShare ((dat m c).before 3 t0_0 d)) ⊢ (mPt c mK fullShare (bK m c) : sProp 𝕄) := by
  iintro ⟨%d, H⟩
  ihave H := (Entails.of_eq ((congrArg _ (before3 m c t0_0 d)).trans (stg c cc0_stg3_0 fullShare (bK m c)))) $$ H
  iexact H
theorem back3 (c : Dev nD) : (mPt c mK fullShare (bK m c) : sProp 𝕄) ⊢ owns (c : Thread nD τ) mK fullShare ((dat m c).after 3 t0_0) :=
  Entails.of_eq (stg c cc0_stg3_0 fullShare (bK m c)).symm
theorem in4 (c : Dev nD) : iprop(∃ d, owns (c : Thread nD τ) mV fullShare ((dat m c).before 4 t0_0 d)) ⊢ (mPt c mV fullShare (bV m c) : sProp 𝕄) := by
  iintro ⟨%d, H⟩
  ihave H := (Entails.of_eq ((congrArg _ (before4 m c t0_0 d)).trans (stg c cc0_stg4_0 fullShare (bV m c)))) $$ H
  iexact H
theorem back4 (c : Dev nD) : (mPt c mV fullShare (bV m c) : sProp 𝕄) ⊢ owns (c : Thread nD τ) mV fullShare ((dat m c).after 4 t0_0) :=
  Entails.of_eq (stg c cc0_stg4_0 fullShare (bV m c)).symm
theorem in5 (c : Dev nD) : iprop(∃ d, owns (c : Thread nD τ) mO fullShare ((dat m c).before 5 t0_0 d)) ⊢ (iprop(∃ f, mPt c mO fullShare f) : sProp 𝕄) := by
  iintro ⟨%d, H⟩
  iexists (dat m c).before 5 t0_0 d
  ihave H := (Entails.of_eq (stg c cc0_stg5_0 fullShare ((dat m c).before 5 t0_0 d))) $$ H
  iexact H
theorem back5 (c : Dev nD) : (mPt c mO fullShare (OUT m c) : sProp 𝕄) ⊢ owns (c : Thread nD τ) mO fullShare ((dat m c).after 5 t0_0) :=
  Entails.of_eq (stg c cc0_stg5_0 fullShare (OUT m c)).symm

theorem ow_done (c : Dev nD) : (ow (F := F) c 30) = iprop(∃ W, owes (c : Thread nD τ) 0 W) := by
  unfold ow
  rw [Ow_end c 30 (Nat.le_refl _)]

def left (c : Dev nD) : sProp 𝕄 :=
  iprop(Y1 c ∗ (∃ W, owes (c : Thread nD τ) 0 W) ∗ mPt c mX fullShare (bX m c) ∗ mPt c mWq fullShare (WQ m c) ∗ mPt c mWo fullShare (WO m c)
    ∗ mPt c mK fullShare (bK m c) ∗ mPt c mV fullShare (bV m c) ∗ mPt c mO fullShare (OUT m c))

theorem body_wp (c : Dev nD) :
    iprop(X1 m c ∗ (∃ W, owes (c : Thread nD τ) (O₀ c) W) ∗ mPt c mX fullShare (bX m c) ∗ mPt c mWq fullShare (WQ m c) ∗ mPt c mWo fullShare (WO m c)
      ∗ mPt c mK fullShare (bK m c) ∗ mPt c mV fullShare (bV m c) ∗ (∃ f, mPt c mO fullShare f))
    ⊢ wpc c (ringP (F := F)) fun _ => left m c := by
  unfold X1 Xk talkG
  rw [scr_eq]
  iintro ⟨⟨⟨⟨%K, #HI⟩, #Hlev, HatB, HcB, Hr15, Hr1, Ht15, Ht1, Hpre, Hrec⟩, ⟨⟨%fb, Hbuf⟩, Ha, Hq, Hc, Hw⟩, Hreg⟩, HO, HX, HQ, HW, HK, HV, ⟨%fO, HY⟩⟩
  ihave Hb := (buf_deal c fb) $$ [Hbuf Hrec]
  · isplitl [Hbuf] <;> iassumption
  icases Hb with ⟨Hland, Hs0, Hs1⟩
  iapply (ring_run (WQ m) (WO m) K c (bX m c) (WQ m c) (WO m c) (bK m c) (bV m c) fullShare fullShare fullShare fullShare fullShare
    (rdWq_eq c (WQ m c)).symm (rdWo_eq c (WO m c)).symm fO _) $$ [HatB HcB Hr15 Hr1 Ht15 Ht1 Hpre Hland Hs0 Hs1 HO HX HQ HW HK HV HY Ha Hq Hc Hw]
  · isplitr; · iexact HI
    isplitr; · iexact Hlev
    isplitl [HatB HcB Hr15 Hr1 Ht15 Ht1 Hpre Hland Hs0 Hs1]
    · unfold talk0
      isplitl [HatB]; · iexact HatB
      isplitl [HcB]; · iexact HcB
      isplitl [Hr15]; · iexact Hr15
      isplitl [Hr1]; · iexact Hr1
      isplitl [Ht15]; · iexact Ht15
      isplitl [Ht1]; · iexact Ht1
      isplitl [Hpre]; · iexact Hpre
      isplitl [Hland]; · iexact Hland
      isplitl [Hs0] <;> iassumption
    isplitl [HO]; · iexact HO
    isplitl [HX]; · iexact HX
    isplitl [HQ]; · iexact HQ
    isplitl [HW]; · iexact HW
    isplitl [HK]; · iexact HK
    isplitl [HV]; · iexact HV
    isplitl [HY]; · iexact HY
    isplitl [Ha]; · iexact Ha
    isplitl [Hq]; · iexact Hq
    isplitl [Hc] <;> iassumption
  rw [wrO_eq]
  unfold SE wk left Y1
  rw [ow_done, scr_eq]
  iintro ⟨Hbar, ⟨Hfin, H25, H27, H28, H29, HO, ⟨%qv, Hq⟩, ⟨%e0, %e1, Hw⟩, ⟨%fc, Hc⟩, Ha, HK, HV⟩, Ho0, Ho1, HX, HQ, HW, HY⟩
  ihave Hb := (buf_join (WQ m) (WO m) c) $$ [Hfin H25 H27 H28 H29 Ho0 Ho1]
  · isplitl [Hfin]; · iexact Hfin
    isplitl [H25]; · iexact H25
    isplitl [H27]; · iexact H27
    isplitl [H28]; · iexact H28
    isplitl [H29]; · iexact H29
    isplitl [Ho0] <;> iassumption
  icases Hb with ⟨Hsems, Hbuf⟩
  isplitl [Hbar Hsems Hbuf Hq Hw Hc Ha Hreg]
  · isplitl [Hbar]; · iexact Hbar
    isplitl [Hsems]; · iexact Hsems
    isplitl [Hbuf Hq Hw Hc Ha]
    · isplitl [Hbuf]; · iexists _; iexact Hbuf
      isplitl [Ha]; · iexists _; iexact Ha
      isplitl [Hq]; · iexists qv; iexact Hq
      isplitl [Hc]; · iexists fc; iexact Hc
      iexists diag e0 e1; iexact Hw
    iexact Hreg
  isplitl [HO]; · iexact HO
  isplitl [HX]; · iexact HX
  isplitl [HQ]; · iexact HQ
  isplitl [HW]; · iexact HW
  isplitl [HK]; · iexact HK
  isplitl [HV]; · iexact HV
  iexact HY

theorem row_eq : defs₀ (F := F) .tc cfg0.body (cfg0.bodyArgs t0_0 (cfg0.slots t0_0)) = bodyAt0 t0_0 := by
  unfold defs₀; rw [Defs.onTc_tc]

theorem body (c : Dev nD) : Pipeline.BodyObligation (dat (F := F) m c) defs₀ 𝒱₀ () Set.univ := fun t => by
  obtain rfl := fin_N0 t
  rw [bigSep_W0, bigSep_W0, row_eq, body_eq]
  have hΦ0 : (dat m c).Φ t0_0.castSucc = X1 m c := by
    show (if (t0_0.castSucc : Fin (cfg0.N + 1)).val = 0 then X1 m c else Y1 c) = X1 m c; exact if_pos rfl
  have hΦ1 : (dat m c).Φ t0_0.succ = Y1 c := by
    show (if (t0_0.succ : Fin (cfg0.N + 1)).val = 0 then X1 m c else Y1 c) = Y1 c; exact if_neg (by decide)
  rw [hΦ0, hΦ1]
  iintro ⟨HX1, HO, H0, H1, H2, H3, H4, H5⟩
  ihave HO := (owesAt_elim m c _ (O₀ c) (owed_first m c)) $$ HO
  ihave H0 := (in0 m c) $$ H0
  ihave H1 := (in1 m c) $$ H1
  ihave H2 := (in2 m c) $$ H2
  ihave H3 := (in3 m c) $$ H3
  ihave H4 := (in4 m c) $$ H4
  ihave H5 := (in5 m c) $$ H5
  iapply (wp_wand frame (wpE defs₀ 𝒱₀ (c : Thread nD τ) none) Set.univ) $$ [HX1 HO H0 H1 H2 H3 H4 H5]
  · iapply (body_wp m c)
    isplitl [HX1]; · iexact HX1
    isplitl [HO]; · iexact HO
    isplitl [H0]; · iexact H0
    isplitl [H1]; · iexact H1
    isplitl [H2]; · iexact H2
    isplitl [H3]; · iexact H3
    isplitl [H4] <;> iassumption
  unfold left
  iintro %_ ⟨HY, HO, H0, H1, H2, H3, H4, H5⟩
  isplitl [HY]; · iexact HY
  isplitl [HO]; · iapply (owesAt_intro m c t0_0.succ 0 (owed_last m c)); iexact HO
  isplitl [H0]; · iapply (back0 m c); iexact H0
  isplitl [H1]; · iapply (back1 m c); iexact H1
  isplitl [H2]; · iapply (back2 m c); iexact H2
  isplitl [H3]; · iapply (back3 m c); iexact H3
  isplitl [H4]; · iapply (back4 m c); iexact H4
  iapply (back5 m c); iexact H5

end Cert.KernelIdeal.Ring

end
-- ==== Proof.KI.Talk.lean ====
module

public import proofs.«01_k».proof.Proof.KI.Body

/-! # The exchange's ghost state from the launch -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ)

/-! ## Big conjunctions -/

theorem bs_sub {I : Type} [DecidableEq I] {S T : Finset I} (h : T ⊆ S) (Φ : I → sProp 𝕄) : (bigSep S Φ : sProp 𝕄) ⊢ bigSep T Φ := by
  rw [← Finset.union_sdiff_of_subset h, bs_union Finset.disjoint_sdiff]
  iintro ⟨H, -⟩
  iexact H

/-- An update of every member, each with the same standing facts. -/
theorem bs_upd {I : Type} [DecidableEq I] (P : sProp 𝕄) [BI.Persistent P] (Φ Ψ : I → sProp 𝕄)
    (h : ∀ i, iprop(P ∗ Φ i) ⊢ (|={Set.univ}=> Ψ i : sProp 𝕄)) (S : Finset I) :
    iprop(P ∗ bigSep S Φ) ⊢ (|={Set.univ}=> bigSep S Ψ : sProp 𝕄) := by
  induction S using Finset.induction_on with
  | empty =>
    rw [BI.bigSep_empty, BI.bigSep_empty]
    iintro ⟨-, H⟩
    imodintro
    iexact H
  | insert a S ha ih =>
    rw [bs_insert ha, bs_insert ha]
    iintro ⟨#HP, Ha, HS⟩
    imod (h a) $$ [Ha] with Ha
    · isplitr; · iexact HP
      iexact Ha
    imod ih $$ [HS] with HS
    · isplitr; · iexact HP
      iexact HS
    imodintro
    isplitl [Ha] <;> iassumption

theorem bs_sc (Φ : SC → sProp 𝕄) :
    bigSep Finset.univ Φ = iprop(bigSep Finset.univ (fun n : Fin 30 => Φ (n, false)) ∗ bigSep Finset.univ fun n : Fin 30 => Φ (n, true)) := by
  rw [BI.bigSep_univ_prod, ← bs_sep]
  refine BI.bigSep_congr fun n _ => ?_
  rw [show (Finset.univ : Finset Bool) = insert false {true} from by decide, BI.bigSep_insert (by decide), BI.bigSep_singleton]
  rfl

/-! ## The scoped cells -/

def osem (s : SC) : SemLoc sig := .dma (if s.2 then recvNo s.1 else sendNo s.1)

theorem sc_eq (c : Dev nD) (s : SC) : ((c : Thread nD τ), osem s) = scCell c s := by
  obtain ⟨n, b⟩ := s
  cases b <;> rfl

theorem osem_inj : Function.Injective osem := by
  rintro ⟨n, b⟩ ⟨n', b'⟩ h
  have h' : (if b then recvNo n else sendNo n) = (if b' then recvNo n' else sendNo n') := by injection h
  cases b <;> cases b'
  · rw [sendNo_inj n n' h']
  · exact absurd h' (send_ne_recv n n')
  · exact absurd h'.symm (send_ne_recv n' n)
  · rw [recvNo_inj n n' h']

theorem osem_ne_bar (s : SC) : osem s ≠ .reg barS := fun h => by cases h

theorem own_eq (c : Dev nD) : (Pipeline.ownSems0 osem c : sProp 𝕄) = bigSep Finset.univ fun s : SC => semVal (scCell c s) 0 :=
  BI.bigSep_congr fun s _ => by rw [← sc_eq]

theorem own_sems (c : Dev nD) : (Pipeline.ownSems0 osem c : sProp 𝕄) = sems0 c := by
  rw [own_eq, bs_sc]
  rfl

/-- What a device has of the exchange at the launch, but for the standing facts. -/
def linear (c : Dev nD) : sProp 𝕄 :=
  iprop(atPos ER (barCell c) 0 ∅ 0 ∗ (bigSep Finset.univ fun s : SC => openTok ER (scCell c s))
    ∗ dutyTok ER (barCell (nb c 15)) 0 false ∗ dutyTok ER (barCell (nb c 1)) 0 true
    ∗ (bigSep Finset.univ fun n : Fin 30 => dutyTok ER (sendCell c n) 0 false)
    ∗ (bigSep Finset.univ fun n : Fin 30 => dutyTok ER (recvCell (peer c n) n) 0 false))

/-- Its credits at the launch. -/
def lent (c : Dev nD) : sProp 𝕄 :=
  iprop(cred (tallyAt (barCell c) () 2) ∗ bigSep Finset.univ fun n : Fin 30 => cred (tallyAt (recvCell c n) () N))

def Tk (c : Dev nD) : sProp 𝕄 :=
  iprop((∃ K, allInv (WQ m) (WO m) K) ∗ (reached ER (barCell (nb c 15)) 0 ∗ reached ER (barCell (nb c 1)) 0) ∗ linear c ∗ lent c)

theorem pre0_all (c : Dev nD) :
    iprop((bigSep Finset.univ fun n : Fin 30 => dutyTok ER (sendCell c n) 0 false)
      ∗ (bigSep Finset.univ fun n : Fin 30 => dutyTok ER (recvCell (peer c n) n) 0 false)
      ∗ (bigSep Finset.univ fun n : Fin 30 => reached ER (sendCell c n) 0)
      ∗ (bigSep Finset.univ fun n : Fin 30 => atPos ER (sendCell c n) 0 ∅ 0)
      ∗ (bigSep Finset.univ fun n : Fin 30 => atPos ER (recvCell c n) 0 ∅ 0)
      ∗ (bigSep Finset.univ fun n : Fin 30 => cred (tallyAt (recvCell c n) () N)))
    ⊢ (bigSep Finset.univ (pre0 c) : sProp 𝕄) := by
  rw [← bs_sep, ← bs_sep, ← bs_sep, ← bs_sep, ← bs_sep]
  exact Entails.of_eq rfl

theorem open_one (K : GSem nD τ sig → ℕ) (c : Dev nD) (s : SC) :
    iprop(allInv (WQ m) (WO m) K ∗ (openTok ER (scCell c s) ∗ semVal (scCell c s) 0))
      ⊢ (|={Set.univ}=> iprop(atPos ER (scCell c s) 0 ∅ 0 ∗ reached ER (scCell c s) 0) : sProp 𝕄) := by
  have h : allInv (WQ m) (WO m) K ⊢ cellInv ER (Rd (WQ m) (WO m)) (K (scCell c s)) (scCell c s) := by
    unfold allInv
    iintro ⟨-, H⟩
    iapply (bs_elim (Finset.mem_univ ((c, s) : Dev nD × SC)) (Φ := fun x : Dev nD × SC => cellInv ER (Rd (WQ m) (WO m)) (K (scCell x.1 x.2)) (scCell x.1 x.2))) $$ H
  iintro ⟨#HI, Ho, Hv⟩
  imod (Rounds.cell_open ER (Rd (WQ m) (WO m)) (g := scCell c s) (Set.mem_univ (K (scCell c s)))) $$ [Ho Hv] with ⟨Hat, #Hr⟩
  · isplitr; · iapply h; iexact HI
    isplitl [Ho] <;> iassumption
  imodintro
  isplitl [Hat]; · iexact Hat
  iexact Hr

theorem hopen (c : Dev nD) : iprop(Tk m c ∗ Pipeline.ownSems0 osem c ∗ levAts L lv) ⊢ (|={Set.univ}=> Xk m c : sProp 𝕄) := by
  rw [own_eq]
  unfold Tk Xk linear lent
  iintro ⟨⟨⟨%K, #HI⟩, ⟨#H15, #H1⟩, ⟨HatB, Hop, Ht15, Ht1, Hts, Htr⟩, HcB, Hcr⟩, Hv, #Hlev⟩
  ihave Hov := (Entails.of_eq (bs_sep (Finset.univ : Finset SC) (fun s => openTok ER (scCell c s)) (fun s => semVal (scCell c s) 0)).symm) $$ [Hop Hv]
  · isplitl [Hop] <;> iassumption
  imod (bs_upd (allInv (WQ m) (WO m) K) _ _ (open_one m K c) Finset.univ) $$ [Hov] with H
  · isplitr; · iexact HI
    iexact Hov
  ihave H := (Entails.of_eq ((bs_sc (F := F) _).trans (congrArg₂ _ (bs_sep _ _ _) (bs_sep _ _ _)))) $$ H
  icases H with ⟨⟨Has, Hrs⟩, Har, Hrr⟩
  imodintro
  isplitr; · iexists K; iexact HI
  isplitr; · iexact Hlev
  unfold talkG
  isplitl [HatB]; · iexact HatB
  isplitl [HcB]; · iexact HcB
  isplitr; · iexact H15
  isplitr; · iexact H1
  isplitl [Ht15]; · iexact Ht15
  isplitl [Ht1]; · iexact Ht1
  isplitl [Hts Htr Has Har Hcr Hrs]
  · iapply (pre0_all c)
    isplitl [Hts]; · iexact Hts
    isplitl [Htr]; · iexact Htr
    isplitl [Hrs]; · iexact Hrs
    isplitl [Has]; · iexact Has
    isplitl [Har]; · iexact Har
    iexact Hcr
  iexact Hrr

/-! ## The launch's tokens -/

def barEmb : Dev nD ↪ GSem nD τ sig := ⟨fun c => barCell c, fun _ _ h => congrArg (fun g : GSem nD τ sig => g.1.1) h⟩
theorem sc_pair {x y : Dev nD × SC} (h : scCell x.1 x.2 = scCell y.1 y.2) : x = y := by
  rw [← sc_eq, ← sc_eq] at h
  exact Prod.ext (congrArg (fun g : GSem nD τ sig => g.1.1) h) (osem_inj (congrArg Prod.snd h))
def scEmb : Dev nD × SC ↪ GSem nD τ sig := ⟨fun x => scCell x.1 x.2, fun _ _ h => sc_pair h⟩

abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  have h' : scCell x.1 x.2 = barCell c := h
  rw [← sc_eq] at h'
  exact osem_ne_bar x.2 (congrArg Prod.snd h')

def barTok : Dev nD × Bool ↪ GSem nD τ sig × ℕ × Bool :=
  ⟨fun x => (barCell x.1, 0, x.2), fun _ _ h => Prod.ext (congrArg (fun t : GSem nD τ sig × ℕ × Bool => t.1.1.1) h) (congrArg (fun t : GSem nD τ sig × ℕ × Bool => t.2.2) h)⟩
def scTok : Dev nD × SC ↪ GSem nD τ sig × ℕ × Bool :=
  ⟨fun x => (scCell x.1 x.2, 0, false), fun _ _ h => sc_pair (congrArg Prod.fst h)⟩
def allToks : Finset (GSem nD τ sig × ℕ × Bool) := Finset.univ.map barTok ∪ Finset.univ.map scTok

theorem disjoint_toks : Disjoint (Finset.univ.map barTok) (Finset.univ.map scTok) := by
  rw [Finset.disjoint_left]
  rintro g h₁ h₂
  obtain ⟨c, -, rfl⟩ := Finset.mem_map.mp h₁
  obtain ⟨x, -, h⟩ := Finset.mem_map.mp h₂
  have h' : scCell x.1 x.2 = barCell c.1 := congrArg Prod.fst h
  rw [← sc_eq] at h'
  exact osem_ne_bar x.2 (congrArg Prod.snd h')

def shift (k : Fin 16) : Dev nD ≃ Dev nD where
  toFun c := nb c k
  invFun c := nb c (0 - k)
  left_inv c := by
    show nb (nb c k) (0 - k) = c
    rw [nb_nb, show k + (0 - k) = 0 from by revert k; decide, nb_zero]
  right_inv c := by
    show nb (nb c (0 - k)) k = c
    rw [nb_nb, show (0 - k) + k = 0 from by revert k; decide, nb_zero]

theorem toks_dealt :
    bigSep allToks (fun x => (dutyTok ER x.1 x.2.1 x.2.2 : sProp 𝕄))
      ⊢ iprop((bigSep Finset.univ fun c : Dev nD => dutyTok ER (barCell (nb c 15)) 0 false)
        ∗ (bigSep Finset.univ fun c : Dev nD => dutyTok ER (barCell (nb c 1)) 0 true)
        ∗ (bigSep Finset.univ fun c : Dev nD => bigSep Finset.univ fun n : Fin 30 => dutyTok ER (sendCell c n) 0 false)
        ∗ (bigSep Finset.univ fun c : Dev nD => bigSep Finset.univ fun n : Fin 30 => dutyTok ER (recvCell (peer c n) n) 0 false)) := by
  have hb : bigSep (Finset.univ.map barTok) (fun x => (dutyTok ER x.1 x.2.1 x.2.2 : sProp 𝕄))
      = iprop((bigSep Finset.univ fun c : Dev nD => dutyTok ER (barCell (nb c 15)) 0 false)
        ∗ (bigSep Finset.univ fun c : Dev nD => dutyTok ER (barCell (nb c 1)) 0 true)) := by
    have e15 : (bigSep Finset.univ fun c : Dev nD => (dutyTok ER (barCell (nb c 15)) 0 false : sProp 𝕄))
        = bigSep Finset.univ fun c : Dev nD => (dutyTok ER (barCell c) 0 false : sProp 𝕄) :=
      (BI.bigSep_univ_equiv (shift 15) (fun c : Dev nD => (dutyTok ER (barCell c) 0 false : sProp 𝕄))).symm
    have e1 : (bigSep Finset.univ fun c : Dev nD => (dutyTok ER (barCell (nb c 1)) 0 true : sProp 𝕄))
        = bigSep Finset.univ fun c : Dev nD => (dutyTok ER (barCell c) 0 true : sProp 𝕄) :=
      (BI.bigSep_univ_equiv (shift 1) (fun c : Dev nD => (dutyTok ER (barCell c) 0 true : sProp 𝕄))).symm
    rw [e15, e1, BI.bigSep_map, BI.bigSep_univ_prod, ← bs_sep]
    refine BI.bigSep_congr fun c _ => ?_
    rw [show (Finset.univ : Finset Bool) = insert false {true} from by decide, BI.bigSep_insert (by decide), BI.bigSep_singleton]
    rfl
  have hs : bigSep (Finset.univ.map scTok) (fun x => (dutyTok ER x.1 x.2.1 x.2.2 : sProp 𝕄))
      = iprop((bigSep Finset.univ fun c : Dev nD => bigSep Finset.univ fun n : Fin 30 => dutyTok ER (sendCell c n) 0 false)
        ∗ (bigSep Finset.univ fun c : Dev nD => bigSep Finset.univ fun n : Fin 30 => dutyTok ER (recvCell (peer c n) n) 0 false)) := by
    have hr : (bigSep Finset.univ fun c : Dev nD => bigSep Finset.univ fun n : Fin 30 => (dutyTok ER (recvCell (peer c n) n) 0 false : sProp 𝕄))
        = bigSep Finset.univ fun c : Dev nD => bigSep Finset.univ fun n : Fin 30 => (dutyTok ER (recvCell c n) 0 false : sProp 𝕄) := by
      rw [Pipeline.bigSep_univ_comm, Pipeline.bigSep_univ_comm (fun (c : Dev nD) (n : Fin 30) => (dutyTok ER (recvCell c n) 0 false : sProp 𝕄))]
      refine BI.bigSep_congr fun n _ => ?_
      exact (BI.bigSep_univ_equiv (shift (if isL n then 15 else 1)) (fun c : Dev nD => (dutyTok ER (recvCell c n) 0 false : sProp 𝕄))).symm
    rw [hr, BI.bigSep_map, BI.bigSep_univ_prod, ← bs_sep]
    refine BI.bigSep_congr fun c _ => ?_
    exact bs_sc (F := F) fun s => dutyTok ER (scCell c s) 0 false
  unfold allToks
  rw [bs_union disjoint_toks, hb, hs]
  iintro ⟨⟨H1, H2⟩, H3, H4⟩
  isplitl [H1]; · iexact H1
  isplitl [H2]; · iexact H2
  isplitl [H3] <;> iassumption

/-! ## The launch's credit -/

theorem Ow_at (d c : Dev nD) (n : Fin 30) : Ow d 0 (recvCell c n) () = if c = peer d n then N else 0 := by
  have hs : ∀ (S : Finset (Fin 30)), (∑ k ∈ S, (tallyAt (recvCell (peer d k) k) () N : CellTallies nD τ sig Unit)) (recvCell c n) ()
      = ∑ k ∈ S, (tallyAt (recvCell (peer d k) k) () N : CellTallies nD τ sig Unit) (recvCell c n) () := by
    intro S
    induction S using Finset.induction_on with
    | empty => rfl
    | insert a S ha ih => rw [Finset.sum_insert ha, Finset.sum_insert ha, ← ih]; rfl
  unfold Ow
  rw [hs, Finset.sum_eq_single n, tallyAt_apply]
  · refine if_congr ⟨fun h => congrArg (fun g : GSem nD τ sig => g.1.1) h.1, fun h => ⟨by rw [h], rfl⟩⟩ rfl rfl
  · intro k _ hk
    rw [tallyAt_apply]
    exact if_neg fun h => hk (recvNo_inj k n (by injection congrArg Prod.snd h.1 with h; exact h.symm))
  · intro h
    exact absurd (Finset.mem_filter.mpr ⟨Finset.mem_univ n, Nat.zero_le n.val⟩) h

theorem Ow_bar (d c : Dev nD) : Ow d 0 (barCell c) () = 0 := by
  by_contra h
  obtain ⟨n, -, hn⟩ := Ow_pos d 0 (barCell c) () (Nat.pos_of_ne_zero h)
  cases congrArg Prod.snd hn

theorem bar_at (k c : Dev nD) : (tallyAt (barCell k) () 1 : CellTallies nD τ sig Unit) (barCell c) () = if c = k then 1 else 0 := by
  rw [tallyAt_apply]
  exact if_congr ⟨fun h => congrArg (fun g : GSem nD τ sig => g.1.1) h.1, fun h => ⟨by rw [h], rfl⟩⟩ rfl rfl

theorem owed_bar (d c : Dev nD) : O₀ d (barCell c) () = (if d = nb c 15 then 1 else 0) + (if d = nb c 1 then 1 else 0) := by
  have h1 : ∀ c d : Dev nD, c = nb d 1 ↔ d = nb c 15 := by decide +kernel
  have h2 : ∀ c d : Dev nD, c = nb d 15 ↔ d = nb c 1 := by decide +kernel
  show (Ow d 0 (barCell c) () + (tallyAt (barCell (nb d 1)) () 1 : CellTallies nD τ sig Unit) (barCell c) ())
    + (tallyAt (barCell (nb d 15)) () 1 : CellTallies nD τ sig Unit) (barCell c) () = _
  rw [Ow_bar, bar_at, bar_at, Nat.zero_add, if_congr (h1 c d) rfl rfl, if_congr (h2 c d) rfl rfl]

theorem bar_recv (k c : Dev nD) (n : Fin 30) : (tallyAt (barCell k) () 1 : CellTallies nD τ sig Unit) (recvCell c n) () = 0 := by
  rw [tallyAt_apply]
  exact if_neg fun h => by cases congrArg Prod.snd h.1

theorem owed_recv (d c : Dev nD) (n : Fin 30) : O₀ d (recvCell c n) () = if d = nb c (if isL n then 1 else 15) then N else 0 := by
  have h1 : ∀ c d : Dev nD, c = nb d 1 ↔ d = nb c 15 := by decide +kernel
  have h2 : ∀ c d : Dev nD, c = nb d 15 ↔ d = nb c 1 := by decide +kernel
  show (Ow d 0 (recvCell c n) () + (tallyAt (barCell (nb d 1)) () 1 : CellTallies nD τ sig Unit) (recvCell c n) ())
    + (tallyAt (barCell (nb d 15)) () 1 : CellTallies nD τ sig Unit) (recvCell c n) () = _
  rw [Ow_at, bar_recv, bar_recv, Nat.add_zero]
  refine if_congr ?_ rfl rfl
  unfold peer
  cases isL n
  · exact h1 c d
  · exact h2 c d

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb c 15) fun _ => 1, Finset.sum_ite_eq' Finset.univ (nb c 1) fun _ => 1,
    if_pos (Finset.mem_univ _), if_pos (Finset.mem_univ _)]

theorem launch_recv (c : Dev nD) (n : Fin 30) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c n,
    Finset.sum_ite_eq' Finset.univ (nb c (if isL n then 1 else 15)) fun _ => N, if_pos (Finset.mem_univ _)]

def recvEmb : Fin 30 ↪ SemLoc sig := ⟨fun n => .dma (recvNo n), fun n n' h => recvNo_inj n n' (by injection (show SemLoc.dma (recvNo n) = SemLoc.dma (recvNo n') from h))⟩

theorem creds (c : Dev nD) : (Pipeline.launchCred O₀ c : sProp 𝕄) ⊢ lent c := by
  have hsub : Finset.univ.map recvEmb ⊆ Finset.univ.erase (SemLoc.reg barS) := fun s hs => by
    obtain ⟨n, -, rfl⟩ := Finset.mem_map.mp hs
    exact Finset.mem_erase.mpr ⟨fun h => osem_ne_bar (n, true) h, Finset.mem_univ _⟩
  unfold Pipeline.launchCred lent
  rw [BI.bigSep_univ_at _ (SemLoc.reg barS), launch_bar]
  refine sep_mono_right ((bs_sub hsub _).trans ?_)
  rw [BI.bigSep_map]
  exact Entails.of_eq (BI.bigSep_congr fun n _ => congrArg (fun t => (cred t : sProp 𝕄)) (launch_recv c n))

end Cert.KernelIdeal.Ring

end
-- ==== Proof.KI.Launch.lean ====
module

public import proofs.«01_k».proof.Proof.KI.Talk
public import Idealize.ShloMosaic.Lib.Pipeline.ValueKit.Geometry

/-! # The launch -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m
  | ⟨_ + 1, h⟩ => absurd h (Nat.not_lt.2 (Nat.le_add_left _ _))

/-! ## The host part and what it leaves -/

abbrev bufs : Finset (DevRef τ sig) := Pipeline.ucRefs τ sig
abbrev arrs : Finset (DevRef τ sig) := Pipeline.arrRefs spec0

def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v6) (OUT m c)

theorem V₂_out (c : Dev nD) : V₂ m c (Proc.devRef .tc main_v6) = OUT m c := Function.update_self ..
theorem V₂_ne (c : Dev nD) (b : Ref sig .tc) (h : b ≠ main_v6) : V₂ m c (Proc.devRef .tc b) = V₁ m c (Proc.devRef .tc b) :=
  Function.update_of_ne (StableHlo.devRef_ne_of_ne h) ..

theorem arrs_sub : arrs ⊆ bufs := Pipeline.arrRefs_sub_ucRefs spec0 (by decide)

theorem out_arr (c : Dev nD) : (dat m c).arrAt 5 cfg0.N = OUT m c :=
  (dat m c).arrAt_eq_of_after_last 5 t0_0 (by decide) (OUT m c) (fun j => rfl)

theorem arr_first (c : Dev nD) (w : Fin 6) : (dat m c).arrAt w 0 = V₁ m c (Proc.devRef .tc (Pipeline.arrRef spec0 w)) := rfl

theorem arr_last (c : Dev nD) (w : Fin 6) : (dat m c).arrAt w cfg0.N = V₂ m c (Proc.devRef .tc (Pipeline.arrRef spec0 w)) := by
  fin_cases w
  · exact ((dat m c).arrAt_in 0 rfl _).trans (V₂_ne m c main_arg0 (by decide)).symm
  · exact ((dat m c).arrAt_in 1 rfl _).trans (V₂_ne m c main_arg1 (by decide)).symm
  · exact ((dat m c).arrAt_in 2 rfl _).trans (V₂_ne m c main_v1 (by decide)).symm
  · exact ((dat m c).arrAt_in 3 rfl _).trans (V₂_ne m c main_v3 (by decide)).symm
  · exact ((dat m c).arrAt_in 4 rfl _).trans (V₂_ne m c main_v5 (by decide)).symm
  · exact (out_arr m c).trans (V₂_out m c).symm

/-! ## The segments -/

def Rr (c : Dev nD) : sProp 𝕄 := iprop((∃ r, prngReg c r) ∗ Tk m c ∗ ∃ W, owes (c : Thread nD τ) (O₀ c) W)

def hostSeg : Pipeline.HostSeg (Ix := Unit) (Name := ℕ) (U := UU) (Lvl := ℕ) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => (List.forall_iff_forall_mem.mp hostOps0_fresh) op h) (V₀ m) (Rr m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : u ∈ L g ∧ 0 < lv g u := by
  have h' : 0 < (Ow c 0 g u + (tallyAt (barCell (nb c 1)) () 1 : CellTallies nD τ sig Unit) g u)
    + (tallyAt (barCell (nb c 15)) () 1 : CellTallies nD τ sig Unit) g u := h
  have hb : ∀ k : Dev nD, 0 < (tallyAt (barCell k) () 1 : CellTallies nD τ sig Unit) g u → u ∈ L g ∧ 0 < lv g u := fun k hk => by
    rw [tallyAt_apply] at hk
    split at hk
    · next hg =>
      obtain ⟨rfl, rfl⟩ := hg
      exact ⟨by rw [L_tc]; exact Finset.mem_singleton_self _, Nat.one_pos⟩
    · exact absurd hk (Nat.lt_irrefl 0)
  rcases Nat.add_pos_iff_pos_or_pos.mp h' with h | h
  · rcases Nat.add_pos_iff_pos_or_pos.mp h with h | h
    · obtain ⟨n, -, rfl⟩ := Ow_pos c 0 g u h
      exact ⟨by rw [L_tc]; exact Finset.mem_singleton_self _, by rw [lv_recv]; omega⟩
    · exact hb _ h
  · exact hb _ h

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos h
  · exact absurd h (Nat.lt_irrefl 0)

theorem stage_lv : ∀ (w : Fin 6) (s : Fin (spec0 w).nbuf), kindOf ((spec0 w).sem s) = 0 := by decide +kernel

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = X1 m c from rfl]
  unfold X1 scr
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ semVal (barCell c) 0) := by
  rw [show (pdats m 0 c).Φ (Fin.last _) = Y1 c from rfl, own_sems, show StableHlo.held (c.tc : Thread nD τ) ∅ (V₂ m c) = (iprop(emp) : sProp 𝕄) from BI.bigSep_empty]
  unfold Y1 scr
  iintro ⟨Hb, Hv, Hs, Hp⟩
  isplitl [Hs]; · iexact Hs
  isplitl [Hp]; · iexact Hp
  isplitr; · iempintro
  isplitl [Hv]; · iexact Hv
  iexact Hb

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ (bufs \ arrs) (Finset.empty_subset _) kit rfl (fun c => (body m c).loose)
    (fun _ => 0) O₀ (fun c => (zero_add (O₀ c)).symm) (fun _ => rfl) (fun _ => rfl) (fun c => (dat m c).share_full fun _ => rfl)
    (V₁ m) (V₂ m)
    (fun c b hb => Function.update_of_ne (fun h => by
      subst h
      exact (Finset.mem_sdiff.mp (Finset.mem_sdiff.mp hb).1).2 (Finset.mem_map_of_mem _ (Finset.mem_image_of_mem (Pipeline.arrRef spec0) (Finset.mem_univ (5 : Fin 6))))) _ _)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => le_of_eq (if_pos (stage_lv w s)), fun c t g i h => cutD m c t g i h⟩
    (fun _ => iprop(emp))
    (arr_first m) (arr_last m)

def segs : List (Pipeline.Seg (pcfgs (F := F)) adm (pdats m) () defs₀ 𝒱₀ L lv) := [.host (hostSeg m), .region (reg m)]

theorem main_eq (c : Dev nD) : main c = Pipeline.Seg.run (segs m) :=
  main_segs adm (pdats m) () 𝒱₀ L lv (hostSeg m) (reg m) rfl c

end Cert.KernelIdeal.Ring

end
-- ==== Proof.KI.Run.lean ====
module

public import proofs.«01_k».proof.Proof.KI.Launch

/-! # The run -/

@[expose] public section

set_option synthInstance.maxSize 4096

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

theorem cells_inj : Function.Injective (Pipeline.cellOf (nD := nD) (τ := τ) (Pipeline.pin (pcfgs (F := F)) adm)) := cellOf_inj

theorem sems_at (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The launch's element: the pipeline library's and the exchange's. -/
def u₀ : UU :=
  (initOf (Pipeline.cells (Pipeline.pin (pcfgs (F := F)) adm) cells_inj) (Pipeline.launchToks (Pipeline.pin (pcfgs (F := F)) adm) cells_inj),
    launchOf barCells scCells allToks)

def ghost₀ : sProp 𝕄 := BI.own (ER (launchOf barCells scCells allToks))

/-- The exchange's element, with the first device. -/
def G (c : Dev nD) : sProp 𝕄 := if c = 0 then ghost₀ else iprop(emp)

theorem G_all : bigSep Finset.univ (G (F := F)) = ghost₀ := by
  rw [BI.bigSep_univ_at _ (0 : Dev nD), BI.bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The standing facts. -/
def records (κ : GSem nD τ sig → ℕ) : sProp 𝕄 := iprop(allInv (WQ m) (WO m) κ ∗ bigSep Finset.univ fun c : Dev nD => reached ER (barCell c) 0)

instance records_persistent (κ : GSem nD τ sig → ℕ) : BI.Persistent (records m κ) := by unfold records; infer_instance

theorem bs_pair {Φ Ψ : Dev nD → sProp 𝕄} :
    iprop(bigSep Finset.univ Φ ∗ bigSep Finset.univ Ψ) ⊢ (bigSep Finset.univ fun c => iprop(Φ c ∗ Ψ c) : sProp 𝕄) := Entails.of_eq (bs_sep _ _ _).symm
theorem bs_unpair {Φ Ψ : Dev nD → sProp 𝕄} :
    (bigSep Finset.univ fun c => iprop(Φ c ∗ Ψ c) : sProp 𝕄) ⊢ iprop(bigSep Finset.univ Φ ∗ bigSep Finset.univ Ψ) := Entails.of_eq (bs_sep _ _ _)

/-- What of a core's holdings is not the exchange's ghost state. -/
def bundle (c : Dev nD) : sProp 𝕄 :=
  iprop(StableHlo.held (c : Thread nD τ) bufs (V₀ m c) ∗ lent c ∗ owes (c : Thread nD τ) (O₀ c) ∅ ∗ ∃ r, prngReg c r)

abbrev T₀ (c : Dev nD) : sProp 𝕄 := iprop(StableHlo.held (c : Thread nD τ) bufs (V₀ m c) ∗ Rr m c)
abbrev Tₙ (c : Dev nD) : sProp 𝕄 := iprop(StableHlo.held (c : Thread nD τ) bufs (V₂ m c) ∗ semVal (barCell c) 0)

theorem bar_reached (c : Dev nD) : (bigSep Finset.univ fun c : Dev nD => (reached ER (barCell c) 0 : sProp 𝕄)) ⊢ reached ER (barCell c) 0 :=
  BI.bigSep_elim (Finset.mem_univ c)

theorem T₀_intro (κ : GSem nD τ sig → ℕ) (c : Dev nD) : iprop(records m κ ∗ (linear c ∗ bundle m c)) ⊢ T₀ m c := by
  unfold records bundle T₀ Rr Tk
  iintro ⟨⟨#HI, #HR⟩, Hl, Hh, Hc, HO, Hp⟩
  isplitl [Hh]; · iexact Hh
  isplitl [Hp]; · iexact Hp
  isplitr [HO]
  · isplitr; · iexists κ; iexact HI
    isplitr
    · isplitr; · iapply (bar_reached (F := F) (nb c 15)); iexact HR
      iapply (bar_reached (F := F) (nb c 1)); iexact HR
    isplitl [Hl] <;> iassumption
  · iexists ∅; iexact HO

theorem linear_all :
    iprop((bigSep barCells fun g => atPos ER g 0 ∅ 0) ∗ (bigSep scCells fun g => openTok ER g)
        ∗ bigSep allToks (fun x => (dutyTok ER x.1 x.2.1 x.2.2 : sProp 𝕄)))
      ⊢ (bigSep Finset.univ (linear (F := F)) : sProp 𝕄) := by
  have e : bigSep Finset.univ (linear (F := F)) = iprop((bigSep barCells fun g => atPos ER g 0 ∅ 0) ∗ (bigSep scCells fun g => openTok ER g)
      ∗ (bigSep Finset.univ fun c : Dev nD => dutyTok ER (barCell (nb c 15)) 0 false)
      ∗ (bigSep Finset.univ fun c : Dev nD => dutyTok ER (barCell (nb c 1)) 0 true)
      ∗ (bigSep Finset.univ fun c : Dev nD => bigSep Finset.univ fun n : Fin 30 => dutyTok ER (sendCell c n) 0 false)
      ∗ (bigSep Finset.univ fun c : Dev nD => bigSep Finset.univ fun n : Fin 30 => dutyTok ER (recvCell (peer c n) n) 0 false)) := by
    rw [BI.bigSep_map, BI.bigSep_map, BI.bigSep_univ_prod, ← bs_sep, ← bs_sep, ← bs_sep, ← bs_sep, ← bs_sep]
    rfl
  rw [e]
  iintro ⟨Hat, Ho, Ht⟩
  ihave Ht := (toks_dealt (F := F)) $$ Ht
  isplitl [Hat]; · iexact Hat
  isplitl [Ho]; · iexact Ho
  iexact Ht

theorem all_inv (κ : GSem nD τ sig → ℕ) :
    bigSep (barCells ∪ scCells) (fun g => cellInv ER (Rd (WQ m) (WO m)) (κ g) g) ⊢ (allInv (WQ m) (WO m) κ : sProp 𝕄) := by
  unfold allInv
  rw [bs_union disjoint_cells, BI.bigSep_map, BI.bigSep_map]
  exact Entails.of_eq rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from Pipeline.unscopedBufs_held c (V₀ m c),
      sems_at]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (barCell c) 0 : sProp 𝕄)) :=
    Entails.of_eq (BI.bigSep_map (s := Finset.univ) barEmb (Φ := fun g : GSem nD τ sig => (reached ER g 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from BI.bigSep_mono fun c _ => hcore c) $$ H
  ihave H2 := bs_unpair $$ H'; icases H2 with ⟨HB, H3⟩
  ihave H4 := bs_unpair $$ H3; icases H4 with ⟨Hv, HG⟩
  ihave Hu := (Entails.of_eq (G_all (F := F))) $$ HG
  unfold ghost₀
  imod (Rounds.fund_launch ER (Rd (WQ m) (WO m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iapply (all_inv m κ); iexact Hinv
    iapply hr; iexact Hr
  iapply bs_pair
  isplitr [HB]
  · iapply (linear_all (F := F))
    isplitl [Hat]; · iexact Hat
    isplitl [Hopen] <;> iassumption
  · iexact HB

/-! ## What is read at the end -/

abbrev shown : Finset (DevRef τ sig) :=
  {Proc.devRef .tc main_arg0, Proc.devRef .tc main_arg1, Proc.devRef .tc main_arg2, Proc.devRef .tc main_arg3, Proc.devRef .tc main_arg4, Proc.devRef .tc main_v6}

theorem shown_eq (c : Dev nD) (W : Valuation τ sig (Elt F)) :
    (StableHlo.held (c : Thread nD τ) bufs W : sProp 𝕄) ⊢ iprop((((c : Thread nD τ).loc main_arg0) ↦{fullShare} W main_arg0)
      ∗ (((c : Thread nD τ).loc main_arg1) ↦{fullShare} W main_arg1) ∗ (((c : Thread nD τ).loc main_arg2) ↦{fullShare} W main_arg2)
      ∗ (((c : Thread nD τ).loc main_arg3) ↦{fullShare} W main_arg3) ∗ (((c : Thread nD τ).loc main_arg4) ↦{fullShare} W main_arg4)
      ∗ (((c : Thread nD τ).loc main_v6) ↦{fullShare} W main_v6)) := by
  unfold StableHlo.held
  refine (bs_sub (T := shown) (by decide +kernel) _).trans ?_
  rw [BI.bigSep_insert (by decide +kernel), BI.bigSep_insert (by decide +kernel), BI.bigSep_insert (by decide +kernel), BI.bigSep_insert (by decide +kernel),
    BI.bigSep_insert (by decide +kernel), BI.bigSep_singleton]
  exact Entails.of_eq rfl

theorem unscoped_bar : ∀ sm : SemLoc sig, sm.isScoped .tc = false → sm = .reg barS := by decide +kernel

theorem reg_pre (c : Dev nD) : iprop(StableHlo.held (c : Thread nD τ) bufs (V₁ m c) ∗ Rr m c) ⊢ (reg m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + O₀ c) Wd)
  rw [StableHlo.held_sub_split (c : Thread nD τ) arrs_sub (V₁ m c), zero_add]
  unfold Rr
  iintro ⟨⟨Ha, Hb⟩, Hp, HT, HO⟩
  isplitl [Ha]; · iexact Ha
  isplitl [Hp]; · iexact Hp
  isplitl [Hb]
  · isplitl [Hb]; · iexact Hb
    iempintro
  isplitl [HT]; · iexact HT
  iexact HO

theorem reg_post (c : Dev nD) : (reg m).post c ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ semVal (barCell c) 0 ∗ ∃ Wd, owes (c : Thread nD τ) 0 Wd) ⊢ _
  unfold Tₙ
  rw [StableHlo.held_sub_split (c : Thread nD τ) arrs_sub (V₂ m c)]
  iintro ⟨Ha, -, ⟨Hb, -⟩, Hs, HO⟩
  isplitr [HO]
  · isplitl [Ha Hb]
    · isplitl [Ha] <;> iassumption
    iexact Hs
  iexact HO

/-- What every device's memory shows at the end. -/
def Shows (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_v6) = OUT m c

set_option backward.isDefEq.respectTransparency.types false in
theorem run_main [∀ e, Nonempty (Elt F e)] : θ_run defs (onTc (τ := τ) (main (F := F))) ⟨m, fun _ => 0, ρ⟩
    (fun r => (∀ c : Dev nD, Shows m c r.2) ∧ r.2.sem = fun _ => 0) :=
  Pipeline.θ_run_regions_kit_sems (pcfgs (F := F)) adm (pdats m) () cells_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀
      iintro Hu
      ihave H := (ownU_pair _ _) $$ Hu
      icases H with ⟨HP, HX⟩
      imodintro
      isplitl [HP]; · iexact HP
      rw [G_all (F := F)]
      unfold ghost₀
      iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_arg3) = V₂ m c main_arg3
      ∧ s.mem ((c : Thread nD τ).loc main_arg4) = V₂ m c main_arg4 ∧ s.mem ((c : Thread nD τ).loc main_v6) = V₂ m c main_v6) ∧ s.sem (barCell c) = 0)
    (hfin := fun c s' => by
      dsimp only [Tₙ]
      iintro ⟨⟨Hh, Hb0⟩, HSI⟩
      ihave Hh := (shown_eq c (V₂ m c)) $$ Hh
      icases Hh with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨h0.trans ((V₂_ne m c main_arg0 (by decide)).trans (V_main_arg0 m c)), h1.trans ((V₂_ne m c main_arg1 (by decide)).trans (V_main_arg1 m c)),
          h2.trans ((V₂_ne m c main_arg2 (by decide)).trans (V_main_arg2 m c)), h3.trans ((V₂_ne m c main_arg3 (by decide)).trans (V_main_arg3 m c)),
          h4.trans ((V₂_ne m c main_arg4 (by decide)).trans (V_main_arg4 m c)), h5.trans (V₂_out m c)⟩,
      sem_eq_zero hs fun c sm hsm => by
        obtain rfl := unscoped_bar sm hsm
        exact (h c).2⟩)

end Cert.KernelIdeal.Ring

end
-- ==== Proof.KB.ProgEq.lean ====
module

public import proofs.«01_k».proof.Proof.KB.Prog

@[expose] public section

set_option synthInstance.maxSize 4096

noncomputable section

namespace Cert.Kernel.Ring

open Idealize.ShloMosaic Idealize.SL.Sem
open Cert.Kernel.Gen

variable {F : FTy → Type} [FloatOps F]

set_option maxRecDepth 1000000 in
set_option maxHeartbeats 0 in
/-- The printed body at the call's point is the short program. -/
theorem body_eq : bodyAt0 (F := F) t0_0 = ringP (F := F) := by
  unfold bodyAt0
  rfl

end Cert.Kernel.Ring

end
-- ==== Proof.KI.Vals.lean ====
module

public import proofs.«01_k».proof.Proof.KI.Body
public import Idealize.ShloMosaic.Lib.Pointwise

/-! # What the kernel's operations compute, at an index -/

@[expose] public section

set_option synthInstance.maxSize 4096
set_option maxRecDepth 16384

noncomputable section

namespace Cert.KernelIdeal.Ring

open Idealize.ShloMosaic
open Idealize.ShloMosaic.TcCoe
open Idealize.SL Idealize.SL.Sem
open Cert.KernelIdeal.Gen

theorem payQ_at (x : FVec Ideal S256x512 .bf16) (w : FVec Ideal S512x256 .bf16) (p q : Fin 256) :
    payQ (F := Ideal) x (k0_pay1 (F := Ideal) w) (ix2 p q) = ∑ e : Fin 512, x (ix2 p e) * w (ix2 e q) := by
  pointwise [payQ, k0_pay14, k0_pay13, k0_pay1]

theorem payA_at (a : FVec Ideal S256x512 .f32) (c : FVec Ideal S256x256 .bf16) (w : FVec Ideal S512x256 .bf16) (p : Fin 256) (e : Fin 512) :
    payA (F := Ideal) a c (k0_pay2 (F := Ideal) w) (ix2 p e) = a (ix2 p e) + ∑ k : Fin 256, c (ix2 p k) * w (ix2 e k) := by
  pointwise [payA, k0_pay34, k0_pay2]

theorem payC_at (w : FVec Ideal S256x256 .bf16) (v : FVec Ideal S1x256x64 .bf16) (p : Fin 256) (d : Fin 64) :
    payC (F := Ideal) w v (ix2 p d) = ∑ k : Fin 256, w (ix2 p k) * v (ix3 0 k d) := by
  pointwise [payC, k0_pay23]

theorem x2d_at (x : FVec Ideal S2x128x512 .bf16) (p : Fin 256) (e : Fin 512) :
    k0_pay5 (F := Ideal) x (ix2 p e) = x (ix3 ⟨p.val / 128, by omega⟩ ⟨p.val % 128, by omega⟩ e) := by
  pointwise [k0_pay5]

theorem out_at (a : FVec Ideal S256x512 .f32) (b : Fin 2) (t : Fin 128) (e : Fin 512) :
    k0_pay357 (F := Ideal) a (ix3 b t e) = a (ix2 ⟨b.val * 128 + t.val, by omega⟩ e) := by
  pointwise [k0_pay357]

theorem zero_at (i : S256x512.Idx) : k0_pay3 (F := Ideal) i = 0 := by
  pointwise [k0_pay3]

/-- The score of a query and a key. -/
def sc (q : FVec Ideal S256x64 .bf16) (k : FVec Ideal S1x64x256 .bf16) (p j : Fin 256) : EReal :=
  (∑ d : Fin 64, q (ix2 p d) * k (ix3 0 d j)) * Ideal.ofBits .f32 0x3E000000#32

theorem payTL_at (neg : FVec Ideal S128x128 .f32) (q : FVec Ideal S256x64 .bf16) (k : FVec Ideal S1x64x256 .bf16) (t j : Fin 128) :
    payTL (F := Ideal) neg q k (ix2 t j)
      = Ideal.div (Ideal.exp (sc q k ⟨t.val, by omega⟩ ⟨j.val, by omega⟩ + neg (ix2 t j)))
          (∑ l : Fin 128, Ideal.exp (sc q k ⟨t.val, by omega⟩ ⟨l.val, by omega⟩ + neg (ix2 t l))) := by
  pointwise [payTL, k0_pay16, k0_pay15, sc]

theorem payBR_at (neg : FVec Ideal S128x128 .f32) (q : FVec Ideal S256x64 .bf16) (k : FVec Ideal S1x64x256 .bf16) (t j : Fin 128) :
    payBR (F := Ideal) neg q k (ix2 t j)
      = Ideal.div (Ideal.exp (sc q k ⟨128 + t.val, by omega⟩ ⟨128 + j.val, by omega⟩ + neg (ix2 t j)))
          (∑ l : Fin 128, Ideal.exp (sc q k ⟨128 + t.val, by omega⟩ ⟨128 + l.val, by omega⟩ + neg (ix2 t l))) := by
  pointwise [payBR, k0_pay17, k0_pay15, sc]

/-- The block number of a word: its floor quotient by 64 as the kernel computes it. -/
def flW (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The bit that keeps a key block for a query block. -/
def keepW (a b : BitVec 32) : BitVec 1 :=
  IntOp.ori (IntOp.ori (IntOp.cmpi .eq a b) (IntOp.cmpi .eq b 0#32))
    (IntOp.cmpi .eq (IntOp.remsi .vector (IntOp.addi a b) 3#32) 0#32)

/-- Which key `j` a query row `i` sees. -/
def mk (i j : ℕ) : Bool := decide (i / 64 = j / 64 ∨ j / 64 = 0 ∨ (i / 64 + j / 64) % 3 = 0)

theorem flW_q (d : Dev nD) (t : Fin 128) :
    flW (IntOp.addi (Scalar.muli (wordD d) 128#32) (BitVec.ofNat 32 t)) = BitVec.ofNat 32 ((128 * d.val + t.val) / 64) := by
  revert d t; decide +kernel

theorem flW_k (j : Fin 128) :
    flW (IntOp.remsi .vector (BitVec.ofNat 32 j) 128#32) = BitVec.ofNat 32 (j.val / 64) := by
  revert j; decide +kernel

theorem keepW_eq (a : Fin 32) (b : Fin 2) :
    keepW (BitVec.ofNat 32 a) (BitVec.ofNat 32 b)
      = BitVec.ofBool (decide (a.val = b.val ∨ b.val = 0 ∨ (a.val + b.val) % 3 = 0)) := by
  revert a b; decide +kernel

theorem negV_at (d : Dev nD) (t j : Fin 128) :
    negV (F := Ideal) d (ix2 t j) = if mk (128 * d.val + t.val) j.val then 0 else ⊥ := by
  have e : negV (F := Ideal) d (ix2 t j)
      = Scalar.select (keepW (flW (IntOp.addi (Scalar.muli (wordD d) 128#32) (BitVec.ofNat 32 t)))
          (flW (IntOp.remsi .vector (BitVec.ofNat 32 j) 128#32))) 0 (Named.named κ "mask" 3463342888#32) := by
    pointwise [negV, k0_pay12, k0_pay11, k0_pay10, k0_pay9, k0_pay8, k0_pay7, k0_pay6]
    rfl
  rw [e, flW_q, flW_k]
  have hq : (128 * d.val + t.val) / 64 < 32 := by have := d.isLt; have := t.isLt; have : nD = 16 := rfl; omega
  have hk : j.val / 64 < 2 := by have := j.isLt; omega
  rw [keepW_eq ⟨_, hq⟩ ⟨_, hk⟩]
  show Scalar.select (BitVec.ofBool (mk (128 * d.val + t.val) j.val)) 0 (Named.named κ "mask" 3463342888#32) = _
  cases mk (128 * d.val + t.val) j.val
  · rfl
  · rfl

/-! ## A head -/

/-- A row or column of batch entry `b`. -/
abbrev rw2 (b : Fin 2) (t : Fin 128) : Fin 256 := ⟨128 * b.val + t.val, by omega⟩

theorem z0_eq : z0 (F := Ideal) = 0 := by
  have h : ∀ i, k0_pay4 (F := Ideal) i = 0 := by
    intro i
    idx_vars i
    pointwise [k0_pay4]
  exact h _

section
variable (e0 e1 : S128x128.Idx → EReal) (t j : Fin 128)

theorem diag_tl : diag (F := Ideal) e0 e1 (ix2 (⟨t.val, by omega⟩ : Fin 256) (⟨j.val, by omega⟩ : Fin 256)) = e0 (ix2 t j) := by
  unfold diag
  rw [dif_pos ⟨t.isLt, j.isLt⟩]
  congr 1; funext a; fin_cases a <;> rfl

theorem diag_br : diag (F := Ideal) e0 e1 (ix2 (⟨128 + t.val, by omega⟩ : Fin 256) (⟨128 + j.val, by omega⟩ : Fin 256)) = e1 (ix2 t j) := by
  unfold diag
  rw [dif_neg (fun h => absurd h.1 (by show ¬ 128 + t.val < 128; omega)), dif_pos ⟨Nat.le_add_right 128 t.val, Nat.le_add_right 128 j.val⟩]
  congr 1; funext a; fin_cases a
  · exact Fin.ext (Nat.add_sub_cancel_left 128 t.val)
  · exact Fin.ext (Nat.add_sub_cancel_left 128 j.val)

theorem diag_tr : diag (F := Ideal) e0 e1 (ix2 (⟨t.val, by omega⟩ : Fin 256) (⟨128 + j.val, by omega⟩ : Fin 256)) = 0 := by
  unfold diag
  rw [dif_neg (fun h => absurd h.2 (by show ¬ 128 + j.val < 128; omega)), dif_neg (fun h => absurd h.1 (by show ¬ 128 ≤ t.val; omega)), z0_eq]

theorem diag_bl : diag (F := Ideal) e0 e1 (ix2 (⟨128 + t.val, by omega⟩ : Fin 256) (⟨j.val, by omega⟩ : Fin 256)) = 0 := by
  unfold diag
  rw [dif_neg (fun h => absurd h.1 (by show ¬ 128 + t.val < 128; omega)), dif_neg (fun h => absurd h.2 (by show ¬ 128 ≤ j.val; omega)), z0_eq]

end

/-- A softmax weight: shifted scores, exponentials, their share. -/
def wgt (s n : Fin 128 → EReal) (j : Fin 128) : EReal :=
  Ideal.div (Ideal.exp (s j + n j)) (∑ l : Fin 128, Ideal.exp (s l + n l))

theorem halves (f : Fin 256 → EReal) :
    ∑ k, f k = (∑ j : Fin 128, f ⟨j.val, by omega⟩) + ∑ j : Fin 128, f ⟨128 + j.val, by omega⟩ := by
  have := Fin.sum_univ_add (a := 128) (b := 128) f
  exact this

theorem tab_dot (neg : FVec Ideal S128x128 .f32) (q : FVec Ideal S256x64 .bf16) (k : FVec Ideal S1x64x256 .bf16) (v : FVec Ideal S1x256x64 .bf16)
    (b : Fin 2) (t : Fin 128) (d : Fin 64) :
    payC (F := Ideal) (tab neg q k) v (ix2 (rw2 b t) d)
      = ∑ j : Fin 128, wgt (fun l => sc q k (rw2 b t) (rw2 b l)) (fun l => neg (ix2 t l)) j * v (ix3 0 (rw2 b j) d) := by
  rw [payC_at, halves]
  unfold tab
  have hb : b = 0 ∨ b = 1 := by omega
  rcases hb with rfl | rfl
  · have er : rw2 0 t = ⟨t.val, by omega⟩ := Fin.ext (by show 128 * 0 + t.val = t.val; omega)
    rw [er]
    simp only [diag_tl, diag_tr, zero_mul, Finset.sum_const_zero, add_zero, payTL_at]
    refine Finset.sum_congr rfl fun j _ => ?_
    have ej : ∀ l : Fin 128, rw2 0 l = ⟨l.val, by omega⟩ := fun l => Fin.ext (by show 128 * 0 + l.val = l.val; omega)
    simp only [wgt, ej]
  · have er : rw2 1 t = ⟨128 + t.val, by omega⟩ := Fin.ext (by show 128 * 1 + t.val = 128 + t.val; omega)
    rw [er]
    simp only [diag_bl, diag_br, zero_mul, Finset.sum_const_zero, zero_add, payBR_at]
    refine Finset.sum_congr rfl fun j _ => ?_
    have ej : ∀ l : Fin 128, rw2 1 l = ⟨128 + l.val, by omega⟩ := fun l => Fin.ext (by show 128 * 1 + l.val = 128 + l.val; omega)
    simp only [wgt, ej]

theorem qAt_at (qv : FVec Ideal S256x256 .bf16) (r : Fin 4) (p : Fin 256) (d : Fin 64) :
    qAt (F := Ideal) qv (64 * r.val) (strip_inb r) (ix2 p d) = qv (ix2 p ⟨64 * r.val + d.val, by omega⟩) := by
  show qv _ = _
  congr 1
  funext a; apply Fin.ext
  fin_cases a
  · show 0 + 1 * p.val = p.val; omega
  · show 64 * r.val + 1 * d.val = 64 * r.val + d.val; omega

theorem kAt_at (c : Dev nD) (fK : S64x64x256.Idx → EReal) (j : Dev nD) (r : Fin 4) (d : Fin 64) (p : Fin 256) :
    kAt (F := Ideal) c fK j r (ix3 0 d p) = fK (ix3 ⟨4 * j.val + r.val, by have := j.isLt; have : nD = 16 := rfl; omega⟩ d p) := by
  show fK _ = _
  congr 1
  funext a; apply Fin.ext
  fin_cases a
  · show 4 * j.val + r.val + 1 * 0 = 4 * j.val + r.val; omega
  · show 0 + 1 * d.val = d.val; omega
  · show 0 + 1 * p.val = p.val; omega

theorem vAt_at (c : Dev nD) (fV : S64x256x64.Idx → EReal) (j : Dev nD) (r : Fin 4) (p : Fin 256) (d : Fin 64) :
    vAt (F := Ideal) c fV j r (ix3 0 p d) = fV (ix3 ⟨4 * j.val + r.val, by have := j.isLt; have : nD = 16 := rfl; omega⟩ p d) := by
  show fV _ = _
  congr 1
  funext a; apply Fin.ext
  fin_cases a
  · show 4 * j.val + r.val + 1 * 0 = 4 * j.val + r.val; omega
  · show 0 + 1 * p.val = p.val; omega
  · show 0 + 1 * d.val = d.val; omega

theorem strips_at (w : Fin 4 → S256x64.Idx → EReal) (p : Fin 256) (k : Fin 256) :
    strips (F := Ideal) w (ix2 p k) = w ⟨k.val / 64, by omega⟩ (ix2 p ⟨k.val % 64, by omega⟩) := by
  unfold strips
  show w _ _ = w _ _
  congr 1; funext a; fin_cases a <;> rfl

/-! ## All heads -/

section
variable (WQ WO : Dev nD → FVec Ideal S512x256 .bf16) (c : Dev nD) (fX : S2x128x512.Idx → EReal) (fK : S64x64x256.Idx → EReal) (fV : S64x256x64.Idx → EReal)

/-- Head `r` of device `j`, as the exchange arrays count heads. -/
abbrev hd (j : Dev nD) (r : Fin 4) : Fin 64 := ⟨4 * j.val + r.val, by have := j.isLt; have : nD = 16 := rfl; omega⟩

/-- A query entry. -/
def qK (b : Fin 2) (t : Fin 128) (j : Dev nD) (r : Fin 4) (d : Fin 64) : EReal :=
  ∑ e : Fin 512, fX (ix3 b t e) * WQ j (ix2 e ⟨64 * r.val + d.val, by omega⟩)

/-- A score. -/
def sK (b : Fin 2) (t : Fin 128) (j : Dev nD) (r : Fin 4) (l : Fin 128) : EReal :=
  (∑ d : Fin 64, qK WQ fX b t j r d * fK (ix3 (hd j r) d (rw2 b l))) * Ideal.ofBits .f32 0x3E000000#32

/-- A context entry. -/
def cK (b : Fin 2) (t : Fin 128) (j : Dev nD) (r : Fin 4) (d : Fin 64) : EReal :=
  ∑ l : Fin 128, wgt (sK WQ fX fK b t j r) (fun l => if mk (128 * c.val + t.val) l.val then 0 else ⊥) l * fV (ix3 (hd j r) (rw2 b l) d)

theorem head_at (b : Fin 2) (t : Fin 128) (j : Dev nD) (r : Fin 4) (d : Fin 64) :
    payC (F := Ideal) (tab (negV c) (qAt (payQ (F := Ideal) (k0_pay5 (F := Ideal) fX) (pay (F := Ideal) WQ WO j 0)) (64 * r.val) (strip_inb r)) (kAt c fK j r)) (vAt c fV j r)
        (ix2 (rw2 b t) d)
      = cK WQ c fX fK fV b t j r d := by
  rw [tab_dot]
  unfold cK
  refine Finset.sum_congr rfl fun l _ => ?_
  rw [vAt_at]
  simp only [negV_at]
  congr 2
  funext l
  unfold sc sK
  congr 1
  refine Finset.sum_congr rfl fun d _ => ?_
  rw [kAt_at, qAt_at]
  congr 1
  show payQ (F := Ideal) _ (k0_pay1 (F := Ideal) (WQ j)) _ = _
  rw [payQ_at]
  refine Finset.sum_congr rfl fun e _ => ?_
  rw [x2d_at]
  have h0 : (⟨(rw2 b t).val / 128, by omega⟩ : Fin 2) = b := Fin.ext (by show (128 * b.val + t.val) / 128 = b.val; omega)
  have h1 : (⟨(rw2 b t).val % 128, by omega⟩ : Fin 128) = t := Fin.ext (by show (128 * b.val + t.val) % 128 = t.val; omega)
  rw [h0, h1]

theorem ctx_at (b : Fin 2) (t : Fin 128) (j : Dev nD) (k : Fin 256) :
    ctx (F := Ideal) WQ WO c fK fV (k0_pay5 (F := Ideal) fX) (negV c) j (ix2 (rw2 b t) k)
      = cK WQ c fX fK fV b t j ⟨k.val / 64, by omega⟩ ⟨k.val % 64, by omega⟩ := by
  unfold ctx
  rw [strips_at, head_at]

/-- One device's share of an output entry. -/
def tK (b : Fin 2) (t : Fin 128) (e : Fin 512) (j : Dev nD) : EReal :=
  ∑ k : Fin 256, cK WQ c fX fK fV b t j ⟨k.val / 64, by omega⟩ ⟨k.val % 64, by omega⟩ * WO j (ix2 e k)

theorem stepA_at (b : Fin 2) (t : Fin 128) (e : Fin 512) (j : Dev nD) (a : FVec Ideal S256x512 .f32) :
    stepA (F := Ideal) WQ WO c fK fV (k0_pay5 (F := Ideal) fX) (negV c) j a (ix2 (rw2 b t) e)
      = a (ix2 (rw2 b t) e) + tK WQ WO c fX fK fV b t e j := by
  show payA (F := Ideal) _ _ (k0_pay2 (F := Ideal) (WO j)) _ = _
  rw [payA_at]
  unfold tK
  congr 1
  refine Finset.sum_congr rfl fun k _ => ?_
  rw [ctx_at]

theorem fold_at (b : Fin 2) (t : Fin 128) (e : Fin 512) (l : List (Dev nD)) : ∀ a : FVec Ideal S256x512 .f32,
    (l.foldl (fun a j => stepA (F := Ideal) WQ WO c fK fV (k0_pay5 (F := Ideal) fX) (negV c) j a) a) (ix2 (rw2 b t) e)
      = a (ix2 (rw2 b t) e) + (l.map (tK WQ WO c fX fK fV b t e)).sum := by
  induction l with
  | nil => intro a; simp
  | cons j l ih =>
    intro a
    rw [List.foldl_cons, ih, stepA_at, List.map_cons, List.sum_cons, add_assoc]

theorem order_all : ∀ c : Dev nD, (order c).Nodup ∧ ∀ j : Dev nD, j ∈ order c := by decide +kernel

theorem order_sum (f : Dev nD → EReal) : ((order c).map f).sum = ∑ j, f j := by
  have h : (order c).toFinset = Finset.univ := Finset.eq_univ_of_forall fun j => List.mem_toFinset.mpr ((order_all c).2 j)
  rw [← List.sum_toFinset f (order_all c).1, h]

theorem accAll_at (b : Fin 2) (t : Fin 128) (e : Fin 512) :
    accAll (F := Ideal) WQ WO c fX fK fV (ix2 (rw2 b t) e) = ∑ j, tK WQ WO c fX fK fV b t e j := by
  unfold accAll
  rw [rdX_eq, fold_at, zero_at, zero_add, order_sum]

end

theorem OUT_at (m : (ℓ : Loc nD τ sig) → Buf (Elt Ideal) ℓ) (c : Dev nD) (b : Fin 2) (t : Fin 128) (e : Fin 512) :
    OUT (F := Ideal) m c (ix3 b t e) = ∑ j, tK (WQ m) (WO m) c (bX m c) (bK m c) (bV m c) b t e j := by
  unfold OUT
  rw [out_at, ← accAll_at]
  congr 2
  exact Fin.ext (by show b.val * 128 + t.val = 128 * b.val + t.val; omega)

end Cert.KernelIdeal.Ring

end
-- ==== Proof.KI.Inputs.lean ====
module

public import proofs.«01_k».proof.Proof.KI.Vals
public import Idealize.ShloMosaic.Lib.Claim
public import Idealize.ShloMosaic.Lib.Pipeline.ValueKit

/-! # The five staged arrays, read off the arguments -/

@[expose] public section

set_option synthInstance.maxSize 4096
set_option maxRecDepth 16384

noncomputable section

namespace Cert.KernelIdeal.Ring

open Idealize.ShloMosaic
open Idealize.ShloMosaic.TcCoe
open Idealize.SL Idealize.SL.Sem
open Cert.KernelIdeal.Gen

variable (m : (ℓ : Loc nD τ sig) → Buf (Elt Ideal) ℓ) (c : Dev nD)

theorem idx_all : (∀ a, win0_0.index t0_0 a = 0) ∧ (∀ a, win0_1.index t0_0 a = 0) ∧ (∀ a, win0_2.index t0_0 a = 0)
    ∧ (∀ a, win0_3.index t0_0 a = 0) ∧ (∀ a, win0_4.index t0_0 a = 0) := by decide +kernel

theorem bX_eq : bX (F := Ideal) m c = m ((c : Thread nD τ).loc main_arg0) := by
  funext i
  unfold bX
  blk_ext! [iblk, V, idx_all]

theorem WQ_eq : WQ (F := Ideal) m c = m ((c : Thread nD τ).loc main_arg1) := by
  funext i
  unfold WQ
  blk_ext! [iblk, V, idx_all]

theorem WO_at (e : Fin 512) (k : Fin 256) : WO (F := Ideal) m c (ix2 e k) = m ((c : Thread nD τ).loc main_arg4) (ix2 k e) := by
  unfold WO
  blk_ext! [iblk, V, idx_all]

theorem bK_at (h d : Fin 64) (b : Fin 2) (l : Fin 128) :
    bK (F := Ideal) m c (ix3 h d (rw2 b l)) = m ((c : Thread nD τ).loc main_arg2) (ix4 b l h d) := by
  unfold bK
  blk_ext! [iblk, V, idx_all]

theorem bV_at (h d : Fin 64) (b : Fin 2) (l : Fin 128) :
    bV (F := Ideal) m c (ix3 h (rw2 b l) d) = m ((c : Thread nD τ).loc main_arg3) (ix4 b l h d) := by
  unfold bV
  blk_ext! [iblk, V, idx_all]

end Cert.KernelIdeal.Ring

end
-- ==== Proof.RI.Ref.lean ====
module

public import proofs.«01_k».proof.Proof.Gen.ReferenceIdeal
public import proofs.«01_k».proof.Proof.Gen.ReferenceIdeal.Run

/-! # The reference, stage by stage -/

@[expose] public section

set_option synthInstance.maxSize 4096
set_option maxRecDepth 16384

noncomputable section

namespace Cert.ReferenceIdeal.Vals

open Cert.ReferenceIdeal Cert.ReferenceIdeal.Gen Idealize.ShloMosaic Idealize.ShloMosaic.TcCoe Idealize.SL.Sem

/-- A word, halved six times, rounded down. -/
def fdiv (s : Shape) (b : S_.BroadcastsInDim s (![] : Fin 0 → Fin s.rank)) (I : IVec s 32) : IVec s 32 :=
  select (andi (cmpi .ne (signi I) (broadcastInDim s ![] b (signi (id (constantI S_ 32 64#32)))))
      (cmpi .ne (Host.remsi I (broadcastInDim s ![] b (id (constantI S_ 32 64#32)))) (broadcastInDim s ![] b (constantI S_ 32 0#32))))
    (subi (Host.divsi I (broadcastInDim s ![] b (id (constantI S_ 32 64#32)))) (broadcastInDim s ![] b (constantI S_ 32 1#32)))
    (Host.divsi I (broadcastInDim s ![] b (id (constantI S_ 32 64#32))))

def qbV : IVec S2048 32 := fdiv S2048 bcast_S_S2048 (iotaInDim S2048 32 0)
def kbV : IVec S128 32 := fdiv S128 bcast_S_S128 (iotaInDim S128 32 0)
def qb2 : IVec S2048x128 32 := broadcastInDim S2048x128 ![0, 1] bcast_S2048x1_S2048x128_0_1 (broadcastInDim S2048x1 ![0] bcast_S2048_S2048x1_0 qbV)
def kb1 : IVec S1x128 32 := broadcastInDim S1x128 ![1] bcast_S128_S1x128_1 kbV
def kb2 : IVec S2048x128 32 := broadcastInDim S2048x128 ![0, 1] bcast_S1x128_S2048x128_0_1 kb1
def three : IVec S_ 32 := select (cmpi .eq (id (constantI S_ 32 3#32)) (constantI S_ 32 0#32)) (constantI S_ 32 1#32) (id (constantI S_ 32 3#32))
def remV (Y : IVec S2048x128 32) : IVec S2048x128 32 :=
  select (andi (cmpi .ne (cmpi .slt (Host.remsi Y (broadcastInDim S2048x128 ![] bcast_S_S2048x128 three)) (broadcastInDim S2048x128 ![] bcast_S_S2048x128 (constantI S_ 32 0#32)))
        (broadcastInDim S2048x128 ![] bcast_S_S2048x128 (cmpi .slt three (constantI S_ 32 0#32))))
      (cmpi .ne (Host.remsi Y (broadcastInDim S2048x128 ![] bcast_S_S2048x128 three)) (broadcastInDim S2048x128 ![] bcast_S_S2048x128 (constantI S_ 32 0#32))))
    (addi (Host.remsi Y (broadcastInDim S2048x128 ![] bcast_S_S2048x128 three)) (broadcastInDim S2048x128 ![] bcast_S_S2048x128 three))
    (Host.remsi Y (broadcastInDim S2048x128 ![] bcast_S_S2048x128 three))
/-- The mask. -/
def maskV : IVec S2048x128 1 :=
  ori (ori (cmpi .eq qb2 kb2) (broadcastInDim S2048x128 ![0, 1] bcast_S1x128_S2048x128_0_1 (cmpi .eq kb1 (broadcastInDim S1x128 ![] bcast_S_S1x128 (constantI S_ 32 0#32)))))
    (cmpi .eq (remV (addi qb2 kb2)) (broadcastInDim S2048x128 ![] bcast_S_S2048x128 (constantI S_ 32 0#32)))
def keepV : IVec S2048 1 := Host.reduce IntOp.ori maskV (constantI S_ 1 0#1) reducesTo_S2048x128_S2048_d1 h_S_

variable {F : FTy → Type} [FloatOps F]

def scV (x : FVec F S2x2048x512 .bf16) (wq : FVec F S512x4096 .bf16) (k : FVec F S2x128x64x64 .bf16) : FVec F S2x64x2048x128 .f32 :=
  mulf (Host.dotGeneral dot_S2x2048x64x64_S2x128x64x64_S2x64x2048x128_3_3_1_1_02_02 none
      (shapeCast _ (Host.dotGeneral dot_S2x2048x512_S512x4096_S2x2048x4096_2_0_01_1_n_n none (extf .f32 x bitsLt_bf16_f32) (extf .f32 wq bitsLt_bf16_f32)) shapeCasts_S2x2048x4096_S2x2048x64x64)
      (extf .f32 k bitsLt_bf16_f32))
    (broadcastInDim S2x64x2048x128 ![] bcast_S_S2x64x2048x128 (constant S_ .f32 0x3E000000#32))
/-- The masked scores. -/
def zV (s : FVec F S2x64x2048x128 .f32) : FVec F S2x64x2048x128 .f32 :=
  select (broadcastInDim S2x64x2048x128 ![0, 1, 2, 3] bcast_S1x1x2048x128_S2x64x2048x128_0_1_2_3 (broadcastInDim S1x1x2048x128 ![2, 3] bcast_S2048x128_S1x1x2048x128_2_3 maskV))
    s (broadcastInDim S2x64x2048x128 ![] bcast_S_S2x64x2048x128 (id (constant S_ .f32 0xFF800000#32)))
def mxV (z : FVec F S2x64x2048x128 .f32) : FVec F S2x64x2048 .f32 :=
  Host.reduce FloatOps.maximumf z (constant S_ .f32 0xFF800000#32) reducesTo_S2x64x2048x128_S2x64x2048_d3 h_S_
def exV (z : FVec F S2x64x2048x128 .f32) : FVec F S2x64x2048x128 .f32 :=
  Host.exp (subf z (broadcastInDim S2x64x2048x128 ![0, 1, 2, 3] bcast_S2x64x2048x1_S2x64x2048x128_0_1_2_3 (broadcastInDim S2x64x2048x1 ![0, 1, 2] bcast_S2x64x2048_S2x64x2048x1_0_1_2 (mxV z))))
def sumV (e : FVec F S2x64x2048x128 .f32) : FVec F S2x64x2048x1 .f32 :=
  select (broadcastInDim S2x64x2048x1 ![0, 1, 2, 3] bcast_S1x1x2048x1_S2x64x2048x1_0_1_2_3 (broadcastInDim S1x1x2048x1 ![2] bcast_S2048_S1x1x2048x1_2 keepV))
    (broadcastInDim S2x64x2048x1 ![0, 1, 2] bcast_S2x64x2048_S2x64x2048x1_0_1_2 (Host.reduceAdd e (constant S_ .f32 0x00000000#32) reducesTo_S2x64x2048x128_S2x64x2048_d3 h_S_))
    (broadcastInDim S2x64x2048x1 ![] bcast_S_S2x64x2048x1 (id (constant S_ .f32 0x3F800000#32)))
def wV (e : FVec F S2x64x2048x128 .f32) : FVec F S2x64x2048x128 .f32 :=
  select (broadcastInDim S2x64x2048x128 ![0, 1, 2, 3] bcast_S1x1x2048x1_S2x64x2048x128_0_1_2_3 (broadcastInDim S1x1x2048x1 ![2] bcast_S2048_S1x1x2048x1_2 keepV))
    (Host.divf e (broadcastInDim S2x64x2048x128 ![0, 1, 2, 3] bcast_S2x64x2048x1_S2x64x2048x128_0_1_2_3 (sumV e)))
    (broadcastInDim S2x64x2048x128 ![] bcast_S_S2x64x2048x128 (id (constant S_ .f32 0x00000000#32)))
def outV (w : FVec F S2x64x2048x128 .f32) (v : FVec F S2x128x64x64 .bf16) (wo : FVec F S4096x512 .bf16) : FVec F S2x2048x512 .f32 :=
  Host.dotGeneral dot_S2x2048x4096_S4096x512_S2x2048x512_2_0_01_1_n_n none
    (shapeCast _ (transpose S2x2048x64x64 [0, 3, 1, 2]
      (Host.dotGeneral dot_S2x128x64x64_S2x64x2048x128_S2x64x64x2048_1_3_3_2_02_01 none (extf .f32 v bitsLt_bf16_f32) w)
      transposes_S2x64x64x2048_S2x2048x64x64_0_3_1_2) shapeCasts_S2x2048x64x64_S2x2048x4096)
    (extf .f32 wo bitsLt_bf16_f32)

/-- The reference's result of its five arguments. -/
def REF (x : FVec F S2x2048x512 .bf16) (wq : FVec F S512x4096 .bf16) (k v : FVec F S2x128x64x64 .bf16) (wo : FVec F S4096x512 .bf16) : FVec F S2x2048x512 .f32 :=
  outV (wV (exV (zV (scV x wq k)))) v wo

theorem res_eq (m : (ℓ : Loc nD τ sig) → Buf (Elt F) ℓ) (c : Dev nD) :
    Value.res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_out0 Value.res_main_v49
  rfl

end Cert.ReferenceIdeal.Vals

end
-- ==== Proof.Soft.lean ====
module

public import Idealize.ShloMosaic.Lib.Pointwise
public import Idealize.ShloMosaic.Lib.IdealHost

/-! # Softmax with and without the maximum taken off -/

@[expose] public section

noncomputable section

namespace Cert.Soft

open Idealize.ShloMosaic

variable {n : ℕ}

theorem exp_coe (r : ℝ) : Ideal.exp (r : EReal) = ((Real.exp r : ℝ) : EReal) := rfl
theorem exp_bot : Ideal.exp ⊥ = 0 := rfl

/-- A number that is neither infinity is a real. -/
theorem exists_real {x : EReal} (h1 : x ≠ ⊤) (h2 : x ≠ ⊥) : ∃ r : ℝ, x = r := ⟨x.toReal, (EReal.coe_toReal h1 h2).symm⟩

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The weight of a key: the real of its score where it is kept, nothing elsewhere. -/
def wt (r : Fin n → ℝ) (M : Fin n → Bool) (j : Fin n) : ℝ := if M j then Real.exp (r j) else 0

theorem exp_masked (r : Fin n → ℝ) (M : Fin n → Bool) (j : Fin n) :
    Ideal.exp ((r j : EReal) + if M j then 0 else ⊥) = ((wt r M j : ℝ) : EReal) := by
  unfold wt
  cases M j
  · simp [exp_bot]
  · simp [exp_coe]

theorem exp_shifted (r : Fin n → ℝ) (M : Fin n → Bool) (mx : ℝ) (j : Fin n) :
    Ideal.exp ((if M j then (r j : EReal) else ⊥) - (mx : EReal)) = ((wt r M j * Real.exp (-mx) : ℝ) : EReal) := by
  unfold wt
  cases M j
  · simp [exp_bot]
  · simp only [if_true]
    rw [← EReal.coe_sub, exp_coe, ← Real.exp_add, sub_eq_add_neg]

theorem wt_pos (r : Fin n → ℝ) (M : Fin n → Bool) (h : ∃ j, M j = true) : 0 < ∑ j, wt r M j := by
  obtain ⟨j, hj⟩ := h
  refine Finset.sum_pos' (fun i _ => ?_) ⟨j, Finset.mem_univ _, ?_⟩
  · unfold wt; split <;> positivity
  · unfold wt; rw [hj]; simp [Real.exp_pos]

theorem div_coe (a b : ℝ) (hb : 0 < b) : Ideal.div (a : EReal) (b : EReal) = ((a / b : ℝ) : EReal) := by
  unfold Ideal.div
  have h : (b : EReal) ≠ 0 := by simpa using hb.ne'
  rw [if_neg h, div_eq_mul_inv, EReal.coe_mul, EReal.coe_inv]

/-- The largest of the kept scores is one of them. -/
theorem max_real (r : Fin n → ℝ) (M : Fin n → Bool) (h : ∃ j, M j = true) :
    ∃ mx : ℝ, Finset.univ.fold max (⊥ : EReal) (fun j => if M j then (r j : EReal) else ⊥) = mx := by
  refine exists_real (fun ht => ?_) (fun hb => ?_)
  · have : Finset.univ.fold max (⊥ : EReal) (fun j => if M j then (r j : EReal) else ⊥) < ⊤ := by
      rw [Finset.fold_max_lt]
      refine ⟨bot_lt_top, fun j _ => ?_⟩
      split
      · exact EReal.coe_lt_top _
      · exact bot_lt_top
    exact this.ne ht
  · obtain ⟨j, hj⟩ := h
    have : (r j : EReal) ≤ Finset.univ.fold max (⊥ : EReal) (fun j => if M j then (r j : EReal) else ⊥) := by
      rw [Finset.le_fold_max]
      exact .inr ⟨j, Finset.mem_univ _, by rw [hj]; simp⟩
    rw [hb] at this
    exact absurd this (by simp)

/-- The two forms of the softmax of finite scores, at least one of which is kept. -/
theorem soft_eq (s : Fin n → EReal) (hs : ∀ j, s j ≠ ⊤ ∧ s j ≠ ⊥) (M : Fin n → Bool) (h : ∃ j, M j = true) (j : Fin n) :
    Ideal.div (Ideal.exp (s j + if M j then 0 else ⊥)) (∑ k, Ideal.exp (s k + if M k then 0 else ⊥))
      = Ideal.div (Ideal.exp ((if M j then s j else ⊥) - Finset.univ.fold max (⊥ : EReal) (fun k => if M k then s k else ⊥)))
          (∑ k, Ideal.exp ((if M k then s k else ⊥) - Finset.univ.fold max (⊥ : EReal) (fun k => if M k then s k else ⊥))) := by
  choose r hr using fun j => exists_real (hs j).1 (hs j).2
  obtain rfl : s = fun j => (r j : EReal) := funext hr
  obtain ⟨mx, hmx⟩ := max_real r M h
  simp only [hmx, exp_masked, exp_shifted, sum_coe]
  rw [← Finset.sum_mul, div_coe _ _ (wt_pos r M h), div_coe _ _ (mul_pos (wt_pos r M h) (Real.exp_pos _)),
    mul_div_mul_right _ _ (Real.exp_pos _).ne']

end Cert.Soft

end
-- ==== Proof.RI.Vals.lean ====
module

public import proofs.«01_k».proof.Proof.RI.Ref
public import proofs.«01_k».proof.Proof.Soft
public import Idealize.ShloMosaic.Lib.Pointwise

/-! # What the reference computes, at an index -/

@[expose] public section

set_option synthInstance.maxSize 4096
set_option maxRecDepth 16384

noncomputable section

namespace Cert.ReferenceIdeal.Vals

open Cert.ReferenceIdeal Cert.ReferenceIdeal.Gen Idealize.ShloMosaic Idealize.ShloMosaic.TcCoe Idealize.SL.Sem

theorem qbV_at : ∀ i : Fin 2048, qbV (ix1 i) = BitVec.ofNat 32 (i.val / 64) := by decide +kernel
theorem kbV_at : ∀ i : Fin 128, kbV (ix1 i) = BitVec.ofNat 32 (i.val / 64) := by decide +kernel

/-- The remainder by three as the reference computes it. -/
def rem3 (y : BitVec 32) : BitVec 32 :=
  Scalar.select
    (IntOp.andi (IntOp.cmpi .ne (IntOp.cmpi .slt (IntOp.remsi .host y 3#32) 0#32) (IntOp.cmpi .slt 3#32 0#32))
      (IntOp.cmpi .ne (IntOp.remsi .host y 3#32) 0#32))
    (IntOp.addi (IntOp.remsi .host y 3#32) 3#32) (IntOp.remsi .host y 3#32)

/-- Which key `j` a query row `i` sees. -/
def see (i j : ℕ) : Bool := decide (i / 64 = j / 64 ∨ j / 64 = 0 ∨ (i / 64 + j / 64) % 3 = 0)

theorem see_words (a : Fin 32) (b : Fin 2) :
    IntOp.ori (IntOp.ori (IntOp.cmpi .eq (BitVec.ofNat 32 a) (BitVec.ofNat 32 b)) (IntOp.cmpi .eq (BitVec.ofNat 32 b) 0#32))
        (IntOp.cmpi .eq (rem3 (IntOp.addi (BitVec.ofNat 32 a) (BitVec.ofNat 32 b))) 0#32)
      = BitVec.ofBool (decide (a.val = b.val ∨ b.val = 0 ∨ (a.val + b.val) % 3 = 0)) := by
  revert a b; decide +kernel

theorem three_at : three ix0 = 3#32 := by decide +kernel

theorem maskV_at (i : Fin 2048) (j : Fin 128) : maskV (ix2 i j) = BitVec.ofBool (see i j) := by
  have hi : i.val / 64 < 32 := by omega
  have hj : j.val / 64 < 2 := by omega
  have e : maskV (ix2 i j) = IntOp.ori (IntOp.ori (IntOp.cmpi .eq (BitVec.ofNat 32 (i.val / 64)) (BitVec.ofNat 32 (j.val / 64))) (IntOp.cmpi .eq (BitVec.ofNat 32 (j.val / 64)) 0#32))
        (IntOp.cmpi .eq (rem3 (IntOp.addi (BitVec.ofNat 32 (i.val / 64)) (BitVec.ofNat 32 (j.val / 64)))) 0#32) := by
    pointwise [maskV, qb2, kb2, kb1, remV, three_at, qbV_at, kbV_at, rem3]
  rw [e]
  exact see_words ⟨_, hi⟩ ⟨_, hj⟩

theorem keepV_at (i : Fin 2048) : keepV (ix1 i) = 1#1 := by
  have e : keepV (ix1 i) = Finset.fold IntOp.ori (0#1) (fun x => maskV (ix2 i x)) Finset.univ := by
    pointwise [keepV]
  have h0 : maskV (ix2 i 0) = 1#1 := by
    rw [maskV_at, show see i (0 : Fin 128) = true from decide_eq_true (Or.inr (Or.inl rfl))]; rfl
  have ho : ∀ y : BitVec 1, IntOp.ori 1#1 y = 1#1 := by decide
  rw [e, ← Finset.insert_erase (Finset.mem_univ (0 : Fin 128)), Finset.fold_insert (Finset.notMem_erase _ _), h0, ho]

section
variable (x : FVec Ideal S2x2048x512 .bf16) (wq : FVec Ideal S512x4096 .bf16) (k v : FVec Ideal S2x128x64x64 .bf16) (wo : FVec Ideal S4096x512 .bf16)

/-- A score. -/
def sR (b : Fin 2) (h : Fin 64) (i : Fin 2048) (j : Fin 128) : EReal :=
  (∑ d : Fin 64, (∑ e : Fin 512, x (ix3 b i e) * wq (ix2 e ⟨h.val * 64 + d.val, by omega⟩)) * k (ix4 b j h d)) * Ideal.ofBits .f32 0x3E000000#32

theorem scV_at (b : Fin 2) (h : Fin 64) (i : Fin 2048) (j : Fin 128) : scV (F := Ideal) x wq k (ix4 b h i j) = sR x wq k b h i j := by
  pointwise [scV, sR]

theorem low_bits : Ideal.ofBits .f32 0xFF800000#32 = ⊥ := by simp [Ideal.ofBits, Ideal.ieee]

theorem zV_at (s : FVec Ideal S2x64x2048x128 .f32) (b : Fin 2) (h : Fin 64) (i : Fin 2048) (j : Fin 128) :
    zV (F := Ideal) s (ix4 b h i j) = if see i j then s (ix4 b h i j) else ⊥ := by
  have e : zV (F := Ideal) s (ix4 b h i j) = Scalar.select (maskV (ix2 i j)) (s (ix4 b h i j)) (Ideal.ofBits .f32 0xFF800000#32) := by
    pointwise [zV]; rfl
  rw [e, maskV_at, low_bits]
  cases see i j <;> rfl

theorem mxV_at (s : FVec Ideal S2x64x2048x128 .f32) (b : Fin 2) (h : Fin 64) (i : Fin 2048) :
    mxV (F := Ideal) s (ix3 b h i) = Finset.univ.fold max ⊥ (fun j => s (ix4 b h i j)) := by
  rw [← low_bits]
  pointwise [mxV]

theorem exV_at (s : FVec Ideal S2x64x2048x128 .f32) (b : Fin 2) (h : Fin 64) (i : Fin 2048) (j : Fin 128) :
    exV (F := Ideal) s (ix4 b h i j) = Ideal.exp (s (ix4 b h i j) - Finset.univ.fold max ⊥ (fun j => s (ix4 b h i j))) := by
  rw [← mxV_at]
  pointwise [exV]

theorem sumV_at (s : FVec Ideal S2x64x2048x128 .f32) (b : Fin 2) (h : Fin 64) (i : Fin 2048) :
    sumV (F := Ideal) s (ix4 b h i 0) = ∑ j, s (ix4 b h i j) := by
  have e : sumV (F := Ideal) s (ix4 b h i 0) = Scalar.select (keepV (ix1 i)) (∑ j, s (ix4 b h i j)) (id (constant S_ .f32 0x3F800000#32) ix0) := by
    pointwise [sumV]
  rw [e, keepV_at]; rfl

theorem wV_at (s : FVec Ideal S2x64x2048x128 .f32) (b : Fin 2) (h : Fin 64) (i : Fin 2048) (j : Fin 128) :
    wV (F := Ideal) s (ix4 b h i j) = Ideal.div (s (ix4 b h i j)) (∑ j, s (ix4 b h i j)) := by
  have e : wV (F := Ideal) s (ix4 b h i j)
      = Scalar.select (keepV (ix1 i)) (Ideal.div (s (ix4 b h i j)) (sumV (F := Ideal) s (ix4 b h i 0))) (id (constant (F := Ideal) S_ .f32 0x00000000#32) ix0) := by
    pointwise [wV]
  rw [e, keepV_at, sumV_at]; rfl

theorem outV_at (s : FVec Ideal S2x64x2048x128 .f32) (b : Fin 2) (i : Fin 2048) (e : Fin 512) :
    outV (F := Ideal) s v wo (ix3 b i e)
      = ∑ n : Fin 4096, (∑ j : Fin 128, v (ix4 b j ⟨n.val / 64, by omega⟩ ⟨n.val % 64, by omega⟩) * s (ix4 b ⟨n.val / 64, by omega⟩ i j)) * wo (ix2 n e) := by
  pointwise [outV]

/-- A softmax weight, written as a share of shifted exponentials. -/
def wR (b : Fin 2) (h : Fin 64) (i : Fin 2048) (j : Fin 128) : EReal :=
  Ideal.div (Ideal.exp (sR x wq k b h i j + if see i j then 0 else ⊥)) (∑ l : Fin 128, Ideal.exp (sR x wq k b h i l + if see i l then 0 else ⊥))

theorem weight_at (b : Fin 2) (h : Fin 64) (i : Fin 2048) (j : Fin 128) (hs : ∀ l, sR x wq k b h i l ≠ ⊤ ∧ sR x wq k b h i l ≠ ⊥) :
    wV (F := Ideal) (exV (zV (scV x wq k))) (ix4 b h i j) = wR x wq k b h i j := by
  rw [wV_at]
  simp only [exV_at, zV_at, scV_at]
  exact (Soft.soft_eq (sR x wq k b h i) hs (fun l => see i l) ⟨0, decide_eq_true (Or.inr (Or.inl rfl))⟩ j).symm

theorem REF_at (b : Fin 2) (i : Fin 2048) (e : Fin 512) (hs : ∀ h l, sR x wq k b h i l ≠ ⊤ ∧ sR x wq k b h i l ≠ ⊥) :
    REF (F := Ideal) x wq k v wo (ix3 b i e)
      = ∑ n : Fin 4096, (∑ j : Fin 128, v (ix4 b j ⟨n.val / 64, by omega⟩ ⟨n.val % 64, by omega⟩) * wR x wq k b ⟨n.val / 64, by omega⟩ i j) * wo (ix2 n e) := by
  unfold REF
  rw [outV_at]
  refine Finset.sum_congr rfl fun n _ => ?_
  refine congrArg (fun z => z * wo (ix2 n e)) (Finset.sum_congr rfl fun j _ => ?_)
  exact congrArg (fun z => v (ix4 b j ⟨n.val / 64, by omega⟩ ⟨n.val % 64, by omega⟩) * z) (weight_at x wq k b _ i j (hs _))

end

end Cert.ReferenceIdeal.Vals

end
-- ==== Proof.Meet.lean ====
module

public import proofs.«01_k».proof.Proof.KI.Inputs
public import proofs.«01_k».proof.Proof.RI.Vals

/-! # The kernel's sum over the ring is the reference's sum over the heads -/

@[expose] public section

set_option synthInstance.maxSize 4096
set_option maxRecDepth 16384

noncomputable section

namespace Cert.Meet

open Idealize.ShloMosaic
open Cert.KernelIdeal.Ring Cert.ReferenceIdeal.Vals

/-- The whole array's row of device `c`'s row `t`. -/
abbrev row (c : Fin 16) (t : Fin 128) : Fin 2048 := ⟨128 * c.val + t.val, by omega⟩
/-- The whole array's column of device `j`'s column `k`. -/
abbrev col (j : Fin 16) (k : Fin 256) : Fin 4096 := ⟨256 * j.val + k.val, by omega⟩
/-- The whole array's head of device `j`'s head `r`. -/
abbrev hea (j : Fin 16) (r : Fin 4) : Fin 64 := ⟨4 * j.val + r.val, by omega⟩

/-- A number that is neither infinity. -/
def Fine (x : EReal) : Prop := x ≠ ⊤ ∧ x ≠ ⊥

theorem fine_coe (r : ℝ) : Fine (r : EReal) := ⟨EReal.coe_ne_top r, EReal.coe_ne_bot r⟩

theorem Fine.mul {x y : EReal} (hx : Fine x) (hy : Fine y) : Fine (x * y) := by
  obtain ⟨a, rfl⟩ := Soft.exists_real hx.1 hx.2
  obtain ⟨b, rfl⟩ := Soft.exists_real hy.1 hy.2
  rw [← EReal.coe_mul]
  exact fine_coe _

theorem Fine.sum {ι : Type*} (s : Finset ι) (f : ι → EReal) (h : ∀ i, Fine (f i)) : Fine (∑ i ∈ s, f i) := by
  choose g hg using fun i => Soft.exists_real (h i).1 (h i).2
  obtain rfl : f = fun i => (g i : EReal) := funext hg
  rw [Soft.sum_coe]
  exact fine_coe _

theorem eighth : Fine (Ideal.ofBits .f32 0x3E000000#32) := by
  have h : Ideal.ofBits .f32 0x3E000000#32 = ((1 / 8 : ℝ) : EReal) := by
    simp [Ideal.ofBits, Ideal.ieee, -EReal.coe_mul]; norm_num
  rw [h]; exact fine_coe _

theorem split (f : Fin 4096 → EReal) : ∑ n, f n = ∑ j : Fin 16, ∑ k : Fin 256, f (col j k) := by
  rw [← Fintype.sum_prod_type' (f := fun (j : Fin 16) (k : Fin 256) => f (col j k))]
  exact (Fintype.sum_equiv (finProdFinEquiv (m := 16) (n := 256)) _ _ fun p =>
    congrArg f (Fin.ext (by show 256 * p.1.val + p.2.val = p.2.val + 256 * p.1.val; omega))).symm

variable (X : FVec Ideal ⟨3, ![2, 2048, 512]⟩ .bf16) (Wq : FVec Ideal ⟨2, ![512, 4096]⟩ .bf16) (K V : FVec Ideal ⟨4, ![2, 128, 64, 64]⟩ .bf16) (Wo : FVec Ideal ⟨2, ![4096, 512]⟩ .bf16)

theorem fine_score (hX : ∀ i, Fine (X i)) (hQ : ∀ i, Fine (Wq i)) (hK : ∀ i, Fine (K i)) (b : Fin 2) (h : Fin 64) (i : Fin 2048) (l : Fin 128) :
    Fine (sR X Wq K b h i l) :=
  ((Fine.sum _ _ fun d => (Fine.sum _ _ fun e => (hX _).mul (hQ _)).mul (hK _))).mul eighth

variable (WQ WO : Fin 16 → FVec Ideal ⟨2, ![512, 256]⟩ .bf16) (c : Fin 16) (fX : FVec Ideal ⟨3, ![2, 128, 512]⟩ .bf16)
  (fK : FVec Ideal ⟨3, ![64, 64, 256]⟩ .bf16) (fV : FVec Ideal ⟨3, ![64, 256, 64]⟩ .bf16)

section
variable (eQ : ∀ j (e : Fin 512) (k : Fin 256), WQ j (ix2 e k) = Wq (ix2 e (col j k)))
  (eO : ∀ j (e : Fin 512) (k : Fin 256), WO j (ix2 e k) = Wo (ix2 (col j k) e))
  (eX : ∀ b (t : Fin 128) (e : Fin 512), fX (ix3 b t e) = X (ix3 b (row c t) e))
  (eK : ∀ b l h d, fK (ix3 h d (rw2 b l)) = K (ix4 b l h d))
  (eV : ∀ b l h d, fV (ix3 h (rw2 b l) d) = V (ix4 b l h d))

include eQ eX eK in
theorem score_eq (b : Fin 2) (t : Fin 128) (j : Fin 16) (r : Fin 4) (l : Fin 128) :
    sK WQ fX fK b t j r l = sR X Wq K b (hea j r) (row c t) l := by
  unfold sK sR qK
  refine congrArg (fun z => z * Ideal.ofBits .f32 0x3E000000#32) (Finset.sum_congr rfl fun d _ => ?_)
  rw [eK]
  refine congrArg (fun z => z * K (ix4 b l (hd j r) d)) (Finset.sum_congr rfl fun e _ => ?_)
  rw [eX, eQ]
  refine congrArg (fun n => X (ix3 b (row c t) e) * Wq (ix2 e n)) (Fin.ext ?_)
  show 256 * j.val + (64 * r.val + d.val) = (4 * j.val + r.val) * 64 + d.val
  omega

include eQ eX eK eV in
theorem context_eq (b : Fin 2) (t : Fin 128) (j : Fin 16) (r : Fin 4) (d : Fin 64) :
    cK WQ c fX fK fV b t j r d
      = ∑ l : Fin 128, V (ix4 b l (hea j r) d) * wR X Wq K b (hea j r) (row c t) l := by
  unfold cK
  refine Finset.sum_congr rfl fun l _ => ?_
  rw [eV, mul_comm]
  refine congrArg (fun z => V (ix4 b l (hea j r) d) * z) ?_
  unfold wgt wR
  simp only [score_eq X Wq K WQ c fX fK eQ eX eK]
  rfl

include eQ eO eX eK eV in
theorem meet (hX : ∀ i, Fine (X i)) (hQ : ∀ i, Fine (Wq i)) (hK : ∀ i, Fine (K i)) (b : Fin 2) (t : Fin 128) (e : Fin 512) :
    ∑ j, tK WQ WO c fX fK fV b t e j = REF (F := Ideal) X Wq K V Wo (ix3 b (row c t) e) := by
  rw [REF_at _ _ _ _ _ _ _ _ (fun h l => fine_score X Wq K hX hQ hK b h _ l), split]
  refine Finset.sum_congr rfl fun j _ => ?_
  unfold tK
  refine Finset.sum_congr rfl fun k _ => ?_
  have hj : j.val < 16 := j.isLt
  have h1 : (⟨(256 * j.val + k.val) / 64, by omega⟩ : Fin 64) = ⟨4 * j.val + k.val / 64, by omega⟩ := Fin.ext (by show (256 * j.val + k.val) / 64 = 4 * j.val + k.val / 64; omega)
  have h2 : (⟨(256 * j.val + k.val) % 64, by omega⟩ : Fin 64) = ⟨k.val % 64, by omega⟩ := Fin.ext (by show (256 * j.val + k.val) % 64 = k.val % 64; omega)
  rw [eO, context_eq X Wq K V WQ c fX fK fV eQ eX eK eV]
  refine congrArg (fun z => z * Wo (ix2 (col j k) e)) (Finset.sum_congr rfl fun l _ => ?_)
  rw [h1, h2]

end

end Cert.Meet

end
-- ==== Proof.Alg.lean ====
module

public import proofs.«01_k».proof.Defs
public import proofs.«01_k».proof.Proof.Meet
public import proofs.«01_k».proof.Proof.KI.Run

/-! # The kernel leaves the blocks of the reference's result -/

@[expose] public section

set_option synthInstance.maxSize 4096
set_option maxRecDepth 16384

noncomputable section

namespace Cert.Alg

open Idealize.ShloMosaic Idealize.SL.Sem
open Cert.Meet

theorem factsK : Cert.Pre_finite_scores_KernelIdeal.Facts := ⟨by decide, by decide, by decide⟩
theorem factsR : Cert.Pre_finite_scores_ReferenceIdeal.Facts := ⟨by decide, by decide, by decide⟩

theorem top_bits : Ideal.ofBits .bf16 0x7F80#16 = ⊤ := by simp [Ideal.ofBits, Ideal.ieee]

/-- A number smaller than infinity in absolute value is neither infinity. -/
theorem fine_of {x : EReal} (h : Ideal.cmp .olt (max x (-x)) (Ideal.ofBits .bf16 0x7F80#16) = 1#1) : Fine x := by
  rw [top_bits] at h
  constructor
  · rintro rfl
    simp [Ideal.cmp] at h
  · rintro rfl
    simp [Ideal.cmp] at h

section Blocks
variable (c : Fin 16)

theorem block_x (X : Shape.Idx ⟨3, ![2, 2048, 512]⟩ → EReal) (b : Fin 2) (t : Fin 128) (e : Fin 512) :
    Layout.block ⟨3, ![2, 128, 512]⟩ ⟨3, ![2, 2048, 512]⟩ 1 16 c X (by decide) (ix3 b t e) = X (ix3 b (row c t) e) := by
  refine congrArg X (funext fun a => Fin.ext ?_)
  fin_cases a
  · rfl
  · show c.val * 128 + t.val = 128 * c.val + t.val; omega
  · rfl

theorem block_q (W : Shape.Idx ⟨2, ![512, 4096]⟩ → EReal) (e : Fin 512) (k : Fin 256) :
    Layout.block ⟨2, ![512, 256]⟩ ⟨2, ![512, 4096]⟩ 1 16 c W (by decide) (ix2 e k) = W (ix2 e (col c k)) := by
  refine congrArg W (funext fun a => Fin.ext ?_)
  fin_cases a
  · rfl
  · show c.val * 256 + k.val = 256 * c.val + k.val; omega

theorem block_o (W : Shape.Idx ⟨2, ![4096, 512]⟩ → EReal) (k : Fin 256) (e : Fin 512) :
    Layout.block ⟨2, ![256, 512]⟩ ⟨2, ![4096, 512]⟩ 0 16 c W (by decide) (ix2 k e) = W (ix2 (col c k) e) := by
  refine congrArg W (funext fun a => Fin.ext ?_)
  fin_cases a
  · show c.val * 256 + k.val = 256 * c.val + k.val; omega
  · rfl

omit c in
theorem all_x (X : Shape.Idx ⟨3, ![2, 2048, 512]⟩ → EReal)
    (h : ∀ (c : Fin 16) i, Fine (Layout.block ⟨3, ![2, 128, 512]⟩ ⟨3, ![2, 2048, 512]⟩ 1 16 c X (by decide) i)) : ∀ i, Fine (X i) := by
  intro i
  obtain ⟨b, n, e, rfl⟩ : ∃ (b : Fin 2) (n : Fin 2048) (e : Fin 512), i = ix3 b n e := ⟨i 0, i 1, i 2, funext fun a => by fin_cases a <;> rfl⟩
  have h1 := h ⟨n.val / 128, by omega⟩ (ix3 b ⟨n.val % 128, by omega⟩ e)
  rw [block_x] at h1
  have e1 : row ⟨n.val / 128, by omega⟩ ⟨n.val % 128, by omega⟩ = n := Fin.ext (by show 128 * (n.val / 128) + n.val % 128 = n.val; omega)
  rw [e1] at h1
  exact h1

omit c in
theorem all_q (W : Shape.Idx ⟨2, ![512, 4096]⟩ → EReal)
    (h : ∀ (c : Fin 16) i, Fine (Layout.block ⟨2, ![512, 256]⟩ ⟨2, ![512, 4096]⟩ 1 16 c W (by decide) i)) : ∀ i, Fine (W i) := by
  intro i
  obtain ⟨e, n, rfl⟩ : ∃ (e : Fin 512) (n : Fin 4096), i = ix2 e n := ⟨i 0, i 1, funext fun a => by fin_cases a <;> rfl⟩
  have h1 := h ⟨n.val / 256, by omega⟩ (ix2 e ⟨n.val % 256, by omega⟩)
  rw [block_q] at h1
  have e1 : col ⟨n.val / 256, by omega⟩ ⟨n.val % 256, by omega⟩ = n := Fin.ext (by show 256 * (n.val / 256) + n.val % 256 = n.val; omega)
  rw [e1] at h1
  exact h1

end Blocks

theorem algebraic :
    Cert.algebraic_KernelIdeal_ReferenceIdeal_pre_finite_scores_KernelIdeal (hKernelIdeal := Cert.KernelIdeal.Gen.facts)
      (hReferenceIdeal := Cert.ReferenceIdeal.Gen.facts) (hPre_finite_scores_KernelIdeal := factsK) := by
  intro m g m' g' hpre hlay
  generalize hX : m' (((0 : Dev Cert.ReferenceIdeal.nD).tc : Thread Cert.ReferenceIdeal.nD Cert.ReferenceIdeal.τ).loc Cert.ReferenceIdeal.main_arg0) = X at hlay
  generalize hQ : m' (((0 : Dev Cert.ReferenceIdeal.nD).tc : Thread Cert.ReferenceIdeal.nD Cert.ReferenceIdeal.τ).loc Cert.ReferenceIdeal.main_arg1) = Wq at hlay
  generalize hK : m' (((0 : Dev Cert.ReferenceIdeal.nD).tc : Thread Cert.ReferenceIdeal.nD Cert.ReferenceIdeal.τ).loc Cert.ReferenceIdeal.main_arg2) = K at hlay
  generalize hV : m' (((0 : Dev Cert.ReferenceIdeal.nD).tc : Thread Cert.ReferenceIdeal.nD Cert.ReferenceIdeal.τ).loc Cert.ReferenceIdeal.main_arg3) = V at hlay
  generalize hO : m' (((0 : Dev Cert.ReferenceIdeal.nD).tc : Thread Cert.ReferenceIdeal.nD Cert.ReferenceIdeal.τ).loc Cert.ReferenceIdeal.main_arg4) = Wo at hlay
  have fX : ∀ i, Fine (X i) := all_x X fun c i => (hlay c).1 ▸ fine_of (congrFun (hpre c).1 i)
  have fQ : ∀ i, Fine (Wq i) := all_q Wq fun c i => (hlay c).2.1 ▸ fine_of (congrFun (hpre c).2.1 i)
  have fK : ∀ i, Fine (K i) := fun i => (hlay 0).2.2.1 ▸ fine_of (congrFun (hpre 0).2.2 i)
  refine ⟨Cert.ReferenceIdeal.Vals.REF (F := Ideal) X Wq K V Wo, ?_, ?_⟩
  · refine (θ_run _ _ _).mono (fun r h c => ?_) (Cert.KernelIdeal.Ring.run_main (F := Ideal) m g)
    have hc := h.1 c
    refine ⟨hc.2.2.2.2.2.trans ?_, hc.1, hc.2.1, hc.2.2.1, hc.2.2.2.1, hc.2.2.2.2.1⟩
    funext i
    obtain ⟨b, t, e, rfl⟩ : ∃ (b : Fin 2) (t : Fin 128) (e : Fin 512), i = ix3 b t e :=
      ⟨i 0, i 1, i 2, funext fun a => by fin_cases a <;> rfl⟩
    rw [Cert.KernelIdeal.Ring.OUT_at, block_x]
    refine meet X Wq K V Wo _ _ c _ _ _ (fun j e k => ?_) (fun j e k => ?_) (fun b t e => ?_) (fun b l h d => ?_) (fun b l h d => ?_) fX fQ fK b t e
    · rw [Cert.KernelIdeal.Ring.WQ_eq, (hlay j).2.1, block_q]
    · rw [Cert.KernelIdeal.Ring.WO_at, (hlay j).2.2.2.2, block_o]
    · rw [Cert.KernelIdeal.Ring.bX_eq, (hlay c).1, block_x]
    · rw [Cert.KernelIdeal.Ring.bK_at, (hlay c).2.2.1]
    · rw [Cert.KernelIdeal.Ring.bV_at, (hlay c).2.2.2.1]
  · refine (θ_run _ _ _).mono (fun r h => ?_) (Cert.ReferenceIdeal.Value.run (F := Ideal) m' g')
    have h0 := h 0
    refine ⟨h0.1.trans ?_, hX ▸ h0.2.1, hQ ▸ h0.2.2.1, hK ▸ h0.2.2.2.1, hV ▸ h0.2.2.2.2.1, hO ▸ h0.2.2.2.2.2⟩
    subst hX hQ hK hV hO
    exact Cert.ReferenceIdeal.Vals.res_eq m' 0

end Cert.Alg

end
-- ==== Proof.lean ====
module

public import proofs.«01_k».proof.Defs
public import proofs.«01_k».proof.Proof.KI.Run
public import proofs.«01_k».proof.Proof.KB.Run
public import proofs.«01_k».proof.Proof.Alg
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_P : Cert.quiescent_Kernel (hKernel := Cert.Kernel.Gen.facts) := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.Kernel.Ring.run_main (F := Bits) m g)

theorem frame_PI : Cert.quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.KernelIdeal.Ring.run_main (F := Ideal) m g)

theorem frame_RI : Cert.quiescent_ReferenceIdeal (hReferenceIdeal := Cert.ReferenceIdeal.Gen.facts) := fun m g _ =>
  (θ_run _ _ _).mono (fun _ h => ⟨fun c => (h c).2, Idealize.ShloMosaic.sem_eq_zero_of_no_sems (by decide) _⟩) (Cert.ReferenceIdeal.Value.run (F := Ideal) m g)

theorem kept : Cert.preserves_Kernel_KernelIdeal := IdealRules.named_const.statement _ _ _ _ _ rfl

theorem claim : Cert.Claim :=
  ⟨Cert.Kernel.Gen.facts, Cert.KernelIdeal.Gen.facts, Cert.ReferenceIdeal.Gen.facts, Cert.Alg.factsK, Cert.Alg.factsR,
    frame_P, frame_PI, fun m g _ => frame_PI m g trivial, frame_RI, fun m g _ => frame_RI m g trivial, kept, Cert.Alg.algebraic⟩

end Cert.Proof

end
